-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router_routed_tokens_KernelIdeal [hPre_finite_router_routed_tokens_KernelIdeal : Cert.Pre_finite_router_routed_tokens_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router_routed_tokens_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router_routed_tokens_ReferenceIdeal [hPre_finite_router_routed_tokens_ReferenceIdeal : Cert.Pre_finite_router_routed_tokens_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router_routed_tokens_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_router_routed_tokens_KernelIdeal [hKernelIdeal : Cert.KernelIdeal.Facts] [hPre_finite_router_routed_tokens_KernelIdeal : Cert.Pre_finite_router_routed_tokens_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router_routed_tokens_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_router_routed_tokens_ReferenceIdeal [hReferenceIdeal : Cert.ReferenceIdeal.Facts] [hPre_finite_router_routed_tokens_ReferenceIdeal : Cert.Pre_finite_router_routed_tokens_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router_routed_tokens_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_router_routed_tokens_KernelIdeal [hKernelIdeal : Cert.KernelIdeal.Facts] [hReferenceIdeal : Cert.ReferenceIdeal.Facts] [hPre_finite_router_routed_tokens_KernelIdeal : Cert.Pre_finite_router_routed_tokens_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router_routed_tokens_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![128, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![2048, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_router_routed_tokens_KernelIdeal : Cert.Pre_finite_router_routed_tokens_KernelIdeal.Facts) (hPre_finite_router_routed_tokens_ReferenceIdeal : Cert.Pre_finite_router_routed_tokens_ReferenceIdeal.Facts),
    quiescent_Kernel (hKernel := hKernel)
    ∧ quiescent_KernelIdeal (hKernelIdeal := hKernelIdeal)
    ∧ quiescent_KernelIdeal_pre_finite_router_routed_tokens_KernelIdeal (hKernelIdeal := hKernelIdeal) (hPre_finite_router_routed_tokens_KernelIdeal := hPre_finite_router_routed_tokens_KernelIdeal)
    ∧ quiescent_ReferenceIdeal (hReferenceIdeal := hReferenceIdeal)
    ∧ quiescent_ReferenceIdeal_pre_finite_router_routed_tokens_ReferenceIdeal (hReferenceIdeal := hReferenceIdeal) (hPre_finite_router_routed_tokens_ReferenceIdeal := hPre_finite_router_routed_tokens_ReferenceIdeal)
    ∧ preserves_Kernel_KernelIdeal
    ∧ algebraic_KernelIdeal_ReferenceIdeal_pre_finite_router_routed_tokens_KernelIdeal (hKernelIdeal := hKernelIdeal) (hReferenceIdeal := hReferenceIdeal) (hPre_finite_router_routed_tokens_KernelIdeal := hPre_finite_router_routed_tokens_KernelIdeal)
-- ==== Pre_finite_router_routed_tokens_KernelIdeal.lean ====
abbrev S2048x512 : Shape := ⟨2, ![2048, 512]⟩
abbrev S512x128 : Shape := ⟨2, ![512, 128]⟩
abbrev S2048x2 : Shape := ⟨2, ![2048, 2]⟩
abbrev S8x512x1024 : Shape := ⟨3, ![8, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S2048x512 .f32) (main_arg1 : FVec F S512x128 .f32) (main_arg2 : IVec S2048x2 32) (main_arg3 : FVec F S8x512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_c_3 : IVec S_ 32 := constantI S_ 32 128#32
  let main_v11 : IVec S2048x2 32 := broadcastInDim S2048x2 ![] bcast_S_S2048x2 main_c_3
  let main_v12 : IVec S2048x2 1 := cmpi .slt main_arg2 main_v11
  let main_v13 : IVec S2048x2 1 := andi main_v10 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v8 main_v14
  main_v15
-- ==== Pre_finite_router_routed_tokens_ReferenceIdeal.lean ====
abbrev S2048x512 : Shape := ⟨2, ![2048, 512]⟩
abbrev S512x128 : Shape := ⟨2, ![512, 128]⟩
abbrev S2048x2 : Shape := ⟨2, ![2048, 2]⟩
abbrev S128x512x1024 : Shape := ⟨3, ![128, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S2048x512 .f32) (main_arg1 : FVec F S512x128 .f32) (main_arg2 : IVec S2048x2 32) (main_arg3 : FVec F S128x512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_c_3 : IVec S_ 32 := constantI S_ 32 128#32
  let main_v11 : IVec S2048x2 32 := broadcastInDim S2048x2 ![] bcast_S_S2048x2 main_c_3
  let main_v12 : IVec S2048x2 1 := cmpi .slt main_arg2 main_v11
  let main_v13 : IVec S2048x2 1 := andi main_v10 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v8 main_v14
  main_v15
-- ==== Kernel.lean ====
abbrev S2048x512 : Shape := ⟨2, ![2048, 512]⟩
abbrev S512x128 : Shape := ⟨2, ![512, 128]⟩
abbrev S2048x2 : Shape := ⟨2, ![2048, 2]⟩
abbrev S8x512x1024 : Shape := ⟨3, ![8, 512, 1024]⟩
abbrev S128x1024 : Shape := ⟨2, ![128, 1024]⟩
abbrev S2048x8 : Shape := ⟨2, ![2048, 8]⟩
abbrev S512x1024 : Shape := ⟨2, ![512, 1024]⟩
abbrev S3x256x1024 : Shape := ⟨3, ![3, 256, 1024]⟩
abbrev S2x256x1024 : Shape := ⟨3, ![2, 256, 1024]⟩
abbrev S3x64x1024 : Shape := ⟨3, ![3, 64, 1024]⟩
abbrev S2x64x1024 : Shape := ⟨3, ![2, 64, 1024]⟩
abbrev S2 : Shape := ⟨1, ![2]⟩
abbrev S3 : Shape := ⟨1, ![3]⟩
abbrev S_ : Shape := ⟨0, ![]⟩
abbrev S2048x128 : Shape := ⟨2, ![2048, 128]⟩
abbrev S2048 : Shape := ⟨1, ![2048]⟩
abbrev S2048x1 : Shape := ⟨2, ![2048, 1]⟩
abbrev S128x8 : Shape := ⟨2, ![128, 8]⟩
abbrev S64x512 : Shape := ⟨2, ![64, 512]⟩
abbrev S64x8 : Shape := ⟨2, ![64, 8]⟩
abbrev S512x512 : Shape := ⟨2, ![512, 512]⟩
abbrev S512x8 : Shape := ⟨2, ![512, 8]⟩
abbrev S512x1 : Shape := ⟨2, ![512, 1]⟩
abbrev S1x512x1024 : Shape := ⟨3, ![1, 512, 1024]⟩
abbrev S256x1024 : Shape := ⟨2, ![256, 1024]⟩
abbrev S1x256x1024 : Shape := ⟨3, ![1, 256, 1024]⟩
abbrev S1 : Shape := ⟨1, ![1]⟩
abbrev S64x1024 : Shape := ⟨2, ![64, 1024]⟩
abbrev S1x64x1024 : Shape := ⟨3, ![1, 64, 1024]⟩

abbrev nBuf : Space → Nat
  | .hbm => 5
  | .vmem => 15
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x2, .i32⟩
  | .hbm, ⟨3, _⟩ => ⟨S8x512x1024, .f32⟩
  | .hbm, ⟨4, _⟩ => ⟨S128x1024, .f32⟩
  | .local _ .vmem, ⟨0, _⟩ => ⟨S2048x512, .f32⟩
  | .local _ .vmem, ⟨1, _⟩ => ⟨S512x128, .f32⟩
  | .local _ .vmem, ⟨2, _⟩ => ⟨S2048x2, .i32⟩
  | .local _ .vmem, ⟨3, _⟩ => ⟨S8x512x1024, .f32⟩
  | .local _ .vmem, ⟨4, _⟩ => ⟨S128x1024, .f32⟩
  | .local _ .vmem, ⟨5, _⟩ => ⟨S2048x8, .f32⟩
  | .local _ .vmem, ⟨6, _⟩ => ⟨S512x1024, .f32⟩
  | .local _ .vmem, ⟨7, _⟩ => ⟨S3x256x1024, .bf16⟩
  | .local _ .vmem, ⟨8, _⟩ => ⟨S3x256x1024, .bf16⟩
  | .local _ .vmem, ⟨9, _⟩ => ⟨S2x256x1024, .bf16⟩
  | .local _ .vmem, ⟨10, _⟩ => ⟨S2x256x1024, .bf16⟩
  | .local _ .vmem, ⟨11, _⟩ => ⟨S3x64x1024, .bf16⟩
  | .local _ .vmem, ⟨12, _⟩ => ⟨S3x64x1024, .bf16⟩
  | .local _ .vmem, ⟨13, _⟩ => ⟨S2x64x1024, .bf16⟩
  | .local _ .vmem, ⟨14, _⟩ => ⟨S2x64x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_17 : BitVec 32 := 1#32
  let v35 : BitVec 32 := Scalar.muli v28 c1_i32_17
  let v36 : BitVec 32 := Scalar.addi c0_i32_18 v35
  v36.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_20 : BitVec 32 := 1#32
  let v37 : BitVec 32 := Scalar.muli v24 c1_i32_20
  let v38 : BitVec 32 := Scalar.addi c0_i32_21 v37
  v38.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_13 : BitVec 32 := 16#32
  let v31 : BitVec 32 := Scalar.addi v2 c16_i32_13
  let c4_i32_14 : BitVec 32 := 4#32
  let v32 : BitVec 32 := Scalar.subi v31 c4_i32_14
  let c16_i32_15 : BitVec 32 := 16#32
  let v33 : BitVec 32 := Scalar.remsi v32 c16_i32_15
  let c1_i32_23 : BitVec 32 := 1#32
  let v39 : BitVec 32 := Scalar.muli v33 c1_i32_23
  let v40 : BitVec 32 := Scalar.addi c0_i32_24 v39
  v40.toNat
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_26 : BitVec 32 := 1#32
  let v41 : BitVec 32 := Scalar.muli v30 c1_i32_26
  let v42 : BitVec 32 := Scalar.addi c0_i32_27 v41
  v42.toNat
def k0_off1 (d0 : Dev nD) (c0_i32_49 : BitVec 32) (c0_i32_44 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c8_i32_42 : BitVec 32 := 8#32
  let v85 : BitVec 32 := Scalar.addi v20 c8_i32_42
  let c1_i32_43 : BitVec 32 := 1#32
  let v86 : BitVec 32 := Scalar.subi v85 c1_i32_43
  let v87 : BitVec 32 := Scalar.subi v86 c0_i32_44
  let c4_i32_45 : BitVec 32 := 4#32
  let v88 : BitVec 32 := Scalar.remsi v87 c4_i32_45
  let c128_i32 : BitVec 32 := 128#32
  let v92 : BitVec 32 := Scalar.muli v88 c128_i32
  let v93 : BitVec 32 := Scalar.addi c0_i32_49 v92
  let v94 : Index := Scalar.indexCast v93
  let c0_50 : Index := 0#32
  ![v94.toNat, 0]
def k0_off2 (d0 : Dev nD) (c0_i32_49 : BitVec 32) (c0_i32_44 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c8_i32_42 : BitVec 32 := 8#32
  let v85 : BitVec 32 := Scalar.addi v20 c8_i32_42
  let c1_i32_43 : BitVec 32 := 1#32
  let v86 : BitVec 32 := Scalar.subi v85 c1_i32_43
  let v87 : BitVec 32 := Scalar.subi v86 c0_i32_44
  let c4_i32_45 : BitVec 32 := 4#32
  let v88 : BitVec 32 := Scalar.remsi v87 c4_i32_45
  let c128_i32 : BitVec 32 := 128#32
  let v92 : BitVec 32 := Scalar.muli v88 c128_i32
  let v93 : BitVec 32 := Scalar.addi c0_i32_49 v92
  let v97 : Index := Scalar.indexCast v93
  let c0_51 : Index := 0#32
  ![v97.toNat, 0]
def k0_off3 (d0 : Dev nD) (c0_i32_62 : BitVec 32) (c0_i32_47 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_46 : BitVec 32 := 1#32
  let v89 : BitVec 32 := Scalar.addi v20 c1_i32_46
  let v90 : BitVec 32 := Scalar.addi v89 c0_i32_47
  let c4_i32_48 : BitVec 32 := 4#32
  let v91 : BitVec 32 := Scalar.remsi v90 c4_i32_48
  let c128_i32_61 : BitVec 32 := 128#32
  let v120 : BitVec 32 := Scalar.muli v91 c128_i32_61
  let v121 : BitVec 32 := Scalar.addi c0_i32_62 v120
  let c64_i32 : BitVec 32 := 64#32
  let v122 : BitVec 32 := Scalar.addi v121 c64_i32
  let v123 : Index := Scalar.indexCast v122
  let c0_63 : Index := 0#32
  ![v123.toNat, 0]
def k0_off4 (d0 : Dev nD) (c0_i32_62 : BitVec 32) (c0_i32_47 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_46 : BitVec 32 := 1#32
  let v89 : BitVec 32 := Scalar.addi v20 c1_i32_46
  let v90 : BitVec 32 := Scalar.addi v89 c0_i32_47
  let c4_i32_48 : BitVec 32 := 4#32
  let v91 : BitVec 32 := Scalar.remsi v90 c4_i32_48
  let c128_i32_61 : BitVec 32 := 128#32
  let v120 : BitVec 32 := Scalar.muli v91 c128_i32_61
  let v121 : BitVec 32 := Scalar.addi c0_i32_62 v120
  let c64_i32 : BitVec 32 := 64#32
  let v122 : BitVec 32 := Scalar.addi v121 c64_i32
  let v126 : Index := Scalar.indexCast v122
  let c0_64 : Index := 0#32
  ![v126.toNat, 0]
def k0_dev5 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_117 : BitVec 32 := 1#32
  let v221 : BitVec 32 := Scalar.muli v24 c1_i32_117
  let v222 : BitVec 32 := Scalar.addi c0_i32_118 v221
  v222.toNat
def k0_dev6 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_127 : BitVec 32 := 1#32
  let v231 : BitVec 32 := Scalar.muli v28 c1_i32_127
  let v232 : BitVec 32 := Scalar.addi c0_i32_128 v231
  v232.toNat
def k0_dev7 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_245 : BitVec 32 := 1#32
  let v401 : BitVec 32 := Scalar.muli v24 c1_i32_245
  let v402 : BitVec 32 := Scalar.addi c0_i32_246 v401
  v402.toNat
def k0_dev8 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_255 : BitVec 32 := 1#32
  let v411 : BitVec 32 := Scalar.muli v28 c1_i32_255
  let v412 : BitVec 32 := Scalar.addi c0_i32_256 v411
  v412.toNat
def k0_dev9 (d0 : Dev nD) : Nat :=
  let c0_i32_391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_390 : BitVec 32 := 1#32
  let v593 : BitVec 32 := Scalar.muli v24 c1_i32_390
  let v594 : BitVec 32 := Scalar.addi c0_i32_391 v593
  v594.toNat
def k0_dev10 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_400 : BitVec 32 := 1#32
  let v603 : BitVec 32 := Scalar.muli v28 c1_i32_400
  let v604 : BitVec 32 := Scalar.addi c0_i32_401 v603
  v604.toNat
def k0_off5 (d0 : Dev nD) (c0_i32_519 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v797 : BitVec 32 := Scalar.addi v19 c8_i32_517
  let c1_i32_518 : BitVec 32 := 1#32
  let v798 : BitVec 32 := Scalar.subi v797 c1_i32_518
  let v799 : BitVec 32 := Scalar.subi v798 c0_i32_519
  let c4_i32_520 : BitVec 32 := 4#32
  let v800 : BitVec 32 := Scalar.remsi v799 c4_i32_520
  let c128_i32_524 : BitVec 32 := 128#32
  let v804 : BitVec 32 := Scalar.muli v800 c128_i32_524
  let v805 : Index := Scalar.indexCast v804
  let c0_525 : Index := 0#32
  ![v805.toNat, 0]
def k0_off6 (d0 : Dev nD) (c0_i32_522 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_521 : BitVec 32 := 1#32
  let v801 : BitVec 32 := Scalar.addi v19 c1_i32_521
  let v802 : BitVec 32 := Scalar.addi v801 c0_i32_522
  let c4_i32_523 : BitVec 32 := 4#32
  let v803 : BitVec 32 := Scalar.remsi v802 c4_i32_523
  let c128_i32_526 : BitVec 32 := 128#32
  let v807 : BitVec 32 := Scalar.muli v803 c128_i32_526
  let c64_i32_527 : BitVec 32 := 64#32
  let v808 : BitVec 32 := Scalar.addi v807 c64_i32_527
  let v809 : Index := Scalar.indexCast v808
  let c0_528 : Index := 0#32
  ![v809.toNat, 0]
def k0_dev11 (d0 : Dev nD) : Nat :=
  let c0_i32_540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_539 : BitVec 32 := 1#32
  let v819 : BitVec 32 := Scalar.muli v30 c1_i32_539
  let v820 : BitVec 32 := Scalar.addi c0_i32_540 v819
  v820.toNat
def k0_dev12 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_13 : BitVec 32 := 16#32
  let v31 : BitVec 32 := Scalar.addi v2 c16_i32_13
  let c4_i32_14 : BitVec 32 := 4#32
  let v32 : BitVec 32 := Scalar.subi v31 c4_i32_14
  let c16_i32_15 : BitVec 32 := 16#32
  let v33 : BitVec 32 := Scalar.remsi v32 c16_i32_15
  let c1_i32_549 : BitVec 32 := 1#32
  let v829 : BitVec 32 := Scalar.muli v33 c1_i32_549
  let v830 : BitVec 32 := Scalar.addi c0_i32_550 v829
  v830.toNat
def k0_dev13 (d0 : Dev nD) : Nat :=
  let c0_i32_604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_603 : BitVec 32 := 1#32
  let v885 : BitVec 32 := Scalar.muli v30 c1_i32_603
  let v886 : BitVec 32 := Scalar.addi c0_i32_604 v885
  v886.toNat
def k0_dev14 (d0 : Dev nD) : Nat :=
  let c0_i32_614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_13 : BitVec 32 := 16#32
  let v31 : BitVec 32 := Scalar.addi v2 c16_i32_13
  let c4_i32_14 : BitVec 32 := 4#32
  let v32 : BitVec 32 := Scalar.subi v31 c4_i32_14
  let c16_i32_15 : BitVec 32 := 16#32
  let v33 : BitVec 32 := Scalar.remsi v32 c16_i32_15
  let c1_i32_613 : BitVec 32 := 1#32
  let v895 : BitVec 32 := Scalar.muli v33 c1_i32_613
  let v896 : BitVec 32 := Scalar.addi c0_i32_614 v895
  v896.toNat
def k0_dev15 (d0 : Dev nD) : Nat :=
  let c0_i32_686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_685 : BitVec 32 := 1#32
  let v963 : BitVec 32 := Scalar.muli v30 c1_i32_685
  let v964 : BitVec 32 := Scalar.addi c0_i32_686 v963
  v964.toNat
def k0_dev16 (d0 : Dev nD) : Nat :=
  let c0_i32_696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_13 : BitVec 32 := 16#32
  let v31 : BitVec 32 := Scalar.addi v2 c16_i32_13
  let c4_i32_14 : BitVec 32 := 4#32
  let v32 : BitVec 32 := Scalar.subi v31 c4_i32_14
  let c16_i32_15 : BitVec 32 := 16#32
  let v33 : BitVec 32 := Scalar.remsi v32 c16_i32_15
  let c1_i32_695 : BitVec 32 := 1#32
  let v973 : BitVec 32 := Scalar.muli v33 c1_i32_695
  let v974 : BitVec 32 := Scalar.addi c0_i32_696 v973
  v974.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x128 : Shape := ⟨2, ![512, 128]⟩
abbrev S2048x2 : Shape := ⟨2, ![2048, 2]⟩
abbrev S128x512x1024 : Shape := ⟨3, ![128, 512, 1024]⟩
abbrev S2048x128 : Shape := ⟨2, ![2048, 128]⟩
abbrev S_ : Shape := ⟨0, ![]⟩
abbrev S2048 : Shape := ⟨1, ![2048]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩
abbrev S2048x512x1024 : Shape := ⟨3, ![2048, 512, 1024]⟩
abbrev S2048x1024 : Shape := ⟨2, ![2048, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x2, .i32⟩
  | .hbm, ⟨3, _⟩ => ⟨S128x512x1024, .f32⟩
  | .hbm, ⟨4, _⟩ => ⟨S2048x128, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x128, .f32⟩
  | .hbm, ⟨15, _⟩ => ⟨S2048x128, .f32⟩
  | .hbm, ⟨16, _⟩ => ⟨S2048x1, .i32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S2048x1, .i32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S_, .i32⟩
  | .hbm, ⟨25, _⟩ => ⟨S2048x1, .i32⟩
  | .hbm, ⟨26, _⟩ => ⟨S2048x1, .i32⟩
  | .hbm, ⟨27, _⟩ => ⟨S2048x1, .i32⟩
  | .hbm, ⟨28, _⟩ => ⟨S2048x1x1, .i32⟩
  | .hbm, ⟨29, _⟩ => ⟨S1, .i32⟩
  | .hbm, ⟨30, _⟩ => ⟨S_, .i32⟩
  | .hbm, ⟨31, _⟩ => ⟨S2048x1x1, .i32⟩
  | .hbm, ⟨32, _⟩ => ⟨S2048x1x1, .i1⟩
  | .hbm, ⟨33, _⟩ => ⟨S1x1x1, .i32⟩
  | .hbm, ⟨34, _⟩ => ⟨S2048x1x1, .i32⟩
  | .hbm, ⟨35, _⟩ => ⟨S2048x1x1, .i1⟩
  | .hbm, ⟨36, _⟩ => ⟨S2048x1x1, .i1⟩
  | .hbm, ⟨37, _⟩ => ⟨S_, .i1⟩
  | .hbm, ⟨38, _⟩ => ⟨S2048x1, .i1⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1, .i32⟩
  | .hbm, ⟨44, _⟩ => ⟨S_, .i32⟩
  | .hbm, ⟨45, _⟩ => ⟨S2048x1, .i32⟩
  | .hbm, ⟨46, _⟩ => ⟨S2048x1, .i1⟩
  | .hbm, ⟨47, _⟩ => ⟨S_, .i32⟩
  | .hbm, ⟨48, _⟩ => ⟨S2048x1, .i32⟩
  | .hbm, ⟨49, _⟩ => ⟨S2048x1, .i32⟩
  | .hbm, ⟨50, _⟩ => ⟨S2048x1, .i32⟩
  | .hbm, ⟨51, _⟩ => ⟨S2048x1x1, .i32⟩
  | .hbm, ⟨52, _⟩ => ⟨S1, .i32⟩
  | .hbm, ⟨53, _⟩ => ⟨S_, .i32⟩
  | .hbm, ⟨54, _⟩ => ⟨S2048x1x1, .i32⟩
  | .hbm, ⟨55, _⟩ => ⟨S2048x1x1, .i1⟩
  | .hbm, ⟨56, _⟩ => ⟨S1x1x1, .i32⟩
  | .hbm, ⟨57, _⟩ => ⟨S2048x1x1, .i32⟩
  | .hbm, ⟨58, _⟩ => ⟨S2048x1x1, .i1⟩
  | .hbm, ⟨59, _⟩ => ⟨S2048x1x1, .i1⟩
  | .hbm, ⟨60, _⟩ => ⟨S_, .i1⟩
  | .hbm, ⟨61, _⟩ => ⟨S2048x1, .i1⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S_, .i32⟩
  | .hbm, ⟨68, _⟩ => ⟨S2048, .i32⟩
  | .hbm, ⟨69, _⟩ => ⟨S2048, .i1⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S2048, .i32⟩
  | .hbm, ⟨74, _⟩ => ⟨S2048x1, .i32⟩
  | .hbm, ⟨75, _⟩ => ⟨S2048x512x1024, .f32⟩
  | .hbm, ⟨76, _⟩ => ⟨S2048x1024, .f32⟩
  | .hbm, ⟨77, _⟩ => ⟨S_, .i32⟩
  | .hbm, ⟨78, _⟩ => ⟨S2048, .i32⟩
  | .hbm, ⟨79, _⟩ => ⟨S2048, .i1⟩
  | .hbm, ⟨80, _⟩ => ⟨S_, .i32⟩
  | .hbm, ⟨81, _⟩ => ⟨S2048, .i32⟩
  | .hbm, ⟨82, _⟩ => ⟨S2048, .i32⟩
  | .hbm, ⟨83, _⟩ => ⟨S2048, .i32⟩
  | .hbm, ⟨84, _⟩ => ⟨S2048x1, .i32⟩
  | .hbm, ⟨85, _⟩ => ⟨S2048x512x1024, .f32⟩
  | .hbm, ⟨86, _⟩ => ⟨S2048x1024, .f32⟩
  | .hbm, ⟨87, _⟩ => ⟨S2048x1, .f32⟩
  | .hbm, ⟨88, _⟩ => ⟨S2048x1024, .f32⟩
  | .hbm, ⟨89, _⟩ => ⟨S2048x1024, .f32⟩
  | .hbm, ⟨90, _⟩ => ⟨S2048x1, .f32⟩
  | .hbm, ⟨91, _⟩ => ⟨S2048x1024, .f32⟩
  | .hbm, ⟨92, _⟩ => ⟨S2048x1024, .f32⟩
  | .hbm, ⟨93, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v17 : Ref sig .tc := ⟨.hbm, 65, rfl⟩
abbrev main_v18 : Ref sig .tc := ⟨.hbm, 66, rfl⟩
abbrev main_c : Ref sig .tc := ⟨.hbm, 67, rfl⟩
abbrev main_v19 : Ref sig .tc := ⟨.hbm, 68, rfl⟩
abbrev main_v20 : Ref sig .tc := ⟨.hbm, 69, rfl⟩
abbrev main_c_1 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_c_2 : Ref sig .tc := ⟨.hbm, 77, rfl⟩
abbrev main_v27 : Ref sig .tc := ⟨.hbm, 78, rfl⟩
abbrev main_v28 : Ref sig .tc := ⟨.hbm, 79, rfl⟩
abbrev main_c_3 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩

abbrev nD : Nat := 1
abbrev τ : Topo := Topo.v7x

variable {F : FTy → Type} [FloatOps F]
-- ==== Proof.Exchange.lean ====
/-
# The exchange of the all-reduce kernel: neighbours, slots, semaphore cells, schedule

The kernel runs four directed rings: two of length four inside a plane (device numbers agreeing in `c / 4`), one per
direction, and two of length four between the planes (device numbers agreeing in `c % 4`), one per direction. Each ring makes
three hops, each hop into its own landing slot with its own receive semaphore; the two send slots alternate. Before
anything is sent, every device tells its four neighbours that it has entered the kernel, and waits for theirs.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Neighbours -/

set_option backward.proofsInPublic true in
/-- The device to the right in the plane. -/
def aR (c : Dev nD) : Dev nD := ⟨4 * (c.val / 4) + (c.val + 1) % 4, by have := c.isLt; change c.val < 16 at this; show _ < 16; omega⟩
set_option backward.proofsInPublic true in
/-- The device to the left in the plane. -/
def aL (c : Dev nD) : Dev nD := ⟨4 * (c.val / 4) + (c.val + 3) % 4, by have := c.isLt; change c.val < 16 at this; show _ < 16; omega⟩
set_option backward.proofsInPublic true in
/-- The device of the same place in the next plane. -/
def bR (c : Dev nD) : Dev nD := ⟨(c.val + 4) % 16, Nat.mod_lt _ (by decide)⟩
set_option backward.proofsInPublic true in
/-- The device of the same place in the plane before. -/
def bL (c : Dev nD) : Dev nD := ⟨(c.val + 12) % 16, Nat.mod_lt _ (by decide)⟩

theorem aL_aR (c : Dev nD) : aL (aR c) = c := by revert c; decide
theorem aR_aL (c : Dev nD) : aR (aL c) = c := by revert c; decide
theorem bL_bR (c : Dev nD) : bL (bR c) = c := by revert c; decide
theorem bR_bL (c : Dev nD) : bR (bL c) = c := by revert c; decide

def ringA : Dev nD ≃ Dev nD := ⟨aR, aL, aL_aR, aR_aL⟩
def ringB : Dev nD ≃ Dev nD := ⟨bR, bL, bL_bR, bR_bL⟩

theorem dev1_eq (c : Dev nD) : (⟨k0_dev1 c, k0_dev1_lt c⟩ : Dev nD) = aL c := by revert c; decide
theorem dev2_eq (c : Dev nD) : (⟨k0_dev2 c, k0_dev2_lt c⟩ : Dev nD) = aR c := by revert c; decide
theorem dev3_eq (c : Dev nD) : (⟨k0_dev3 c, k0_dev3_lt c⟩ : Dev nD) = bL c := by revert c; decide
theorem dev4_eq (c : Dev nD) : (⟨k0_dev4 c, k0_dev4_lt c⟩ : Dev nD) = bR c := by revert c; decide
theorem dev5_eq (c : Dev nD) : (⟨k0_dev5 c, k0_dev5_lt c⟩ : Dev nD) = aR c := by revert c; decide
theorem dev6_eq (c : Dev nD) : (⟨k0_dev6 c, k0_dev6_lt c⟩ : Dev nD) = aL c := by revert c; decide
theorem dev7_eq (c : Dev nD) : (⟨k0_dev7 c, k0_dev7_lt c⟩ : Dev nD) = aR c := by revert c; decide
theorem dev8_eq (c : Dev nD) : (⟨k0_dev8 c, k0_dev8_lt c⟩ : Dev nD) = aL c := by revert c; decide
theorem dev9_eq (c : Dev nD) : (⟨k0_dev9 c, k0_dev9_lt c⟩ : Dev nD) = aR c := by revert c; decide
theorem dev10_eq (c : Dev nD) : (⟨k0_dev10 c, k0_dev10_lt c⟩ : Dev nD) = aL c := by revert c; decide
theorem dev11_eq (c : Dev nD) : (⟨k0_dev11 c, k0_dev11_lt c⟩ : Dev nD) = bR c := by revert c; decide
theorem dev12_eq (c : Dev nD) : (⟨k0_dev12 c, k0_dev12_lt c⟩ : Dev nD) = bL c := by revert c; decide
theorem dev13_eq (c : Dev nD) : (⟨k0_dev13 c, k0_dev13_lt c⟩ : Dev nD) = bR c := by revert c; decide
theorem dev14_eq (c : Dev nD) : (⟨k0_dev14 c, k0_dev14_lt c⟩ : Dev nD) = bL c := by revert c; decide
theorem dev15_eq (c : Dev nD) : (⟨k0_dev15 c, k0_dev15_lt c⟩ : Dev nD) = bR c := by revert c; decide
theorem dev16_eq (c : Dev nD) : (⟨k0_dev16 c, k0_dev16_lt c⟩ : Dev nD) = bL c := by revert c; decide

/-! ## The slots, as the program spells them, and their semaphores -/

abbrev barS : Sem sig := (SemArray.scalar (sig.barrier 0 rfl) : Sems sig S_).sem

abbrev arC0 : Memref sig .tc .vmem S256x1024 .bf16 := ((Memref.whole cc0_scratch2).slice (Rect.unit (s := S3x256x1024) ![0, 0, 0] S1x256x1024.size inb_S3x256x1024_S1x256x1024_0_0_0) (fun _ => rfl)).squeeze S256x1024 squeezes_S1x256x1024_S256x1024
abbrev arC1 : Memref sig .tc .vmem S256x1024 .bf16 := ((Memref.whole cc0_scratch2).slice (Rect.unit (s := S3x256x1024) ![1, 0, 0] S1x256x1024.size inb_S3x256x1024_S1x256x1024_1_0_0) (fun _ => rfl)).squeeze S256x1024 squeezes_S1x256x1024_S256x1024
abbrev arC2 : Memref sig .tc .vmem S256x1024 .bf16 := ((Memref.whole cc0_scratch2).slice (Rect.unit (s := S3x256x1024) ![2, 0, 0] S1x256x1024.size inb_S3x256x1024_S1x256x1024_2_0_0) (fun _ => rfl)).squeeze S256x1024 squeezes_S1x256x1024_S256x1024
abbrev arS0 : Memref sig .tc .vmem S256x1024 .bf16 := ((Memref.whole cc0_scratch4).slice (Rect.unit (s := S2x256x1024) ![0, 0, 0] S1x256x1024.size inb_S2x256x1024_S1x256x1024_0_0_0) (fun _ => rfl)).squeeze S256x1024 squeezes_S1x256x1024_S256x1024
abbrev arS1 : Memref sig .tc .vmem S256x1024 .bf16 := ((Memref.whole cc0_scratch4).slice (Rect.unit (s := S2x256x1024) ![1, 0, 0] S1x256x1024.size inb_S2x256x1024_S1x256x1024_1_0_0) (fun _ => rfl)).squeeze S256x1024 squeezes_S1x256x1024_S256x1024
abbrev alC0 : Memref sig .tc .vmem S256x1024 .bf16 := ((Memref.whole cc0_scratch3).slice (Rect.unit (s := S3x256x1024) ![0, 0, 0] S1x256x1024.size inb_S3x256x1024_S1x256x1024_0_0_0) (fun _ => rfl)).squeeze S256x1024 squeezes_S1x256x1024_S256x1024
abbrev alC1 : Memref sig .tc .vmem S256x1024 .bf16 := ((Memref.whole cc0_scratch3).slice (Rect.unit (s := S3x256x1024) ![1, 0, 0] S1x256x1024.size inb_S3x256x1024_S1x256x1024_1_0_0) (fun _ => rfl)).squeeze S256x1024 squeezes_S1x256x1024_S256x1024
abbrev alC2 : Memref sig .tc .vmem S256x1024 .bf16 := ((Memref.whole cc0_scratch3).slice (Rect.unit (s := S3x256x1024) ![2, 0, 0] S1x256x1024.size inb_S3x256x1024_S1x256x1024_2_0_0) (fun _ => rfl)).squeeze S256x1024 squeezes_S1x256x1024_S256x1024
abbrev alS0 : Memref sig .tc .vmem S256x1024 .bf16 := ((Memref.whole cc0_scratch5).slice (Rect.unit (s := S2x256x1024) ![0, 0, 0] S1x256x1024.size inb_S2x256x1024_S1x256x1024_0_0_0) (fun _ => rfl)).squeeze S256x1024 squeezes_S1x256x1024_S256x1024
abbrev alS1 : Memref sig .tc .vmem S256x1024 .bf16 := ((Memref.whole cc0_scratch5).slice (Rect.unit (s := S2x256x1024) ![1, 0, 0] S1x256x1024.size inb_S2x256x1024_S1x256x1024_1_0_0) (fun _ => rfl)).squeeze S256x1024 squeezes_S1x256x1024_S256x1024
abbrev brC0 : Memref sig .tc .vmem S64x1024 .bf16 := ((Memref.whole cc0_scratch6).slice (Rect.unit (s := S3x64x1024) ![0, 0, 0] S1x64x1024.size inb_S3x64x1024_S1x64x1024_0_0_0) (fun _ => rfl)).squeeze S64x1024 squeezes_S1x64x1024_S64x1024
abbrev brC1 : Memref sig .tc .vmem S64x1024 .bf16 := ((Memref.whole cc0_scratch6).slice (Rect.unit (s := S3x64x1024) ![1, 0, 0] S1x64x1024.size inb_S3x64x1024_S1x64x1024_1_0_0) (fun _ => rfl)).squeeze S64x1024 squeezes_S1x64x1024_S64x1024
abbrev brC2 : Memref sig .tc .vmem S64x1024 .bf16 := ((Memref.whole cc0_scratch6).slice (Rect.unit (s := S3x64x1024) ![2, 0, 0] S1x64x1024.size inb_S3x64x1024_S1x64x1024_2_0_0) (fun _ => rfl)).squeeze S64x1024 squeezes_S1x64x1024_S64x1024
abbrev brS0 : Memref sig .tc .vmem S64x1024 .bf16 := ((Memref.whole cc0_scratch8).slice (Rect.unit (s := S2x64x1024) ![0, 0, 0] S1x64x1024.size inb_S2x64x1024_S1x64x1024_0_0_0) (fun _ => rfl)).squeeze S64x1024 squeezes_S1x64x1024_S64x1024
abbrev brS1 : Memref sig .tc .vmem S64x1024 .bf16 := ((Memref.whole cc0_scratch8).slice (Rect.unit (s := S2x64x1024) ![1, 0, 0] S1x64x1024.size inb_S2x64x1024_S1x64x1024_1_0_0) (fun _ => rfl)).squeeze S64x1024 squeezes_S1x64x1024_S64x1024
abbrev blC0 : Memref sig .tc .vmem S64x1024 .bf16 := ((Memref.whole cc0_scratch7).slice (Rect.unit (s := S3x64x1024) ![0, 0, 0] S1x64x1024.size inb_S3x64x1024_S1x64x1024_0_0_0) (fun _ => rfl)).squeeze S64x1024 squeezes_S1x64x1024_S64x1024
abbrev blC1 : Memref sig .tc .vmem S64x1024 .bf16 := ((Memref.whole cc0_scratch7).slice (Rect.unit (s := S3x64x1024) ![1, 0, 0] S1x64x1024.size inb_S3x64x1024_S1x64x1024_1_0_0) (fun _ => rfl)).squeeze S64x1024 squeezes_S1x64x1024_S64x1024
abbrev blC2 : Memref sig .tc .vmem S64x1024 .bf16 := ((Memref.whole cc0_scratch7).slice (Rect.unit (s := S3x64x1024) ![2, 0, 0] S1x64x1024.size inb_S3x64x1024_S1x64x1024_2_0_0) (fun _ => rfl)).squeeze S64x1024 squeezes_S1x64x1024_S64x1024
abbrev blS0 : Memref sig .tc .vmem S64x1024 .bf16 := ((Memref.whole cc0_scratch9).slice (Rect.unit (s := S2x64x1024) ![0, 0, 0] S1x64x1024.size inb_S2x64x1024_S1x64x1024_0_0_0) (fun _ => rfl)).squeeze S64x1024 squeezes_S1x64x1024_S64x1024
abbrev blS1 : Memref sig .tc .vmem S64x1024 .bf16 := ((Memref.whole cc0_scratch9).slice (Rect.unit (s := S2x64x1024) ![1, 0, 0] S1x64x1024.size inb_S2x64x1024_S1x64x1024_1_0_0) (fun _ => rfl)).squeeze S64x1024 squeezes_S1x64x1024_S64x1024

theorem arS0_sem : ((cc0_scratch10.slice (Rect.unit (s := S2) ![0] S1.size inb_S2_S1_0)).squeeze S_ squeezes_S1_S_).sem = (⟨5, by decide⟩ : DmaSem sig) := rfl
theorem arS1_sem : ((cc0_scratch10.slice (Rect.unit (s := S2) ![1] S1.size inb_S2_S1_1)).squeeze S_ squeezes_S1_S_).sem = (⟨6, by decide⟩ : DmaSem sig) := rfl
theorem alS0_sem : ((cc0_scratch11.slice (Rect.unit (s := S2) ![0] S1.size inb_S2_S1_0)).squeeze S_ squeezes_S1_S_).sem = (⟨7, by decide⟩ : DmaSem sig) := rfl
theorem alS1_sem : ((cc0_scratch11.slice (Rect.unit (s := S2) ![1] S1.size inb_S2_S1_1)).squeeze S_ squeezes_S1_S_).sem = (⟨8, by decide⟩ : DmaSem sig) := rfl
theorem brS0_sem : ((cc0_scratch12.slice (Rect.unit (s := S2) ![0] S1.size inb_S2_S1_0)).squeeze S_ squeezes_S1_S_).sem = (⟨9, by decide⟩ : DmaSem sig) := rfl
theorem brS1_sem : ((cc0_scratch12.slice (Rect.unit (s := S2) ![1] S1.size inb_S2_S1_1)).squeeze S_ squeezes_S1_S_).sem = (⟨10, by decide⟩ : DmaSem sig) := rfl
theorem blS0_sem : ((cc0_scratch13.slice (Rect.unit (s := S2) ![0] S1.size inb_S2_S1_0)).squeeze S_ squeezes_S1_S_).sem = (⟨11, by decide⟩ : DmaSem sig) := rfl
theorem blS1_sem : ((cc0_scratch13.slice (Rect.unit (s := S2) ![1] S1.size inb_S2_S1_1)).squeeze S_ squeezes_S1_S_).sem = (⟨12, by decide⟩ : DmaSem sig) := rfl
theorem arC0_sem : ((cc0_scratch14.slice (Rect.unit (s := S3) ![0] S1.size inb_S3_S1_0)).squeeze S_ squeezes_S1_S_).sem = (⟨13, by decide⟩ : DmaSem sig) := rfl
theorem arC1_sem : ((cc0_scratch14.slice (Rect.unit (s := S3) ![1] S1.size inb_S3_S1_1)).squeeze S_ squeezes_S1_S_).sem = (⟨14, by decide⟩ : DmaSem sig) := rfl
theorem arC2_sem : ((cc0_scratch14.slice (Rect.unit (s := S3) ![2] S1.size inb_S3_S1_2)).squeeze S_ squeezes_S1_S_).sem = (⟨15, by decide⟩ : DmaSem sig) := rfl
theorem alC0_sem : ((cc0_scratch15.slice (Rect.unit (s := S3) ![0] S1.size inb_S3_S1_0)).squeeze S_ squeezes_S1_S_).sem = (⟨16, by decide⟩ : DmaSem sig) := rfl
theorem alC1_sem : ((cc0_scratch15.slice (Rect.unit (s := S3) ![1] S1.size inb_S3_S1_1)).squeeze S_ squeezes_S1_S_).sem = (⟨17, by decide⟩ : DmaSem sig) := rfl
theorem alC2_sem : ((cc0_scratch15.slice (Rect.unit (s := S3) ![2] S1.size inb_S3_S1_2)).squeeze S_ squeezes_S1_S_).sem = (⟨18, by decide⟩ : DmaSem sig) := rfl
theorem brC0_sem : ((cc0_scratch16.slice (Rect.unit (s := S3) ![0] S1.size inb_S3_S1_0)).squeeze S_ squeezes_S1_S_).sem = (⟨19, by decide⟩ : DmaSem sig) := rfl
theorem brC1_sem : ((cc0_scratch16.slice (Rect.unit (s := S3) ![1] S1.size inb_S3_S1_1)).squeeze S_ squeezes_S1_S_).sem = (⟨20, by decide⟩ : DmaSem sig) := rfl
theorem brC2_sem : ((cc0_scratch16.slice (Rect.unit (s := S3) ![2] S1.size inb_S3_S1_2)).squeeze S_ squeezes_S1_S_).sem = (⟨21, by decide⟩ : DmaSem sig) := rfl
theorem blC0_sem : ((cc0_scratch17.slice (Rect.unit (s := S3) ![0] S1.size inb_S3_S1_0)).squeeze S_ squeezes_S1_S_).sem = (⟨22, by decide⟩ : DmaSem sig) := rfl
theorem blC1_sem : ((cc0_scratch17.slice (Rect.unit (s := S3) ![1] S1.size inb_S3_S1_1)).squeeze S_ squeezes_S1_S_).sem = (⟨23, by decide⟩ : DmaSem sig) := rfl
theorem blC2_sem : ((cc0_scratch17.slice (Rect.unit (s := S3) ![2] S1.size inb_S3_S1_2)).squeeze S_ squeezes_S1_S_).sem = (⟨24, by decide⟩ : DmaSem sig) := rfl

/-- Semaphore number `q` among the kernel's transfers'. -/
abbrev dq (q : Nat) (h : q < 25) : DmaSem sig := ⟨q, h⟩

/-- The twenty-one semaphores of the exchange: the barrier, the eight send semaphores, the twelve receive semaphores. -/
def csem (k : Fin 21) : SemLoc sig := if k.val = 0 then .reg barS else .dma ⟨k.val + 4, by have := k.isLt; show _ < 25; omega⟩
/-- The twenty of them scoped to the launch. -/
def osem (k : Fin 20) : SemLoc sig := .dma ⟨k.val + 5, by have := k.isLt; show _ < 25; omega⟩

abbrev cell (c : Dev nD) (s : SemLoc sig) : GSem nD τ sig := ((c : Thread nD τ), s)
abbrev barCell (c : Dev nD) : GSem nD τ sig := cell c (.reg barS)
abbrev dcell (c : Dev nD) (q : DmaSem sig) : GSem nD τ sig := cell c (.dma q)
abbrev kcell (ck : Dev nD × Fin 21) : GSem nD τ sig := cell ck.1 (csem ck.2)

/-- Credit of a transfer inside a plane, and of one between planes. -/
def NA : ℕ := (arC0).view.dmaCredit
def NB : ℕ := (brC0).view.dmaCredit
theorem NA_pos : 0 < NA := View.dmaCredit_pos _ (by decide)
theorem NB_pos : 0 < NB := View.dmaCredit_pos _ (by decide)

/-! ## What the transfers carry -/

/-- What each device sends in each direction at each hop. -/
structure Sent (F : FTy → Type) where
  ar : Fin 3 → Dev nD → FVec F S1x256x1024 .bf16
  al : Fin 3 → Dev nD → FVec F S1x256x1024 .bf16
  br : Fin 3 → Dev nD → FVec F S1x64x1024 .bf16
  bl : Fin 3 → Dev nD → FVec F S1x64x1024 .bf16

theorem castsA : S1x256x1024.ShapeCasts S256x1024 := by decide
theorem castsB : S1x64x1024.ShapeCasts S64x1024 := by decide

/-- A slot of a device, with whatever contents. -/
def someAt {s : Shape} (M : Memref sig .tc .vmem s .bf16) (c : Dev nD) : sProp 𝕄 :=
  iprop(∃ f, M.view.loc (c : Thread nD τ) ↦[M.view.set]{fullShare} f)
/-- A slot of a device, holding the vector `w` (as the kernel stores it, with a leading unit axis). -/
def landAt {s s' : Shape} (hc : s'.ShapeCasts s) (M : Memref sig .tc .vmem s .bf16) (c : Dev nD) (w : FVec F s' .bf16) : sProp 𝕄 :=
  iprop(∃ f, ⌜M.view.read (Elt F) f = shapeCast s w hc⌝ ∗ (M.view.loc (c : Thread nD τ) ↦[M.view.set]{fullShare} f))

instance someAt_storable {s : Shape} (M : Memref sig .tc .vmem s .bf16) (c : Dev nD) : BI.Storable (upEmb : UEmb _ 𝕄) (someAt (F := F) M c) := by
  unfold someAt; infer_instance
instance landAt_storable {s s' : Shape} (hc : s'.ShapeCasts s) (M : Memref sig .tc .vmem s .bf16) (c : Dev nD) (w : FVec F s' .bf16) :
    BI.Storable (upEmb : UEmb _ 𝕄) (landAt (F := F) hc M c w) := by
  unfold landAt; infer_instance

/-! ## The schedule -/

/-- What a signal on `c`'s barrier hands over: the signaller's three landing slots that `c` will write. -/
def barPay (c : Dev nD) (d : Fin 4) : sProp 𝕄 :=
  match d with
  | 0 => iprop(someAt arC0 (aR c) ∗ someAt arC1 (aR c) ∗ someAt arC2 (aR c))
  | 1 => iprop(someAt alC0 (aL c) ∗ someAt alC1 (aL c) ∗ someAt alC2 (aL c))
  | 2 => iprop(someAt brC0 (bR c) ∗ someAt brC1 (bR c) ∗ someAt brC2 (bR c))
  | 3 => iprop(someAt blC0 (bL c) ∗ someAt blC1 (bL c) ∗ someAt blC2 (bL c))

variable (X : Sent F)

/-- What a transfer's own semaphore hands over, by its number: a send semaphore the send slot back, a receive semaphore
    the landing slot holding what was sent. -/
def dmaPay (c : Dev nD) (q : ℕ) : sProp 𝕄 :=
  match q with
  | 5 => someAt arS0 c
  | 6 => someAt arS1 c
  | 7 => someAt alS0 c
  | 8 => someAt alS1 c
  | 9 => someAt brS0 c
  | 10 => someAt brS1 c
  | 11 => someAt blS0 c
  | 12 => someAt blS1 c
  | 13 => landAt castsA arC0 c (X.ar 0 (aL c))
  | 14 => landAt castsA arC1 c (X.ar 1 (aL c))
  | 15 => landAt castsA arC2 c (X.ar 2 (aL c))
  | 16 => landAt castsA alC0 c (X.al 0 (aR c))
  | 17 => landAt castsA alC1 c (X.al 1 (aR c))
  | 18 => landAt castsA alC2 c (X.al 2 (aR c))
  | 19 => landAt castsB brC0 c (X.br 0 (bL c))
  | 20 => landAt castsB brC1 c (X.br 1 (bL c))
  | 21 => landAt castsB brC2 c (X.br 2 (bL c))
  | 22 => landAt castsB blC0 c (X.bl 0 (bR c))
  | 23 => landAt castsB blC1 c (X.bl 1 (bR c))
  | 24 => landAt castsB blC2 c (X.bl 2 (bR c))
  | _ => iprop(emp)

instance barPay_storable (c : Dev nD) (d : Fin 4) : BI.Storable (upEmb : UEmb _ 𝕄) (barPay (F := F) c d) := by
  unfold barPay; split <;> infer_instance
instance dmaPay_storable (c : Dev nD) (q : ℕ) : BI.Storable (upEmb : UEmb _ 𝕄) (dmaPay (F := F) X c q) := by
  unfold dmaPay; split <;> infer_instance

/-- The duties of semaphore number `q` in round `r`: every one is used once, the first send semaphore of each direction twice. -/
def dmaDuties (q r : ℕ) : Finset (Fin 4) :=
  if 5 ≤ q ∧ (r = 0 ∨ (r = 1 ∧ q < 13 ∧ q % 2 = 1)) then {0} else ∅

/-- The credit of a transfer on semaphore number `q`. -/
def dmaN (q : ℕ) : ℕ := if q < 9 ∨ (13 ≤ q ∧ q < 19) then NA else NB
theorem dmaN_pos (q : ℕ) : 0 < dmaN q := by unfold dmaN; split; exacts [NA_pos, NB_pos]

def rd : Rounds.Schedule (GSem nD τ sig) (Fin 4) 𝕄 where
  duties g r := if g.1.2 = .tc then (match g.2 with
    | .reg s => if s = barS ∧ r = 0 then Finset.univ else ∅
    | .dma q => dmaDuties q.val r) else ∅
  unitless _ := False
  amount g _ _ := match g.2 with
    | .reg _ => 1
    | .dma q => dmaN q.val
  payload g _ d := match g.2 with
    | .reg _ => barPay g.1.1 d
    | .dma q => dmaPay X g.1.1 q.val
  amount_pos g _ _ _ := by
    rcases g with ⟨_, s | q⟩
    · exact Nat.one_pos
    · exact dmaN_pos _

instance rd_payload_storable (g : GSem nD τ sig) (r : ℕ) (d : Fin 4) :
    BI.Storable (upEmb : UEmb _ 𝕄) ((rd (F := F) X).payload g r d) := by
  rcases g with ⟨t, s | q⟩
  · exact barPay_storable _ _
  · exact dmaPay_storable _ _ _

section Tables
variable (c : Dev nD) (q : DmaSem sig)

omit [FloatOps F] in
theorem duties_bar : (rd X).duties (barCell c) 0 = Finset.univ := by dsimp only [rd]; rw [if_pos rfl]; exact if_pos ⟨rfl, rfl⟩
omit [FloatOps F] in
theorem duties_dma (r : ℕ) : (rd X).duties (dcell c q) r = dmaDuties q.val r := by dsimp only [rd]; exact if_pos rfl
omit [FloatOps F] in
theorem duties_bar_later : ∀ r, 1 ≤ r → (rd X).duties (barCell c) r = ∅ := fun r hr => by
  dsimp only [rd]; rw [if_pos rfl]; exact if_neg fun h => by omega
omit [FloatOps F] in
theorem duties_dma_later2 : ∀ r, 2 ≤ r → (rd X).duties (dcell c q) r = ∅ := fun r hr => by
  rw [duties_dma]; unfold dmaDuties; exact if_neg fun h => by omega
omit [FloatOps F] in
theorem duties_dma_later (hq : ¬ (q.val < 13 ∧ q.val % 2 = 1)) : ∀ r, 1 ≤ r → (rd X).duties (dcell c q) r = ∅ := fun r hr => by
  rw [duties_dma]; unfold dmaDuties; exact if_neg fun h => by omega
theorem dmaDuties_zero (q : ℕ) (h : 5 ≤ q) : dmaDuties q 0 = {0} := if_pos ⟨h, .inl rfl⟩
theorem dmaDuties_one (q : ℕ) (h : 5 ≤ q) (h1 : q < 13) (h2 : q % 2 = 1) : dmaDuties q 1 = {0} := if_pos ⟨h, .inr ⟨rfl, h1, h2⟩⟩

omit [FloatOps F] in
theorem amount_bar (d : Fin 4) : (rd X).amount (barCell c) 0 d = 1 := rfl
omit [FloatOps F] in
theorem amount_dma (r : ℕ) (d : Fin 4) : (rd X).amount (dcell c q) r d = dmaN q.val := rfl
omit [FloatOps F] in
theorem expect_bar : (rd X).expect (barCell c) 0 = 4 := by
  unfold Schedule.expect Schedule.amountOf
  rw [duties_bar, Finset.sum_congr rfl fun d _ => amount_bar X c d, Finset.sum_const, Finset.card_univ, Fintype.card_fin, smul_eq_mul]
omit [FloatOps F] in
theorem expect_dma (r : ℕ) (h : dmaDuties q.val r = {0}) : (rd X).expect (dcell c q) r = dmaN q.val := by
  unfold Schedule.expect Schedule.amountOf; rw [duties_dma, h, Finset.sum_singleton, amount_dma]
omit [FloatOps F] in
theorem rest_bar : bigSep ((rd X).duties (barCell c) 0 \ ∅) (fun d => (rd X).payload (barCell c) 0 d)
    = iprop(barPay c 0 ∗ barPay c 1 ∗ barPay c 2 ∗ barPay c 3) := by
  rw [Finset.sdiff_empty, duties_bar, bigSep_univ_eq_bigSepL [0, 1, 2, 3] (by decide) (by decide)]
  rfl
omit [FloatOps F] in
theorem rest_dma (r : ℕ) (h : dmaDuties q.val r = {0}) :
    bigSep ((rd X).duties (dcell c q) r \ ∅) (fun d => (rd X).payload (dcell c q) r d) = dmaPay X c q.val := by
  rw [Finset.sdiff_empty, duties_dma, h, bigSep_singleton]; rfl

end Tables

/-! ## Levels, and what a device owes -/

def L (g : GSem nD τ sig) : Finset Unit := if g.1.2 = .tc then {()} else ∅
theorem L_tc (c : Dev nD) (sm : SemLoc sig) : L (cell c sm) = {()} := if_pos rfl
theorem L_of_ne (g : GSem nD τ sig) (h : g.1.2 ≠ .tc) : L g = ∅ := if_neg h

/-- Level of semaphore number `q`: sends below everything, the hops of the first phase in order, then those of the second. -/
def dmaLv (q : ℕ) : ℕ := if q < 13 then 0 else if q < 19 then 2 + (q - 13) % 3 else 5 + (q - 19) % 3
def semLv (s : SemLoc sig) : ℕ := match s with
  | .reg _ => 1
  | .dma q => dmaLv q.val
def lv (g : GSem nD τ sig) (_ : Unit) : ℕ := semLv g.2

/-- A list of debts: a cell and a number of units each. -/
abbrev Debts := List (Dev nD × SemLoc sig × ℕ)
def OL : Debts → CellTallies nD τ sig Unit
  | [] => 0
  | d :: l => OL l + tallyAt (cell d.1 d.2.1) () d.2.2

theorem OL_pos : ∀ (l : Debts) {g : GSem nD τ sig} {u : Unit}, 0 < OL l g u → ∃ d ∈ l, g = cell d.1 d.2.1
  | [], g, u, h => absurd h (Nat.lt_irrefl 0)
  | d :: l, g, u, h => by
    unfold OL at h
    rw [Pi.add_apply, Finsupp.add_apply, tallyAt_apply] at h
    by_cases h1 : g = cell d.1 d.2.1 ∧ u = ()
    · exact ⟨d, List.mem_cons_self .., h1.1⟩
    · rw [if_neg h1, Nat.add_zero] at h
      obtain ⟨d', hd', he⟩ := OL_pos l h
      exact ⟨d', List.mem_cons_of_mem _ hd', he⟩

omit [FloatOps F] in
/-- A wait is allowed while everything owed lies at higher levels. -/
theorem mayWait (c : Dev nD) (s : SemLoc sig) (l : Debts) (h : ∀ d ∈ l, semLv s < semLv d.2.1) :
    (levAts L lv : sProp 𝕄) ⊢ MayWait (c : Thread nD τ) s () (OL l) :=
  MayOwe.of_cut (L := L) (lev := lv) (semLv s) (fun p hp => by rw [Finset.mem_singleton.mp hp, L_tc]; exact Finset.mem_singleton_self _)
    (fun g u hg => by obtain ⟨d, _, rfl⟩ := OL_pos l hg; rw [L_tc]; exact Finset.mem_singleton_self _)
    (fun p hp => by rw [Finset.mem_singleton.mp hp]; exact Nat.le_refl _)
    (fun g u hg => by obtain ⟨d, hd, rfl⟩ := OL_pos l hg; exact h d hd)

/-- What device `c` pays other devices' cells, in the order it pays. -/
def debts (c : Dev nD) : Debts :=
  [(aL c, (.reg barS), 1),
   (aR c, (.reg barS), 1),
   (bL c, (.reg barS), 1),
   (bR c, (.reg barS), 1),
   (aR c, (.dma (dq 13 (by decide))), NA),
   (aL c, (.dma (dq 16 (by decide))), NA),
   (aR c, (.dma (dq 14 (by decide))), NA),
   (aL c, (.dma (dq 17 (by decide))), NA),
   (aR c, (.dma (dq 15 (by decide))), NA),
   (aL c, (.dma (dq 18 (by decide))), NA),
   (bR c, (.dma (dq 19 (by decide))), NB),
   (bL c, (.dma (dq 22 (by decide))), NB),
   (bR c, (.dma (dq 20 (by decide))), NB),
   (bL c, (.dma (dq 23 (by decide))), NB),
   (bR c, (.dma (dq 21 (by decide))), NB),
   (bL c, (.dma (dq 24 (by decide))), NB)]
/-- What is left after the first `n` payments. -/
def owing (c : Dev nD) (n : ℕ) : CellTallies nD τ sig Unit := OL ((debts c).drop n)

omit [FloatOps F] in
theorem mayWait_owing (c : Dev nD) (s : SemLoc sig) (n : ℕ) (h : ∀ d ∈ (debts c).drop n, semLv s < semLv d.2.1) :
    (levAts L lv : sProp 𝕄) ⊢ MayWait (c : Thread nD τ) s () (owing c n) := mayWait c s _ h

end Cert.AllReduce
-- ==== Proof.Steps.lean ====
/-
# The kernel's effects, one rule each

A rule for every kind of statement the kernel makes: loads and stores of whole buffers and of slots, the entry signals and
their wait, a hop's transfer, the wait for a landing, the wait for a send slot to be free again.
-/
module

public import proofs.«01_k».proof.Proof.Exchange
public import Idealize.ShloMosaic.Lib.Pipeline.Value

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program's triple on device `c`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (X : Sent F)

/-- All cells' invariants, and that every cell's first round is open. -/
def records : sProp 𝕄 :=
  iprop(∃ K : Dev nD × Fin 21 → ℕ, (bigSep Finset.univ fun ck : Dev nD × Fin 21 => cellInv ER (rd X) (K ck) (kcell ck))
    ∗ bigSep Finset.univ fun ck : Dev nD × Fin 21 => reached ER (kcell ck) 0)

instance records_persistent : BI.Persistent (records X) := by unfold records; infer_instance

theorem csem_dma (q : DmaSem sig) (h : 5 ≤ q.val) :
    csem ⟨q.val - 4, by have := q.isLt; change q.val < 25 at this; omega⟩ = .dma q := by
  unfold csem
  rw [if_neg (by show ¬ (q.val - 4 = 0); omega)]
  exact congrArg SemLoc.dma (Fin.ext (by show q.val - 4 + 4 = q.val; omega))

theorem csem_bar : csem 0 = .reg barS := rfl

omit [FloatOps F] in
theorem inv_at (K : Dev nD × Fin 21 → ℕ) (ck : Dev nD × Fin 21) :
    (bigSep Finset.univ fun ck : Dev nD × Fin 21 => (cellInv ER (rd X) (K ck) (kcell ck) : sProp 𝕄)) ⊢ cellInv ER (rd X) (K ck) (kcell ck) :=
  bigSep_elim (Finset.mem_univ ck)
omit [FloatOps F] in
theorem reached_at (ck : Dev nD × Fin 21) :
    (bigSep Finset.univ fun ck : Dev nD × Fin 21 => (reached ER (kcell ck) 0 : sProp 𝕄)) ⊢ reached ER (kcell ck) 0 :=
  bigSep_elim (Finset.mem_univ ck)

omit [FloatOps F] in
theorem inv_dma (c : Dev nD) (q : DmaSem sig) (h : 5 ≤ q.val) : records X ⊢ iprop(∃ κ, cellInv ER (rd X) κ (dcell c q)) := by
  unfold records
  iintro ⟨%K, HI, -⟩
  ihave H := (inv_at X K (c, ⟨q.val - 4, by have := q.isLt; change q.val < 25 at this; omega⟩)) $$ HI
  iexists _
  rw [show dcell c q = kcell (c, ⟨q.val - 4, by have := q.isLt; change q.val < 25 at this; omega⟩) from by unfold kcell; rw [csem_dma q h]]
  iexact H

omit [FloatOps F] in
theorem reached_dma (c : Dev nD) (q : DmaSem sig) (h : 5 ≤ q.val) : records X ⊢ reached ER (dcell c q) 0 := by
  unfold records
  iintro ⟨%K, -, HR⟩
  ihave H := (reached_at (c, ⟨q.val - 4, by have := q.isLt; change q.val < 25 at this; omega⟩)) $$ HR
  rw [show dcell c q = kcell (c, ⟨q.val - 4, by have := q.isLt; change q.val < 25 at this; omega⟩) from by unfold kcell; rw [csem_dma q h]]
  iexact H

omit [FloatOps F] in
theorem inv_bar (c : Dev nD) : records X ⊢ iprop(∃ κ, cellInv ER (rd X) κ (barCell c)) := by
  unfold records
  iintro ⟨%K, HI, -⟩
  ihave H := (inv_at X K (c, 0)) $$ HI
  iexists _
  iexact H

omit [FloatOps F] in
theorem reached_bar (c : Dev nD) : records X ⊢ reached ER (barCell c) 0 := by
  unfold records
  iintro ⟨%K, -, HR⟩
  ihave H := (reached_at (c, 0)) $$ HR
  iexact H

/-- What a device owes, whatever waits it has recorded. -/
def owesAny (c : Dev nD) (O : CellTallies nD τ sig Unit) : sProp 𝕄 := iprop(∃ W, owes (c : Thread nD τ) O W)

/-- A memref's whole buffer on device `c`, with contents `f`. -/
abbrev bufAt {s : Shape} {e : EltTy} (c : Dev nD) (m : Memref sig .tc .vmem s e) (f : Buf (Elt F) (m.view.loc (c : Thread nD τ))) : sProp 𝕄 :=
  iprop(m.view.loc (c : Thread nD τ) ↦{fullShare} f)

theorem step_ret (c : Dev nD) {α : Type} {Q : α → sProp 𝕄} (a : α) : Q a ⊢ runs c (.ret a) Q := le_wp_ret _ _ _ a Q

theorem step_id (c : Dev nD) {α : Type} {Q : α → sProp 𝕄} {k : Dev nD → Prog (TpuEff nD τ sig (Elt F) Λ₀ .tc) α} :
    runs c (k c) Q ⊢ runs c (.op .deviceId k) Q := by
  simp only [wp_deviceId]
  exact Entails.refl _

/-! ## Whole buffers -/

theorem step_load (c : Dev nD) {s : Shape} {e : EltTy} {m : Memref sig .tc .vmem s e} {r : LoadRect s} {hl : m.view.LoadsAt r}
    {f : Buf (Elt F) (m.view.loc (c : Thread nD τ))}
    {α : Type} {Q : α → sProp 𝕄} {k : (r.shape.Idx → Elt F e) → Prog (TpuEff nD τ sig (Elt F) Λ₀ .tc) α}
    (v : r.shape.Idx → Elt F e) (hv : m.view.readAt (Elt F) r f = v) :
    bufAt c m f ⊢ iprop((bufAt c m f -∗ runs c (k v) Q) -∗ runs c (.op (.load m r hl) k) Q) := by
  subst hv
  exact wp_load 𝒱₀ (c : Thread nD τ) none Set.univ (m := m) (Finset.subset_univ _)

theorem step_store (c : Dev nD) {s : Shape} {e : EltTy} {m : Memref sig .tc .vmem s e} {r : Rect s} {w : r.shape.Idx → Elt F e} {hx} {hm}
    {f : Buf (Elt F) (m.view.loc (c : Thread nD τ))}
    {α : Type} {Q : α → sProp 𝕄} {k : PUnit → Prog (TpuEff nD τ sig (Elt F) Λ₀ .tc) α}
    (f' : Buf (Elt F) (m.view.loc (c : Thread nD τ))) (hv : (m.access r).write (Elt F) f w Finset.univ = f') :
    bufAt c m f ⊢ iprop((bufAt c m f' -∗ runs c (k ⟨⟩) Q) -∗ runs c (.op (.store m r w Finset.univ hx hm) k) Q) := by
  subst hv
  exact wp_store 𝒱₀ (c : Thread nD τ) none Set.univ (m := m) (r := r) (Mk := Finset.univ) (Finset.subset_univ _)

/-! ## Slots -/

section Slot
variable (c : Dev nD) {s s' : Shape} {m : Memref sig .tc .vmem s .bf16} {r : Rect s} {hr : ∀ a, r.stride a = 1} {hq : r.shape.Squeezes s'}

omit [FloatOps F] in
theorem slot_set : ((m.slice r hr).squeeze s' hq).view.set = (m.access r).set := View.set_reshape _ _

theorem step_load_some {α : Type} {Q : α → sProp 𝕄} {hl : m.view.LoadsAt r.toLoadRect} {k : (r.shape.Idx → Elt F .bf16) → Prog (TpuEff nD τ sig (Elt F) Λ₀ .tc) α} :
    someAt ((m.slice r hr).squeeze s' hq) c
      ⊢ iprop((∀ v, someAt ((m.slice r hr).squeeze s' hq) c -∗ runs c (k v) Q) -∗ runs c (.op (.load m r.toLoadRect hl) k) Q) := by
  unfold someAt
  iintro ⟨%f, H⟩ Hk
  iapply (wp_load 𝒱₀ (c : Thread nD τ) none Set.univ (m := m) (r := r.toLoadRect) (S := ((m.slice r hr).squeeze s' hq).view.set)
    (by rw [slot_set]; exact (View.set_slice m.view r).ge)) $$ H
  iintro H
  iapply Hk
  iexists f
  iexact H

theorem step_load_land {α : Type} {Q : α → sProp 𝕄} (hc : r.shape.ShapeCasts s') (w : FVec F r.shape .bf16) {hl : m.view.LoadsAt r.toLoadRect}
    {k : (r.shape.Idx → Elt F .bf16) → Prog (TpuEff nD τ sig (Elt F) Λ₀ .tc) α} :
    landAt hc ((m.slice r hr).squeeze s' hq) c w
      ⊢ iprop((landAt hc ((m.slice r hr).squeeze s' hq) c w -∗ runs c (k w) Q) -∗ runs c (.op (.load m r.toLoadRect hl) k) Q) := by
  unfold landAt
  iintro ⟨%f, %hf, H⟩ Hk
  iapply (wp_load 𝒱₀ (c : Thread nD τ) none Set.univ (m := m) (r := r.toLoadRect) (S := ((m.slice r hr).squeeze s' hq).view.set)
    (by rw [slot_set]; exact (View.set_slice m.view r).ge)) $$ H
  iintro H
  have e : m.view.readAt (Elt F) r.toLoadRect f = w := by
    have h1 : shapeCast s' (m.view.readAt (Elt F) r.toLoadRect f) hc = shapeCast s' w hc := hf
    have h2 := congrArg (fun z => shapeCast r.shape z hc.symm) h1
    exact (shapeCast_shapeCast _ hc hc.symm).symm.trans (h2.trans (shapeCast_shapeCast _ hc hc.symm))
  rw [e]
  iapply Hk
  iexists f
  isplitr; · ipureintro; exact hf
  iexact H

theorem step_store_some {α : Type} {Q : α → sProp 𝕄} (hc : r.shape.ShapeCasts s') {w : r.shape.Idx → Elt F .bf16} {hx} {hm}
    {k : PUnit → Prog (TpuEff nD τ sig (Elt F) Λ₀ .tc) α} :
    someAt ((m.slice r hr).squeeze s' hq) c
      ⊢ iprop((landAt hc ((m.slice r hr).squeeze s' hq) c w -∗ runs c (k ⟨⟩) Q) -∗ runs c (.op (.store m r w Finset.univ hx hm) k) Q) := by
  unfold landAt someAt
  iintro ⟨%f, H⟩ Hk
  iapply (wp_store 𝒱₀ (c : Thread nD τ) none Set.univ (m := m) (r := r) (Mk := Finset.univ) (S := ((m.slice r hr).squeeze s' hq).view.set)
    (by rw [slot_set]; exact subset_rfl)) $$ H
  iintro H
  iapply Hk
  iexists _
  isplitr
  swap; · iexact H
  ipureintro
  exact congrArg (fun z => shapeCast s' z hc) (View.read_write_univ (v := m.access r) f w)

end Slot

/-! ## The entry handshake -/

section Rounds
variable (c : Dev nD)

/-- The signal telling `n` that this device has entered, handing over the landing slots `n` will write. -/
theorem step_signal {α : Type} {Q : α → sProp 𝕄} {n' : Dev nD} (n : Dev nD) (hn : n' = n) (d : Fin 4) (j : ℕ) {k' : ℕ} (hk : k' = 1)
    (hj : (debts c).drop j = (n, .reg barS, 1) :: (debts c).drop (j + 1))
    {k : PUnit → Prog (TpuEff nD τ sig (Elt F) Λ₀ .tc) α} :
    iprop(records X ∗ owesAny c (owing c j) ∗ dutyTok ER (barCell n) 0 d ∗ barPay n d)
      ⊢ iprop((owesAny c (owing c (j + 1)) -∗ runs c (k ⟨⟩) Q) -∗ runs c (.op (.semSignal (n' : Thread nD τ) barS k') k) Q) := by
  subst hn hk
  have hO : owing c j = owing c (j + 1) + tallyAt (barCell n') () 1 := by unfold owing; rw [hj]; rfl
  unfold owesAny
  iintro ⟨#HR, ⟨%W, HO⟩, Ht, Hp⟩ Hk
  ihave HI := (inv_bar X n') $$ HR
  icases HI with ⟨%κ, #HI⟩
  iapply (Rounds.wp_signal 𝒱₀ ER (rd X) (c : Thread nD τ) none (dst := (n' : Thread nD τ)) (κ := κ) (r := 0)
      (d := d) (by rw [duties_bar]; exact Finset.mem_univ _) (amount_bar X n' d) () (owing c (j + 1))
      hO) $$ [HO Ht Hp]
  · isplitr; · iexact HI
    isplitl [HO]; · iexact HO
    isplitl [Ht]; · iexact Ht
    isplitl [Hp]; · rw [show (rd X).payload (barCell n') 0 d = barPay n' d from rfl]; iexact Hp
    iapply (reached_bar X n'); iexact HR
  iintro HO
  iapply Hk
  iexists W
  iexact HO

/-- The wait for the four neighbours' signals. -/
theorem step_entry {α : Type} {Q : α → sProp 𝕄} (j : ℕ) (hj : ∀ d ∈ (debts c).drop j, semLv (.reg barS) < semLv d.2.1) {k' : ℕ} (hk : k' = 4)
    {k : PUnit → Prog (TpuEff nD τ sig (Elt F) Λ₀ .tc) α} :
    iprop(records X ∗ owesAny c (owing c j) ∗ levAts L lv ∗ cred (tallyAt (barCell c) () 4) ∗ atPos ER (barCell c) 0 ∅ 0)
      ⊢ iprop((iprop(owesAny c (owing c j) ∗ atPos ER (barCell c) 1 ∅ 0 ∗ barPay c 0 ∗ barPay c 1 ∗ barPay c 2 ∗ barPay c 3) -∗ runs c (k ⟨⟩) Q)
          -∗ runs c (.op (.semWait barS k') k) Q) := by
  subst hk
  unfold owesAny
  iintro ⟨#HR, ⟨%W, HO⟩, #Hl, Hc, Hat⟩ Hk
  ihave HI := (inv_bar X c) $$ HR
  icases HI with ⟨%κ, #HI⟩
  iapply (Rounds.wp_wait_rest_token 𝒱₀ ER (rd X) (c : Thread nD τ) none (κ := κ)
      (wpE_semWait_eq 𝒱₀ (c : Thread nD τ) none Set.univ) (Set.mem_univ _) () (O := owing c j) (W := W) (R := 0) (m := 0) (T := ∅)
      (by rw [expect_bar])) $$ [Hc HO Hat]
  · isplitr; · iexact HI
    isplitl [Hc]; · iexact Hc
    isplitl [HO]; · iexact HO
    isplitr; · iapply (mayWait_owing c _ j hj); iexact Hl
    iexact Hat
  iintro ⟨HO, Hat, -, Hp⟩
  ihave Hp := (Entails.of_eq (rest_bar X c)) $$ Hp
  iapply Hk
  isplitl [HO]; · iexists _; iexact HO
  isplitl [Hat]; · iexact Hat
  iexact Hp

/-! ## Hops -/

/-- A hop: the send slot's contents `w` to the landing slot on `n`. -/
theorem step_send {α : Type} {Q : α → sProp 𝕄} {n' : Dev nD} (n : Dev nD) (hn : n' = n) (j r : ℕ) {s s' : Shape} {src dst : Memref sig .tc .vmem s .bf16} (qs qr : DmaSem sig)
    (hc : s'.ShapeCasts s) (w : FVec F s' .bf16) (N : ℕ) (h5 : 5 ≤ qs.val) (h13 : 5 ≤ qr.val)
    (hr : dmaDuties qs.val r = {0}) (hNs : dmaN qs.val = N) (hNr : dmaN qr.val = N) (hN : dst.view.amount (.dma qr) = N)
    (hj : (debts c).drop j = (n, .dma qr, N) :: (debts c).drop (j + 1))
    (hps : dmaPay X c qs.val = someAt src c) (hpr : dmaPay X n qr.val = landAt hc dst n w)
    {hsc : dst.view.ref.isScScratch = false} {hsrc : src.view.WordExact} {hdst : dst.view.WordExact}
    {hsem : DmaTarget.Typed .vmem (.dma qr) (.remote (Dev.tc n' : Thread nD τ) dst (.dma qs) hsc)}
    {k : PUnit → Prog (TpuEff nD τ sig (Elt F) Λ₀ .tc) α} :
    iprop(records X ∗ landAt hc src c w ∗ someAt dst n ∗ owesAny c (owing c j)
        ∗ dutyTok ER (dcell c qs) r 0 ∗ reached ER (dcell c qs) r ∗ dutyTok ER (dcell n qr) 0 0)
      ⊢ iprop((iprop(cred (tallyAt (dcell c qs) () N) ∗ owesAny c (owing c (j + 1))) -∗ runs c (k ⟨⟩) Q)
          -∗ runs c (.op (.enqueueDma src (.remote (Dev.tc n' : Thread nD τ) dst (.dma qs) hsc) (.dma qr) hsrc hdst hsem) k) Q) := by
  subst hn
  have hO : owing c j = owing c (j + 1) + tallyAt (dcell n' qr) () N := by unfold owing; rw [hj]; rfl
  unfold owesAny
  iintro ⟨#HR, Hs, Hd, ⟨%W, HO⟩, Ht, Hr, Ht'⟩ Hk
  ihave HI := (inv_dma X c qs h5) $$ HR
  icases HI with ⟨%κ, #HI⟩
  ihave HI' := (inv_dma X n' qr h13) $$ HR
  icases HI' with ⟨%κ', #HI'⟩
  unfold landAt someAt
  icases Hs with ⟨%fs, %hfs, Hs⟩
  icases Hd with ⟨%fd, Hd⟩
  iapply (Rounds.wp_send_pointsTo 𝒱₀ ER (rd X) (c : Thread nD τ) none (κ₁ := κ) (κ₂ := κ')
    (r₁ := r) (r₂ := 0) (d₁ := 0) (d₂ := 0) (fs := fs) (fd := fd)
    (by rw [duties_dma, hr]; exact Finset.mem_singleton_self _)
    (by rw [duties_dma, dmaDuties_zero _ h13]; exact Finset.mem_singleton_self _)
    () () N hN (by rw [amount_dma, hNs]) (by rw [amount_dma, hNr]) (owing c (j + 1)) hO (W := W)
    (by show _ ⊢ dmaPay X c qs.val
        rw [hps]; unfold someAt; iintro H; iexists fs; iexact H)
    (by show _ ⊢ dmaPay X n' qr.val
        rw [hpr]; unfold landAt; iintro H; iexists _
        isplitr; swap; · iexact H
        ipureintro
        rw [View.read_write_univ]; exact hfs)) $$ [Hs Hd HO Ht Hr Ht']
  · isplitr; · iexact HI
    isplitr; · iexact HI'
    isplitl [Hs]; · iexact Hs
    isplitl [Hd]; · iexact Hd
    isplitl [HO]; · iexact HO
    isplitl [Ht]; · iexact Ht
    isplitl [Hr]; · iexact Hr
    isplitl [Ht']; · iexact Ht'
    iapply (reached_dma X n' qr h13); iexact HR
  iintro ⟨Hc, HO⟩
  iapply Hk
  isplitl [Hc]; · iexact Hc
  iexists W
  iexact HO

/-- The wait for a transfer's semaphore: what it hands over. -/
theorem step_wait {α : Type} {Q : α → sProp 𝕄} (j R : ℕ) (q : DmaSem sig) (N : ℕ) (P : sProp 𝕄) (h5 : 5 ≤ q.val) (hr : dmaDuties q.val R = {0}) (hN : dmaN q.val = N)
    (hP : dmaPay X c q.val = P) (hj : ∀ d ∈ (debts c).drop j, semLv (.dma q) < semLv d.2.1)
    {sp sp' : Space} {s s' : Shape} {e e' : EltTy} {src : Memref sig .tc sp' s' e'} {dst : Memref sig .tc sp s e}
    {hsrc : src.view.WordExact} {hdst : dst.view.WordExact} (hd : dst.view.dmaCredit = N)
    {k : PUnit → Prog (TpuEff nD τ sig (Elt F) Λ₀ .tc) α} :
    iprop(records X ∗ owesAny c (owing c j) ∗ levAts L lv ∗ cred (tallyAt (dcell c q) () N) ∗ atPos ER (dcell c q) R ∅ 0)
      ⊢ iprop((iprop(owesAny c (owing c j) ∗ atPos ER (dcell c q) (R + 1) ∅ 0 ∗ reached ER (dcell c q) (R + 1) ∗ P) -∗ runs c (k ⟨⟩) Q)
          -∗ runs c (.op (.waitDma2 q src dst hsrc hdst) k) Q) := by
  subst hd hP
  unfold owesAny
  iintro ⟨#HR, ⟨%W, HO⟩, #Hl, Hc, Hat⟩ Hk
  ihave HI := (inv_dma X c q h5) $$ HR
  icases HI with ⟨%κ, #HI⟩
  iapply (Rounds.wp_wait_rest_token 𝒱₀ ER (rd X) (c : Thread nD τ) none (κ := κ)
      (wpE_waitDma2_eq 𝒱₀ (c : Thread nD τ) none Set.univ) (Set.mem_univ _) () (O := owing c j) (W := W) (R := R) (m := 0) (T := ∅)
      (by rw [Nat.zero_add, expect_dma X c q R hr, hN])) $$ [Hc HO Hat]
  · isplitr; · iexact HI
    isplitl [Hc]; · iexact Hc
    isplitl [HO]; · iexact HO
    isplitr; · iapply (mayWait_owing c _ j hj); iexact Hl
    iexact Hat
  iintro ⟨HO, Hat, Hr, Hp⟩
  ihave Hp := (Entails.of_eq (rest_dma X c q R hr)) $$ Hp
  iapply Hk
  isplitl [HO]; · iexists _; iexact HO
  isplitl [Hat]; · iexact Hat
  isplitl [Hr]; · iexact Hr
  iexact Hp

/-- A cell of the exchange that will not be used again closes: its counter at zero is the device's. -/
theorem step_close (q : DmaSem sig) (h5 : 5 ≤ q.val) (R : ℕ) (hR : 2 ≤ R ∨ (1 ≤ R ∧ ¬ (q.val < 13 ∧ q.val % 2 = 1))) :
    iprop(records X ∗ atPos ER (dcell c q) R ∅ 0) ⊢ iprop(|={Set.univ}=> semVal (dcell c q) 0) := by
  iintro ⟨#HR, Hat⟩
  ihave HI := (inv_dma X c q h5) $$ HR
  icases HI with ⟨%κ, #HI⟩
  iapply (Rounds.cell_close ER (rd X) (Set.mem_univ κ) (fun h => h) (R := R)
    (fun r hr => by
      rcases hR with h | ⟨h, h'⟩
      · exact duties_dma_later2 X c q r (by omega)
      · exact duties_dma_later X c q h' r (by omega)))
  isplitr; · iexact HI
  iexact Hat

theorem step_close_bar : iprop(records X ∗ atPos ER (barCell c) 1 ∅ 0) ⊢ iprop(|={Set.univ}=> semVal (barCell c) 0) := by
  iintro ⟨#HR, Hat⟩
  ihave HI := (inv_bar X c) $$ HR
  icases HI with ⟨%κ, #HI⟩
  iapply (Rounds.cell_close ER (rd X) (Set.mem_univ κ) (fun h => h) (R := 1) (duties_bar_later X c))
  isplitr; · iexact HI
  iexact Hat

end Rounds

end Cert.AllReduce
-- ==== Proof.Values.lean ====
/-
# What every device computes

The value each statement of the kernel binds, as a function of what the devices were given: loads of the staged inputs, of
the gates and of the accumulator, and the vectors received, each of which is the vector its sender sent.
-/
module

public import proofs.«01_k».proof.Proof.Steps
public import Idealize.ShloMosaic.Lib.VecWindow
public import Idealize.ShloMosaic.Lib.WritesUnit

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What the devices hold on entry: tokens, router weights, expert choices, and the device's own experts. -/
structure Inputs (F : FTy → Type) where
  x : Dev nD → FVec F S2048x512 .f32
  rw : Dev nD → FVec F S512x128 .f32
  idx : Dev nD → IVec S2048x2 32
  W : Dev nD → FVec F S8x512x1024 .f32

variable (I : Inputs F)

def v2 (c : Dev nD) : BitVec 32 := Scalar.remsi (Scalar.divsi (Dev.word c) 1#32) 16#32
def v43 (c : Dev nD) : Vec F S2048x512 .f32 := (Memref.whole cc0_stg0_0).view.readAt (Elt F) (Rect.unit (s := S2048x512) ![0, 0] S2048x512.size inb_S2048x512_S2048x512_0_0).toLoadRect (I.x c)
theorem v43_eq (c : Dev nD) : (Memref.whole cc0_stg0_0).view.readAt (Elt F) (Rect.unit (s := S2048x512) ![0, 0] S2048x512.size inb_S2048x512_S2048x512_0_0).toLoadRect (I.x c) = v43 I c := rfl
def v45 (c : Dev nD) : Vec F S512x128 .f32 := (Memref.whole cc0_stg1_0).view.readAt (Elt F) (Rect.unit (s := S512x128) ![0, 0] S512x128.size inb_S512x128_S512x128_0_0).toLoadRect (I.rw c)
theorem v45_eq (c : Dev nD) : (Memref.whole cc0_stg1_0).view.readAt (Elt F) (Rect.unit (s := S512x128) ![0, 0] S512x128.size inb_S512x128_S512x128_0_0).toLoadRect (I.rw c) = v45 I c := rfl
def v58 (c : Dev nD) : Vec F S2048x1 .i32 := (Memref.whole cc0_stg2_0).view.readAt (Elt F) (Rect.unit (s := S2048x2) ![0, 0] S2048x1.size inb_S2048x2_S2048x1_0_0).toLoadRect (I.idx c)
theorem v58_eq (c : Dev nD) : (Memref.whole cc0_stg2_0).view.readAt (Elt F) (Rect.unit (s := S2048x2) ![0, 0] S2048x1.size inb_S2048x2_S2048x1_0_0).toLoadRect (I.idx c) = v58 I c := rfl
def v62 (c : Dev nD) : Vec F S2048x1 .i32 := (Memref.whole cc0_stg2_0).view.readAt (Elt F) (Rect.unit (s := S2048x2) ![0, 1] S2048x1.size inb_S2048x2_S2048x1_0_1).toLoadRect (I.idx c)
theorem v62_eq (c : Dev nD) : (Memref.whole cc0_stg2_0).view.readAt (Elt F) (Rect.unit (s := S2048x2) ![0, 1] S2048x1.size inb_S2048x2_S2048x1_0_1).toLoadRect (I.idx c) = v62 I c := rfl
def cst_37 : F .f32 := Scalar.ofBits .f32 0x00000000#32
theorem cst_37_val : (Scalar.ofBits .f32 0x00000000#32 : F .f32) = cst_37 := rfl
def v56 (c : Dev nD) : FVec F S2048x128 .f32 := k0_pay1 (v43 I c) (v45 I c)
theorem v56_val (c : Dev nD) : k0_pay1 (v43 I c) (v45 I c) = v56 I c := rfl
def v66 (c : Dev nD) : IVec S2048x128 1 := k0_pay2 (v58 I c) (v62 I c)
theorem v66_val (c : Dev nD) : k0_pay2 (v58 I c) (v62 I c) = v66 I c := rfl
def gates (c : Dev nD) : FVec F S2048x8 .f32 := k0_pay3 (v2 c) (v56 I c) (v66 I c) (cst_37 (F := F))
def v95 (c : Dev nD) : Vec F S64x512 .f32 := (Memref.whole cc0_stg0_0).view.readAt (Elt F) (Rect.unit (s := S2048x512) (k0_off1 c 0#32 0#32) S64x512.size (k0_off1_inb c 0 0)).toLoadRect (I.x c)
theorem v95_eq (c : Dev nD) : (Memref.whole cc0_stg0_0).view.readAt (Elt F) (Rect.unit (s := S2048x512) (k0_off1 c 0#32 0#32) S64x512.size (k0_off1_inb c 0 0)).toLoadRect (I.x c) = v95 I c := rfl
def v98 (c : Dev nD) : Vec F S64x8 .f32 := (Memref.whole cc0_scratch0).view.readAt (Elt F) (Rect.unit (s := S2048x8) (k0_off2 c 0#32 0#32) S64x8.size (k0_off2_inb c 0 0)).toLoadRect (gates I c)
theorem v98_eq (c : Dev nD) : (Memref.whole cc0_scratch0).view.readAt (Elt F) (Rect.unit (s := S2048x8) (k0_off2 c 0#32 0#32) S64x8.size (k0_off2_inb c 0 0)).toLoadRect (gates I c) = v98 I c := rfl
def v102 (c : Dev nD) : Vec F S64x512 .f32 := (Memref.whole cc0_stg0_0).view.readAt (Elt F) (Rect.unit (s := S2048x512) (k0_off1 c 512#32 0#32) S64x512.size (k0_off1_inb c 1 0)).toLoadRect (I.x c)
theorem v102_eq (c : Dev nD) : (Memref.whole cc0_stg0_0).view.readAt (Elt F) (Rect.unit (s := S2048x512) (k0_off1 c 512#32 0#32) S64x512.size (k0_off1_inb c 1 0)).toLoadRect (I.x c) = v102 I c := rfl
def v105 (c : Dev nD) : Vec F S64x8 .f32 := (Memref.whole cc0_scratch0).view.readAt (Elt F) (Rect.unit (s := S2048x8) (k0_off2 c 512#32 0#32) S64x8.size (k0_off2_inb c 1 0)).toLoadRect (gates I c)
theorem v105_eq (c : Dev nD) : (Memref.whole cc0_scratch0).view.readAt (Elt F) (Rect.unit (s := S2048x8) (k0_off2 c 512#32 0#32) S64x8.size (k0_off2_inb c 1 0)).toLoadRect (gates I c) = v105 I c := rfl
def v96 (c : Dev nD) : FVec F S64x512 .f32 := k0_pay4 (v95 I c)
theorem v96_val (c : Dev nD) : k0_pay4 (v95 I c) = v96 I c := rfl
def v103 (c : Dev nD) : FVec F S64x512 .f32 := k0_pay5 (v102 I c)
theorem v103_val (c : Dev nD) : k0_pay5 (v102 I c) = v103 I c := rfl
def v109 (c : Dev nD) : Vec F S64x512 .f32 := (Memref.whole cc0_stg0_0).view.readAt (Elt F) (Rect.unit (s := S2048x512) (k0_off1 c 1024#32 0#32) S64x512.size (k0_off1_inb c 2 0)).toLoadRect (I.x c)
theorem v109_eq (c : Dev nD) : (Memref.whole cc0_stg0_0).view.readAt (Elt F) (Rect.unit (s := S2048x512) (k0_off1 c 1024#32 0#32) S64x512.size (k0_off1_inb c 2 0)).toLoadRect (I.x c) = v109 I c := rfl
def v112 (c : Dev nD) : Vec F S64x8 .f32 := (Memref.whole cc0_scratch0).view.readAt (Elt F) (Rect.unit (s := S2048x8) (k0_off2 c 1024#32 0#32) S64x8.size (k0_off2_inb c 2 0)).toLoadRect (gates I c)
theorem v112_eq (c : Dev nD) : (Memref.whole cc0_scratch0).view.readAt (Elt F) (Rect.unit (s := S2048x8) (k0_off2 c 1024#32 0#32) S64x8.size (k0_off2_inb c 2 0)).toLoadRect (gates I c) = v112 I c := rfl
def v116 (c : Dev nD) : Vec F S64x512 .f32 := (Memref.whole cc0_stg0_0).view.readAt (Elt F) (Rect.unit (s := S2048x512) (k0_off1 c 1536#32 0#32) S64x512.size (k0_off1_inb c 3 0)).toLoadRect (I.x c)
theorem v116_eq (c : Dev nD) : (Memref.whole cc0_stg0_0).view.readAt (Elt F) (Rect.unit (s := S2048x512) (k0_off1 c 1536#32 0#32) S64x512.size (k0_off1_inb c 3 0)).toLoadRect (I.x c) = v116 I c := rfl
def v119 (c : Dev nD) : Vec F S64x8 .f32 := (Memref.whole cc0_scratch0).view.readAt (Elt F) (Rect.unit (s := S2048x8) (k0_off2 c 1536#32 0#32) S64x8.size (k0_off2_inb c 3 0)).toLoadRect (gates I c)
theorem v119_eq (c : Dev nD) : (Memref.whole cc0_scratch0).view.readAt (Elt F) (Rect.unit (s := S2048x8) (k0_off2 c 1536#32 0#32) S64x8.size (k0_off2_inb c 3 0)).toLoadRect (gates I c) = v119 I c := rfl
def v124 (c : Dev nD) : Vec F S64x512 .f32 := (Memref.whole cc0_stg0_0).view.readAt (Elt F) (Rect.unit (s := S2048x512) (k0_off3 c 0#32 0#32) S64x512.size (k0_off3_inb c 0 0)).toLoadRect (I.x c)
theorem v124_eq (c : Dev nD) : (Memref.whole cc0_stg0_0).view.readAt (Elt F) (Rect.unit (s := S2048x512) (k0_off3 c 0#32 0#32) S64x512.size (k0_off3_inb c 0 0)).toLoadRect (I.x c) = v124 I c := rfl
def v127 (c : Dev nD) : Vec F S64x8 .f32 := (Memref.whole cc0_scratch0).view.readAt (Elt F) (Rect.unit (s := S2048x8) (k0_off4 c 0#32 0#32) S64x8.size (k0_off4_inb c 0 0)).toLoadRect (gates I c)
theorem v127_eq (c : Dev nD) : (Memref.whole cc0_scratch0).view.readAt (Elt F) (Rect.unit (s := S2048x8) (k0_off4 c 0#32 0#32) S64x8.size (k0_off4_inb c 0 0)).toLoadRect (gates I c) = v127 I c := rfl
def v132 (c : Dev nD) : Vec F S64x512 .f32 := (Memref.whole cc0_stg0_0).view.readAt (Elt F) (Rect.unit (s := S2048x512) (k0_off3 c 512#32 0#32) S64x512.size (k0_off3_inb c 1 0)).toLoadRect (I.x c)
theorem v132_eq (c : Dev nD) : (Memref.whole cc0_stg0_0).view.readAt (Elt F) (Rect.unit (s := S2048x512) (k0_off3 c 512#32 0#32) S64x512.size (k0_off3_inb c 1 0)).toLoadRect (I.x c) = v132 I c := rfl
def v135 (c : Dev nD) : Vec F S64x8 .f32 := (Memref.whole cc0_scratch0).view.readAt (Elt F) (Rect.unit (s := S2048x8) (k0_off4 c 512#32 0#32) S64x8.size (k0_off4_inb c 1 0)).toLoadRect (gates I c)
theorem v135_eq (c : Dev nD) : (Memref.whole cc0_scratch0).view.readAt (Elt F) (Rect.unit (s := S2048x8) (k0_off4 c 512#32 0#32) S64x8.size (k0_off4_inb c 1 0)).toLoadRect (gates I c) = v135 I c := rfl
def v140 (c : Dev nD) : Vec F S64x512 .f32 := (Memref.whole cc0_stg0_0).view.readAt (Elt F) (Rect.unit (s := S2048x512) (k0_off3 c 1024#32 0#32) S64x512.size (k0_off3_inb c 2 0)).toLoadRect (I.x c)
theorem v140_eq (c : Dev nD) : (Memref.whole cc0_stg0_0).view.readAt (Elt F) (Rect.unit (s := S2048x512) (k0_off3 c 1024#32 0#32) S64x512.size (k0_off3_inb c 2 0)).toLoadRect (I.x c) = v140 I c := rfl
def v110 (c : Dev nD) : FVec F S64x512 .f32 := k0_pay6 (v109 I c)
theorem v110_val (c : Dev nD) : k0_pay6 (v109 I c) = v110 I c := rfl
def v117 (c : Dev nD) : FVec F S64x512 .f32 := k0_pay7 (v116 I c)
theorem v117_val (c : Dev nD) : k0_pay7 (v116 I c) = v117 I c := rfl
def v125 (c : Dev nD) : FVec F S64x512 .f32 := k0_pay8 (v124 I c)
theorem v125_val (c : Dev nD) : k0_pay8 (v124 I c) = v125 I c := rfl
def v133 (c : Dev nD) : FVec F S64x512 .f32 := k0_pay9 (v132 I c)
theorem v133_val (c : Dev nD) : k0_pay9 (v132 I c) = v133 I c := rfl
def v141 (c : Dev nD) : FVec F S64x512 .f32 := k0_pay10 (v140 I c)
theorem v141_val (c : Dev nD) : k0_pay10 (v140 I c) = v141 I c := rfl
def v143 (c : Dev nD) : Vec F S64x8 .f32 := (Memref.whole cc0_scratch0).view.readAt (Elt F) (Rect.unit (s := S2048x8) (k0_off4 c 1024#32 0#32) S64x8.size (k0_off4_inb c 2 0)).toLoadRect (gates I c)
theorem v143_eq (c : Dev nD) : (Memref.whole cc0_scratch0).view.readAt (Elt F) (Rect.unit (s := S2048x8) (k0_off4 c 1024#32 0#32) S64x8.size (k0_off4_inb c 2 0)).toLoadRect (gates I c) = v143 I c := rfl
def v148 (c : Dev nD) : Vec F S64x512 .f32 := (Memref.whole cc0_stg0_0).view.readAt (Elt F) (Rect.unit (s := S2048x512) (k0_off3 c 1536#32 0#32) S64x512.size (k0_off3_inb c 3 0)).toLoadRect (I.x c)
theorem v148_eq (c : Dev nD) : (Memref.whole cc0_stg0_0).view.readAt (Elt F) (Rect.unit (s := S2048x512) (k0_off3 c 1536#32 0#32) S64x512.size (k0_off3_inb c 3 0)).toLoadRect (I.x c) = v148 I c := rfl
def v151 (c : Dev nD) : Vec F S64x8 .f32 := (Memref.whole cc0_scratch0).view.readAt (Elt F) (Rect.unit (s := S2048x8) (k0_off4 c 1536#32 0#32) S64x8.size (k0_off4_inb c 3 0)).toLoadRect (gates I c)
theorem v151_eq (c : Dev nD) : (Memref.whole cc0_scratch0).view.readAt (Elt F) (Rect.unit (s := S2048x8) (k0_off4 c 1536#32 0#32) S64x8.size (k0_off4_inb c 3 0)).toLoadRect (gates I c) = v151 I c := rfl
def v158 (c : Dev nD) : Vec F S1x512x1024 .f32 := (Memref.whole cc0_stg3_0).view.readAt (Elt F) (Rect.unit (s := S8x512x1024) ![0, 0, 0] S1x512x1024.size inb_S8x512x1024_S1x512x1024_0_0_0).toLoadRect (I.W c)
theorem v158_eq (c : Dev nD) : (Memref.whole cc0_stg3_0).view.readAt (Elt F) (Rect.unit (s := S8x512x1024) ![0, 0, 0] S1x512x1024.size inb_S8x512x1024_S1x512x1024_0_0_0).toLoadRect (I.W c) = v158 I c := rfl
def v165 (c : Dev nD) : Vec F S1x512x1024 .f32 := (Memref.whole cc0_stg3_0).view.readAt (Elt F) (Rect.unit (s := S8x512x1024) ![1, 0, 0] S1x512x1024.size inb_S8x512x1024_S1x512x1024_1_0_0).toLoadRect (I.W c)
theorem v165_eq (c : Dev nD) : (Memref.whole cc0_stg3_0).view.readAt (Elt F) (Rect.unit (s := S8x512x1024) ![1, 0, 0] S1x512x1024.size inb_S8x512x1024_S1x512x1024_1_0_0).toLoadRect (I.W c) = v165 I c := rfl
def v172 (c : Dev nD) : Vec F S1x512x1024 .f32 := (Memref.whole cc0_stg3_0).view.readAt (Elt F) (Rect.unit (s := S8x512x1024) ![2, 0, 0] S1x512x1024.size inb_S8x512x1024_S1x512x1024_2_0_0).toLoadRect (I.W c)
theorem v172_eq (c : Dev nD) : (Memref.whole cc0_stg3_0).view.readAt (Elt F) (Rect.unit (s := S8x512x1024) ![2, 0, 0] S1x512x1024.size inb_S8x512x1024_S1x512x1024_2_0_0).toLoadRect (I.W c) = v172 I c := rfl
def v179 (c : Dev nD) : Vec F S1x512x1024 .f32 := (Memref.whole cc0_stg3_0).view.readAt (Elt F) (Rect.unit (s := S8x512x1024) ![3, 0, 0] S1x512x1024.size inb_S8x512x1024_S1x512x1024_3_0_0).toLoadRect (I.W c)
theorem v179_eq (c : Dev nD) : (Memref.whole cc0_stg3_0).view.readAt (Elt F) (Rect.unit (s := S8x512x1024) ![3, 0, 0] S1x512x1024.size inb_S8x512x1024_S1x512x1024_3_0_0).toLoadRect (I.W c) = v179 I c := rfl
def cst_94 : FVec F S512x1024 .f32 := constant S512x1024 .f32 0x00000000#32
theorem cst_94_val : (constant S512x1024 .f32 0x00000000#32 : FVec F S512x1024 .f32) = cst_94 := rfl
def v152 (c : Dev nD) : FVec F S512x512 .f32 := k0_pay11 (v96 I c) (v103 I c) (v110 I c) (v117 I c) (v125 I c) (v133 I c) (v141 I c) (v148 I c)
theorem v152_val (c : Dev nD) : k0_pay11 (v96 I c) (v103 I c) (v110 I c) (v117 I c) (v125 I c) (v133 I c) (v141 I c) (v148 I c) = v152 I c := rfl
def v153 (c : Dev nD) : FVec F S512x8 .f32 := k0_pay12 (v98 I c) (v105 I c) (v112 I c) (v119 I c) (v127 I c) (v135 I c) (v143 I c) (v151 I c)
theorem v153_val (c : Dev nD) : k0_pay12 (v98 I c) (v105 I c) (v112 I c) (v119 I c) (v127 I c) (v135 I c) (v143 I c) (v151 I c) = v153 I c := rfl
def v175 (c : Dev nD) : FVec F S512x1024 .f32 := k0_pay13 (v96 I c) (v98 I c) (v103 I c) (v105 I c) (v110 I c) (v112 I c) (v117 I c) (v119 I c) (v125 I c) (v127 I c) (v133 I c) (v135 I c) (v141 I c) (v143 I c) (v148 I c) (v151 I c) (v158 I c) (v165 I c) (v172 I c)
theorem v175_val (c : Dev nD) : k0_pay13 (v96 I c) (v98 I c) (v103 I c) (v105 I c) (v110 I c) (v112 I c) (v117 I c) (v119 I c) (v125 I c) (v127 I c) (v133 I c) (v135 I c) (v141 I c) (v143 I c) (v148 I c) (v151 I c) (v158 I c) (v165 I c) (v172 I c) = v175 I c := rfl
def v178 (c : Dev nD) : FVec F S512x512 .f32 := k0_pay14 (v96 I c) (v98 I c) (v103 I c) (v105 I c) (v110 I c) (v112 I c) (v117 I c) (v119 I c) (v125 I c) (v127 I c) (v133 I c) (v135 I c) (v141 I c) (v143 I c) (v148 I c) (v151 I c)
theorem v178_val (c : Dev nD) : k0_pay14 (v96 I c) (v98 I c) (v103 I c) (v105 I c) (v110 I c) (v112 I c) (v117 I c) (v119 I c) (v125 I c) (v127 I c) (v133 I c) (v135 I c) (v141 I c) (v143 I c) (v148 I c) (v151 I c) = v178 I c := rfl
def v180 (c : Dev nD) : FVec F S512x1024 .f32 := k0_pay15 (v179 I c)
theorem v180_val (c : Dev nD) : k0_pay15 (v179 I c) = v180 I c := rfl
def v186 (c : Dev nD) : Vec F S1x512x1024 .f32 := (Memref.whole cc0_stg3_0).view.readAt (Elt F) (Rect.unit (s := S8x512x1024) ![4, 0, 0] S1x512x1024.size inb_S8x512x1024_S1x512x1024_4_0_0).toLoadRect (I.W c)
theorem v186_eq (c : Dev nD) : (Memref.whole cc0_stg3_0).view.readAt (Elt F) (Rect.unit (s := S8x512x1024) ![4, 0, 0] S1x512x1024.size inb_S8x512x1024_S1x512x1024_4_0_0).toLoadRect (I.W c) = v186 I c := rfl
def v193 (c : Dev nD) : Vec F S1x512x1024 .f32 := (Memref.whole cc0_stg3_0).view.readAt (Elt F) (Rect.unit (s := S8x512x1024) ![5, 0, 0] S1x512x1024.size inb_S8x512x1024_S1x512x1024_5_0_0).toLoadRect (I.W c)
theorem v193_eq (c : Dev nD) : (Memref.whole cc0_stg3_0).view.readAt (Elt F) (Rect.unit (s := S8x512x1024) ![5, 0, 0] S1x512x1024.size inb_S8x512x1024_S1x512x1024_5_0_0).toLoadRect (I.W c) = v193 I c := rfl
def v200 (c : Dev nD) : Vec F S1x512x1024 .f32 := (Memref.whole cc0_stg3_0).view.readAt (Elt F) (Rect.unit (s := S8x512x1024) ![6, 0, 0] S1x512x1024.size inb_S8x512x1024_S1x512x1024_6_0_0).toLoadRect (I.W c)
theorem v200_eq (c : Dev nD) : (Memref.whole cc0_stg3_0).view.readAt (Elt F) (Rect.unit (s := S8x512x1024) ![6, 0, 0] S1x512x1024.size inb_S8x512x1024_S1x512x1024_6_0_0).toLoadRect (I.W c) = v200 I c := rfl
def v207 (c : Dev nD) : Vec F S1x512x1024 .f32 := (Memref.whole cc0_stg3_0).view.readAt (Elt F) (Rect.unit (s := S8x512x1024) ![7, 0, 0] S1x512x1024.size inb_S8x512x1024_S1x512x1024_7_0_0).toLoadRect (I.W c)
theorem v207_eq (c : Dev nD) : (Memref.whole cc0_stg3_0).view.readAt (Elt F) (Rect.unit (s := S8x512x1024) ![7, 0, 0] S1x512x1024.size inb_S8x512x1024_S1x512x1024_7_0_0).toLoadRect (I.W c) = v207 I c := rfl
def sar0 (c : Dev nD) : FVec F S1x256x1024 .bf16 := k0_pay17 (v152 I c) (v153 I c) (v175 I c) (v178 I c) (v180 I c) (cst_94 (F := F)) (v186 I c) (v193 I c) (v200 I c) (v207 I c)
theorem sar0_val (c : Dev nD) : k0_pay17 (v152 I c) (v153 I c) (v175 I c) (v178 I c) (v180 I c) (cst_94 (F := F)) (v186 I c) (v193 I c) (v200 I c) (v207 I c) = sar0 I c := rfl
def v217 (c : Dev nD) : FVec F S256x1024 .bf16 := k0_pay18 (v152 I c) (v153 I c) (v175 I c) (v178 I c) (v180 I c) (cst_94 (F := F)) (v186 I c) (v193 I c) (v200 I c) (v207 I c)
theorem v217_val (c : Dev nD) : k0_pay18 (v152 I c) (v153 I c) (v175 I c) (v178 I c) (v180 I c) (cst_94 (F := F)) (v186 I c) (v193 I c) (v200 I c) (v207 I c) = v217 I c := rfl
def sal0 (c : Dev nD) : FVec F S1x256x1024 .bf16 := k0_pay19 (v217 I c)
theorem sal0_val (c : Dev nD) : k0_pay19 (v217 I c) = sal0 I c := rfl
def v251 (c : Dev nD) : Vec F S64x512 .f32 := (Memref.whole cc0_stg0_0).view.readAt (Elt F) (Rect.unit (s := S2048x512) (k0_off1 c 0#32 1#32) S64x512.size (k0_off1_inb c 0 1)).toLoadRect (I.x c)
theorem v251_eq (c : Dev nD) : (Memref.whole cc0_stg0_0).view.readAt (Elt F) (Rect.unit (s := S2048x512) (k0_off1 c 0#32 1#32) S64x512.size (k0_off1_inb c 0 1)).toLoadRect (I.x c) = v251 I c := rfl
def v254 (c : Dev nD) : Vec F S64x8 .f32 := (Memref.whole cc0_scratch0).view.readAt (Elt F) (Rect.unit (s := S2048x8) (k0_off2 c 0#32 1#32) S64x8.size (k0_off2_inb c 0 1)).toLoadRect (gates I c)
theorem v254_eq (c : Dev nD) : (Memref.whole cc0_scratch0).view.readAt (Elt F) (Rect.unit (s := S2048x8) (k0_off2 c 0#32 1#32) S64x8.size (k0_off2_inb c 0 1)).toLoadRect (gates I c) = v254 I c := rfl
def v258 (c : Dev nD) : Vec F S64x512 .f32 := (Memref.whole cc0_stg0_0).view.readAt (Elt F) (Rect.unit (s := S2048x512) (k0_off1 c 512#32 1#32) S64x512.size (k0_off1_inb c 1 1)).toLoadRect (I.x c)
theorem v258_eq (c : Dev nD) : (Memref.whole cc0_stg0_0).view.readAt (Elt F) (Rect.unit (s := S2048x512) (k0_off1 c 512#32 1#32) S64x512.size (k0_off1_inb c 1 1)).toLoadRect (I.x c) = v258 I c := rfl
def v261 (c : Dev nD) : Vec F S64x8 .f32 := (Memref.whole cc0_scratch0).view.readAt (Elt F) (Rect.unit (s := S2048x8) (k0_off2 c 512#32 1#32) S64x8.size (k0_off2_inb c 1 1)).toLoadRect (gates I c)
theorem v261_eq (c : Dev nD) : (Memref.whole cc0_scratch0).view.readAt (Elt F) (Rect.unit (s := S2048x8) (k0_off2 c 512#32 1#32) S64x8.size (k0_off2_inb c 1 1)).toLoadRect (gates I c) = v261 I c := rfl
def v265 (c : Dev nD) : Vec F S64x512 .f32 := (Memref.whole cc0_stg0_0).view.readAt (Elt F) (Rect.unit (s := S2048x512) (k0_off1 c 1024#32 1#32) S64x512.size (k0_off1_inb c 2 1)).toLoadRect (I.x c)
theorem v265_eq (c : Dev nD) : (Memref.whole cc0_stg0_0).view.readAt (Elt F) (Rect.unit (s := S2048x512) (k0_off1 c 1024#32 1#32) S64x512.size (k0_off1_inb c 2 1)).toLoadRect (I.x c) = v265 I c := rfl
def v268 (c : Dev nD) : Vec F S64x8 .f32 := (Memref.whole cc0_scratch0).view.readAt (Elt F) (Rect.unit (s := S2048x8) (k0_off2 c 1024#32 1#32) S64x8.size (k0_off2_inb c 2 1)).toLoadRect (gates I c)
theorem v268_eq (c : Dev nD) : (Memref.whole cc0_scratch0).view.readAt (Elt F) (Rect.unit (s := S2048x8) (k0_off2 c 1024#32 1#32) S64x8.size (k0_off2_inb c 2 1)).toLoadRect (gates I c) = v268 I c := rfl
def v272 (c : Dev nD) : Vec F S64x512 .f32 := (Memref.whole cc0_stg0_0).view.readAt (Elt F) (Rect.unit (s := S2048x512) (k0_off1 c 1536#32 1#32) S64x512.size (k0_off1_inb c 3 1)).toLoadRect (I.x c)
theorem v272_eq (c : Dev nD) : (Memref.whole cc0_stg0_0).view.readAt (Elt F) (Rect.unit (s := S2048x512) (k0_off1 c 1536#32 1#32) S64x512.size (k0_off1_inb c 3 1)).toLoadRect (I.x c) = v272 I c := rfl
def v275 (c : Dev nD) : Vec F S64x8 .f32 := (Memref.whole cc0_scratch0).view.readAt (Elt F) (Rect.unit (s := S2048x8) (k0_off2 c 1536#32 1#32) S64x8.size (k0_off2_inb c 3 1)).toLoadRect (gates I c)
theorem v275_eq (c : Dev nD) : (Memref.whole cc0_scratch0).view.readAt (Elt F) (Rect.unit (s := S2048x8) (k0_off2 c 1536#32 1#32) S64x8.size (k0_off2_inb c 3 1)).toLoadRect (gates I c) = v275 I c := rfl
def v280 (c : Dev nD) : Vec F S64x512 .f32 := (Memref.whole cc0_stg0_0).view.readAt (Elt F) (Rect.unit (s := S2048x512) (k0_off3 c 0#32 1#32) S64x512.size (k0_off3_inb c 0 1)).toLoadRect (I.x c)
theorem v280_eq (c : Dev nD) : (Memref.whole cc0_stg0_0).view.readAt (Elt F) (Rect.unit (s := S2048x512) (k0_off3 c 0#32 1#32) S64x512.size (k0_off3_inb c 0 1)).toLoadRect (I.x c) = v280 I c := rfl
def v283 (c : Dev nD) : Vec F S64x8 .f32 := (Memref.whole cc0_scratch0).view.readAt (Elt F) (Rect.unit (s := S2048x8) (k0_off4 c 0#32 1#32) S64x8.size (k0_off4_inb c 0 1)).toLoadRect (gates I c)
theorem v283_eq (c : Dev nD) : (Memref.whole cc0_scratch0).view.readAt (Elt F) (Rect.unit (s := S2048x8) (k0_off4 c 0#32 1#32) S64x8.size (k0_off4_inb c 0 1)).toLoadRect (gates I c) = v283 I c := rfl
def v252 (c : Dev nD) : FVec F S64x512 .f32 := k0_pay20 (v251 I c)
theorem v252_val (c : Dev nD) : k0_pay20 (v251 I c) = v252 I c := rfl
def v259 (c : Dev nD) : FVec F S64x512 .f32 := k0_pay21 (v258 I c)
theorem v259_val (c : Dev nD) : k0_pay21 (v258 I c) = v259 I c := rfl
def v266 (c : Dev nD) : FVec F S64x512 .f32 := k0_pay22 (v265 I c)
theorem v266_val (c : Dev nD) : k0_pay22 (v265 I c) = v266 I c := rfl
def v273 (c : Dev nD) : FVec F S64x512 .f32 := k0_pay23 (v272 I c)
theorem v273_val (c : Dev nD) : k0_pay23 (v272 I c) = v273 I c := rfl
def v281 (c : Dev nD) : FVec F S64x512 .f32 := k0_pay24 (v280 I c)
theorem v281_val (c : Dev nD) : k0_pay24 (v280 I c) = v281 I c := rfl
def v288 (c : Dev nD) : Vec F S64x512 .f32 := (Memref.whole cc0_stg0_0).view.readAt (Elt F) (Rect.unit (s := S2048x512) (k0_off3 c 512#32 1#32) S64x512.size (k0_off3_inb c 1 1)).toLoadRect (I.x c)
theorem v288_eq (c : Dev nD) : (Memref.whole cc0_stg0_0).view.readAt (Elt F) (Rect.unit (s := S2048x512) (k0_off3 c 512#32 1#32) S64x512.size (k0_off3_inb c 1 1)).toLoadRect (I.x c) = v288 I c := rfl
def v291 (c : Dev nD) : Vec F S64x8 .f32 := (Memref.whole cc0_scratch0).view.readAt (Elt F) (Rect.unit (s := S2048x8) (k0_off4 c 512#32 1#32) S64x8.size (k0_off4_inb c 1 1)).toLoadRect (gates I c)
theorem v291_eq (c : Dev nD) : (Memref.whole cc0_scratch0).view.readAt (Elt F) (Rect.unit (s := S2048x8) (k0_off4 c 512#32 1#32) S64x8.size (k0_off4_inb c 1 1)).toLoadRect (gates I c) = v291 I c := rfl
def v296 (c : Dev nD) : Vec F S64x512 .f32 := (Memref.whole cc0_stg0_0).view.readAt (Elt F) (Rect.unit (s := S2048x512) (k0_off3 c 1024#32 1#32) S64x512.size (k0_off3_inb c 2 1)).toLoadRect (I.x c)
theorem v296_eq (c : Dev nD) : (Memref.whole cc0_stg0_0).view.readAt (Elt F) (Rect.unit (s := S2048x512) (k0_off3 c 1024#32 1#32) S64x512.size (k0_off3_inb c 2 1)).toLoadRect (I.x c) = v296 I c := rfl
def v299 (c : Dev nD) : Vec F S64x8 .f32 := (Memref.whole cc0_scratch0).view.readAt (Elt F) (Rect.unit (s := S2048x8) (k0_off4 c 1024#32 1#32) S64x8.size (k0_off4_inb c 2 1)).toLoadRect (gates I c)
theorem v299_eq (c : Dev nD) : (Memref.whole cc0_scratch0).view.readAt (Elt F) (Rect.unit (s := S2048x8) (k0_off4 c 1024#32 1#32) S64x8.size (k0_off4_inb c 2 1)).toLoadRect (gates I c) = v299 I c := rfl
def v304 (c : Dev nD) : Vec F S64x512 .f32 := (Memref.whole cc0_stg0_0).view.readAt (Elt F) (Rect.unit (s := S2048x512) (k0_off3 c 1536#32 1#32) S64x512.size (k0_off3_inb c 3 1)).toLoadRect (I.x c)
theorem v304_eq (c : Dev nD) : (Memref.whole cc0_stg0_0).view.readAt (Elt F) (Rect.unit (s := S2048x512) (k0_off3 c 1536#32 1#32) S64x512.size (k0_off3_inb c 3 1)).toLoadRect (I.x c) = v304 I c := rfl
def v307 (c : Dev nD) : Vec F S64x8 .f32 := (Memref.whole cc0_scratch0).view.readAt (Elt F) (Rect.unit (s := S2048x8) (k0_off4 c 1536#32 1#32) S64x8.size (k0_off4_inb c 3 1)).toLoadRect (gates I c)
theorem v307_eq (c : Dev nD) : (Memref.whole cc0_scratch0).view.readAt (Elt F) (Rect.unit (s := S2048x8) (k0_off4 c 1536#32 1#32) S64x8.size (k0_off4_inb c 3 1)).toLoadRect (gates I c) = v307 I c := rfl
def v314 (c : Dev nD) : Vec F S1x512x1024 .f32 := (Memref.whole cc0_stg3_0).view.readAt (Elt F) (Rect.unit (s := S8x512x1024) ![0, 0, 0] S1x512x1024.size inb_S8x512x1024_S1x512x1024_0_0_0).toLoadRect (I.W c)
theorem v314_eq (c : Dev nD) : (Memref.whole cc0_stg3_0).view.readAt (Elt F) (Rect.unit (s := S8x512x1024) ![0, 0, 0] S1x512x1024.size inb_S8x512x1024_S1x512x1024_0_0_0).toLoadRect (I.W c) = v314 I c := rfl
def v321 (c : Dev nD) : Vec F S1x512x1024 .f32 := (Memref.whole cc0_stg3_0).view.readAt (Elt F) (Rect.unit (s := S8x512x1024) ![1, 0, 0] S1x512x1024.size inb_S8x512x1024_S1x512x1024_1_0_0).toLoadRect (I.W c)
theorem v321_eq (c : Dev nD) : (Memref.whole cc0_stg3_0).view.readAt (Elt F) (Rect.unit (s := S8x512x1024) ![1, 0, 0] S1x512x1024.size inb_S8x512x1024_S1x512x1024_1_0_0).toLoadRect (I.W c) = v321 I c := rfl
def cst_184 : FVec F S512x1024 .f32 := constant S512x1024 .f32 0x00000000#32
theorem cst_184_val : (constant S512x1024 .f32 0x00000000#32 : FVec F S512x1024 .f32) = cst_184 := rfl
def v308 (c : Dev nD) : FVec F S512x512 .f32 := k0_pay25 (v252 I c) (v259 I c) (v266 I c) (v273 I c) (v281 I c) (v288 I c) (v296 I c) (v304 I c)
theorem v308_val (c : Dev nD) : k0_pay25 (v252 I c) (v259 I c) (v266 I c) (v273 I c) (v281 I c) (v288 I c) (v296 I c) (v304 I c) = v308 I c := rfl
def v309 (c : Dev nD) : FVec F S512x8 .f32 := k0_pay26 (v254 I c) (v261 I c) (v268 I c) (v275 I c) (v283 I c) (v291 I c) (v299 I c) (v307 I c)
theorem v309_val (c : Dev nD) : k0_pay26 (v254 I c) (v261 I c) (v268 I c) (v275 I c) (v283 I c) (v291 I c) (v299 I c) (v307 I c) = v309 I c := rfl
def v317 (c : Dev nD) : FVec F S512x1024 .f32 := k0_pay27 (v252 I c) (v254 I c) (v259 I c) (v261 I c) (v266 I c) (v268 I c) (v273 I c) (v275 I c) (v281 I c) (v283 I c) (v288 I c) (v291 I c) (v296 I c) (v299 I c) (v304 I c) (v307 I c) (v314 I c)
theorem v317_val (c : Dev nD) : k0_pay27 (v252 I c) (v254 I c) (v259 I c) (v261 I c) (v266 I c) (v268 I c) (v273 I c) (v275 I c) (v281 I c) (v283 I c) (v288 I c) (v291 I c) (v296 I c) (v299 I c) (v304 I c) (v307 I c) (v314 I c) = v317 I c := rfl
def v320 (c : Dev nD) : FVec F S512x512 .f32 := k0_pay28 (v252 I c) (v254 I c) (v259 I c) (v261 I c) (v266 I c) (v268 I c) (v273 I c) (v275 I c) (v281 I c) (v283 I c) (v288 I c) (v291 I c) (v296 I c) (v299 I c) (v304 I c) (v307 I c)
theorem v320_val (c : Dev nD) : k0_pay28 (v252 I c) (v254 I c) (v259 I c) (v261 I c) (v266 I c) (v268 I c) (v273 I c) (v275 I c) (v281 I c) (v283 I c) (v288 I c) (v291 I c) (v296 I c) (v299 I c) (v304 I c) (v307 I c) = v320 I c := rfl
def v322 (c : Dev nD) : FVec F S512x1024 .f32 := k0_pay29 (v321 I c)
theorem v322_val (c : Dev nD) : k0_pay29 (v321 I c) = v322 I c := rfl
def v328 (c : Dev nD) : Vec F S1x512x1024 .f32 := (Memref.whole cc0_stg3_0).view.readAt (Elt F) (Rect.unit (s := S8x512x1024) ![2, 0, 0] S1x512x1024.size inb_S8x512x1024_S1x512x1024_2_0_0).toLoadRect (I.W c)
theorem v328_eq (c : Dev nD) : (Memref.whole cc0_stg3_0).view.readAt (Elt F) (Rect.unit (s := S8x512x1024) ![2, 0, 0] S1x512x1024.size inb_S8x512x1024_S1x512x1024_2_0_0).toLoadRect (I.W c) = v328 I c := rfl
def v335 (c : Dev nD) : Vec F S1x512x1024 .f32 := (Memref.whole cc0_stg3_0).view.readAt (Elt F) (Rect.unit (s := S8x512x1024) ![3, 0, 0] S1x512x1024.size inb_S8x512x1024_S1x512x1024_3_0_0).toLoadRect (I.W c)
theorem v335_eq (c : Dev nD) : (Memref.whole cc0_stg3_0).view.readAt (Elt F) (Rect.unit (s := S8x512x1024) ![3, 0, 0] S1x512x1024.size inb_S8x512x1024_S1x512x1024_3_0_0).toLoadRect (I.W c) = v335 I c := rfl
def v342 (c : Dev nD) : Vec F S1x512x1024 .f32 := (Memref.whole cc0_stg3_0).view.readAt (Elt F) (Rect.unit (s := S8x512x1024) ![4, 0, 0] S1x512x1024.size inb_S8x512x1024_S1x512x1024_4_0_0).toLoadRect (I.W c)
theorem v342_eq (c : Dev nD) : (Memref.whole cc0_stg3_0).view.readAt (Elt F) (Rect.unit (s := S8x512x1024) ![4, 0, 0] S1x512x1024.size inb_S8x512x1024_S1x512x1024_4_0_0).toLoadRect (I.W c) = v342 I c := rfl
def v349 (c : Dev nD) : Vec F S1x512x1024 .f32 := (Memref.whole cc0_stg3_0).view.readAt (Elt F) (Rect.unit (s := S8x512x1024) ![5, 0, 0] S1x512x1024.size inb_S8x512x1024_S1x512x1024_5_0_0).toLoadRect (I.W c)
theorem v349_eq (c : Dev nD) : (Memref.whole cc0_stg3_0).view.readAt (Elt F) (Rect.unit (s := S8x512x1024) ![5, 0, 0] S1x512x1024.size inb_S8x512x1024_S1x512x1024_5_0_0).toLoadRect (I.W c) = v349 I c := rfl
def v356 (c : Dev nD) : Vec F S1x512x1024 .f32 := (Memref.whole cc0_stg3_0).view.readAt (Elt F) (Rect.unit (s := S8x512x1024) ![6, 0, 0] S1x512x1024.size inb_S8x512x1024_S1x512x1024_6_0_0).toLoadRect (I.W c)
theorem v356_eq (c : Dev nD) : (Memref.whole cc0_stg3_0).view.readAt (Elt F) (Rect.unit (s := S8x512x1024) ![6, 0, 0] S1x512x1024.size inb_S8x512x1024_S1x512x1024_6_0_0).toLoadRect (I.W c) = v356 I c := rfl
def v359 (c : Dev nD) : FVec F S512x1024 .f32 := k0_pay30 (v308 I c) (v309 I c) (v317 I c) (v320 I c) (v322 I c) (cst_184 (F := F)) (v328 I c) (v335 I c) (v342 I c) (v349 I c) (v356 I c)
theorem v359_val (c : Dev nD) : k0_pay30 (v308 I c) (v309 I c) (v317 I c) (v320 I c) (v322 I c) (cst_184 (F := F)) (v328 I c) (v335 I c) (v342 I c) (v349 I c) (v356 I c) = v359 I c := rfl
def v362 (c : Dev nD) : FVec F S512x512 .f32 := k0_pay31 (v308 I c) (v309 I c)
theorem v362_val (c : Dev nD) : k0_pay31 (v308 I c) (v309 I c) = v362 I c := rfl
def v363 (c : Dev nD) : Vec F S1x512x1024 .f32 := (Memref.whole cc0_stg3_0).view.readAt (Elt F) (Rect.unit (s := S8x512x1024) ![7, 0, 0] S1x512x1024.size inb_S8x512x1024_S1x512x1024_7_0_0).toLoadRect (I.W c)
theorem v363_eq (c : Dev nD) : (Memref.whole cc0_stg3_0).view.readAt (Elt F) (Rect.unit (s := S8x512x1024) ![7, 0, 0] S1x512x1024.size inb_S8x512x1024_S1x512x1024_7_0_0).toLoadRect (I.W c) = v363 I c := rfl
def v377 (c : Dev nD) : Vec F S1x256x1024 .bf16 := sar0 I (aL c)
def v389 (c : Dev nD) : Vec F S1x256x1024 .bf16 := sal0 I (aR c)
def v368 (c : Dev nD) : FVec F S256x1024 .f32 := k0_pay33 (v359 I c) (v362 I c) (v363 I c)
theorem v368_val (c : Dev nD) : k0_pay33 (v359 I c) (v362 I c) (v363 I c) = v368 I c := rfl
def v380 (c : Dev nD) : FVec F S256x1024 .f32 := k0_pay34 (v359 I c) (v362 I c) (v363 I c) (v377 I c)
theorem v380_val (c : Dev nD) : k0_pay34 (v359 I c) (v362 I c) (v363 I c) (v377 I c) = v380 I c := rfl
def v390 (c : Dev nD) : FVec F S256x1024 .bf16 := k0_pay35 (v389 I c)
theorem v390_val (c : Dev nD) : k0_pay35 (v389 I c) = v390 I c := rfl
def sar1 (c : Dev nD) : FVec F S1x256x1024 .bf16 := k0_pay36 (v380 I c)
theorem sar1_val (c : Dev nD) : k0_pay36 (v380 I c) = sar1 I c := rfl
def sal1 (c : Dev nD) : FVec F S1x256x1024 .bf16 := k0_pay37 (v368 I c) (v390 I c)
theorem sal1_val (c : Dev nD) : k0_pay37 (v368 I c) (v390 I c) = sal1 I c := rfl
def v431 (c : Dev nD) : Vec F S64x512 .f32 := (Memref.whole cc0_stg0_0).view.readAt (Elt F) (Rect.unit (s := S2048x512) (k0_off1 c 0#32 2#32) S64x512.size (k0_off1_inb c 0 2)).toLoadRect (I.x c)
theorem v431_eq (c : Dev nD) : (Memref.whole cc0_stg0_0).view.readAt (Elt F) (Rect.unit (s := S2048x512) (k0_off1 c 0#32 2#32) S64x512.size (k0_off1_inb c 0 2)).toLoadRect (I.x c) = v431 I c := rfl
def v434 (c : Dev nD) : Vec F S64x8 .f32 := (Memref.whole cc0_scratch0).view.readAt (Elt F) (Rect.unit (s := S2048x8) (k0_off2 c 0#32 2#32) S64x8.size (k0_off2_inb c 0 2)).toLoadRect (gates I c)
theorem v434_eq (c : Dev nD) : (Memref.whole cc0_scratch0).view.readAt (Elt F) (Rect.unit (s := S2048x8) (k0_off2 c 0#32 2#32) S64x8.size (k0_off2_inb c 0 2)).toLoadRect (gates I c) = v434 I c := rfl
def v438 (c : Dev nD) : Vec F S64x512 .f32 := (Memref.whole cc0_stg0_0).view.readAt (Elt F) (Rect.unit (s := S2048x512) (k0_off1 c 512#32 2#32) S64x512.size (k0_off1_inb c 1 2)).toLoadRect (I.x c)
theorem v438_eq (c : Dev nD) : (Memref.whole cc0_stg0_0).view.readAt (Elt F) (Rect.unit (s := S2048x512) (k0_off1 c 512#32 2#32) S64x512.size (k0_off1_inb c 1 2)).toLoadRect (I.x c) = v438 I c := rfl
def v441 (c : Dev nD) : Vec F S64x8 .f32 := (Memref.whole cc0_scratch0).view.readAt (Elt F) (Rect.unit (s := S2048x8) (k0_off2 c 512#32 2#32) S64x8.size (k0_off2_inb c 1 2)).toLoadRect (gates I c)
theorem v441_eq (c : Dev nD) : (Memref.whole cc0_scratch0).view.readAt (Elt F) (Rect.unit (s := S2048x8) (k0_off2 c 512#32 2#32) S64x8.size (k0_off2_inb c 1 2)).toLoadRect (gates I c) = v441 I c := rfl
def v445 (c : Dev nD) : Vec F S64x512 .f32 := (Memref.whole cc0_stg0_0).view.readAt (Elt F) (Rect.unit (s := S2048x512) (k0_off1 c 1024#32 2#32) S64x512.size (k0_off1_inb c 2 2)).toLoadRect (I.x c)
theorem v445_eq (c : Dev nD) : (Memref.whole cc0_stg0_0).view.readAt (Elt F) (Rect.unit (s := S2048x512) (k0_off1 c 1024#32 2#32) S64x512.size (k0_off1_inb c 2 2)).toLoadRect (I.x c) = v445 I c := rfl
def v448 (c : Dev nD) : Vec F S64x8 .f32 := (Memref.whole cc0_scratch0).view.readAt (Elt F) (Rect.unit (s := S2048x8) (k0_off2 c 1024#32 2#32) S64x8.size (k0_off2_inb c 2 2)).toLoadRect (gates I c)
theorem v448_eq (c : Dev nD) : (Memref.whole cc0_scratch0).view.readAt (Elt F) (Rect.unit (s := S2048x8) (k0_off2 c 1024#32 2#32) S64x8.size (k0_off2_inb c 2 2)).toLoadRect (gates I c) = v448 I c := rfl
def v452 (c : Dev nD) : Vec F S64x512 .f32 := (Memref.whole cc0_stg0_0).view.readAt (Elt F) (Rect.unit (s := S2048x512) (k0_off1 c 1536#32 2#32) S64x512.size (k0_off1_inb c 3 2)).toLoadRect (I.x c)
theorem v452_eq (c : Dev nD) : (Memref.whole cc0_stg0_0).view.readAt (Elt F) (Rect.unit (s := S2048x512) (k0_off1 c 1536#32 2#32) S64x512.size (k0_off1_inb c 3 2)).toLoadRect (I.x c) = v452 I c := rfl
def v455 (c : Dev nD) : Vec F S64x8 .f32 := (Memref.whole cc0_scratch0).view.readAt (Elt F) (Rect.unit (s := S2048x8) (k0_off2 c 1536#32 2#32) S64x8.size (k0_off2_inb c 3 2)).toLoadRect (gates I c)
theorem v455_eq (c : Dev nD) : (Memref.whole cc0_scratch0).view.readAt (Elt F) (Rect.unit (s := S2048x8) (k0_off2 c 1536#32 2#32) S64x8.size (k0_off2_inb c 3 2)).toLoadRect (gates I c) = v455 I c := rfl
def v432 (c : Dev nD) : FVec F S64x512 .f32 := k0_pay38 (v431 I c)
theorem v432_val (c : Dev nD) : k0_pay38 (v431 I c) = v432 I c := rfl
def v439 (c : Dev nD) : FVec F S64x512 .f32 := k0_pay39 (v438 I c)
theorem v439_val (c : Dev nD) : k0_pay39 (v438 I c) = v439 I c := rfl
def v446 (c : Dev nD) : FVec F S64x512 .f32 := k0_pay40 (v445 I c)
theorem v446_val (c : Dev nD) : k0_pay40 (v445 I c) = v446 I c := rfl
def v453 (c : Dev nD) : FVec F S64x512 .f32 := k0_pay41 (v452 I c)
theorem v453_val (c : Dev nD) : k0_pay41 (v452 I c) = v453 I c := rfl
def v460 (c : Dev nD) : Vec F S64x512 .f32 := (Memref.whole cc0_stg0_0).view.readAt (Elt F) (Rect.unit (s := S2048x512) (k0_off3 c 0#32 2#32) S64x512.size (k0_off3_inb c 0 2)).toLoadRect (I.x c)
theorem v460_eq (c : Dev nD) : (Memref.whole cc0_stg0_0).view.readAt (Elt F) (Rect.unit (s := S2048x512) (k0_off3 c 0#32 2#32) S64x512.size (k0_off3_inb c 0 2)).toLoadRect (I.x c) = v460 I c := rfl
def v463 (c : Dev nD) : Vec F S64x8 .f32 := (Memref.whole cc0_scratch0).view.readAt (Elt F) (Rect.unit (s := S2048x8) (k0_off4 c 0#32 2#32) S64x8.size (k0_off4_inb c 0 2)).toLoadRect (gates I c)
theorem v463_eq (c : Dev nD) : (Memref.whole cc0_scratch0).view.readAt (Elt F) (Rect.unit (s := S2048x8) (k0_off4 c 0#32 2#32) S64x8.size (k0_off4_inb c 0 2)).toLoadRect (gates I c) = v463 I c := rfl
def v468 (c : Dev nD) : Vec F S64x512 .f32 := (Memref.whole cc0_stg0_0).view.readAt (Elt F) (Rect.unit (s := S2048x512) (k0_off3 c 512#32 2#32) S64x512.size (k0_off3_inb c 1 2)).toLoadRect (I.x c)
theorem v468_eq (c : Dev nD) : (Memref.whole cc0_stg0_0).view.readAt (Elt F) (Rect.unit (s := S2048x512) (k0_off3 c 512#32 2#32) S64x512.size (k0_off3_inb c 1 2)).toLoadRect (I.x c) = v468 I c := rfl
def v471 (c : Dev nD) : Vec F S64x8 .f32 := (Memref.whole cc0_scratch0).view.readAt (Elt F) (Rect.unit (s := S2048x8) (k0_off4 c 512#32 2#32) S64x8.size (k0_off4_inb c 1 2)).toLoadRect (gates I c)
theorem v471_eq (c : Dev nD) : (Memref.whole cc0_scratch0).view.readAt (Elt F) (Rect.unit (s := S2048x8) (k0_off4 c 512#32 2#32) S64x8.size (k0_off4_inb c 1 2)).toLoadRect (gates I c) = v471 I c := rfl
def v476 (c : Dev nD) : Vec F S64x512 .f32 := (Memref.whole cc0_stg0_0).view.readAt (Elt F) (Rect.unit (s := S2048x512) (k0_off3 c 1024#32 2#32) S64x512.size (k0_off3_inb c 2 2)).toLoadRect (I.x c)
theorem v476_eq (c : Dev nD) : (Memref.whole cc0_stg0_0).view.readAt (Elt F) (Rect.unit (s := S2048x512) (k0_off3 c 1024#32 2#32) S64x512.size (k0_off3_inb c 2 2)).toLoadRect (I.x c) = v476 I c := rfl
def v479 (c : Dev nD) : Vec F S64x8 .f32 := (Memref.whole cc0_scratch0).view.readAt (Elt F) (Rect.unit (s := S2048x8) (k0_off4 c 1024#32 2#32) S64x8.size (k0_off4_inb c 2 2)).toLoadRect (gates I c)
theorem v479_eq (c : Dev nD) : (Memref.whole cc0_scratch0).view.readAt (Elt F) (Rect.unit (s := S2048x8) (k0_off4 c 1024#32 2#32) S64x8.size (k0_off4_inb c 2 2)).toLoadRect (gates I c) = v479 I c := rfl
def v484 (c : Dev nD) : Vec F S64x512 .f32 := (Memref.whole cc0_stg0_0).view.readAt (Elt F) (Rect.unit (s := S2048x512) (k0_off3 c 1536#32 2#32) S64x512.size (k0_off3_inb c 3 2)).toLoadRect (I.x c)
theorem v484_eq (c : Dev nD) : (Memref.whole cc0_stg0_0).view.readAt (Elt F) (Rect.unit (s := S2048x512) (k0_off3 c 1536#32 2#32) S64x512.size (k0_off3_inb c 3 2)).toLoadRect (I.x c) = v484 I c := rfl
def v487 (c : Dev nD) : Vec F S64x8 .f32 := (Memref.whole cc0_scratch0).view.readAt (Elt F) (Rect.unit (s := S2048x8) (k0_off4 c 1536#32 2#32) S64x8.size (k0_off4_inb c 3 2)).toLoadRect (gates I c)
theorem v487_eq (c : Dev nD) : (Memref.whole cc0_scratch0).view.readAt (Elt F) (Rect.unit (s := S2048x8) (k0_off4 c 1536#32 2#32) S64x8.size (k0_off4_inb c 3 2)).toLoadRect (gates I c) = v487 I c := rfl
def v488 (c : Dev nD) : FVec F S512x512 .f32 := k0_pay42 (v432 I c) (v439 I c) (v446 I c) (v453 I c) (v460 I c) (v468 I c) (v476 I c) (v484 I c)
theorem v488_val (c : Dev nD) : k0_pay42 (v432 I c) (v439 I c) (v446 I c) (v453 I c) (v460 I c) (v468 I c) (v476 I c) (v484 I c) = v488 I c := rfl
def v489 (c : Dev nD) : FVec F S512x8 .f32 := k0_pay43 (v434 I c) (v441 I c) (v448 I c) (v455 I c) (v463 I c) (v471 I c) (v479 I c) (v487 I c)
theorem v489_val (c : Dev nD) : k0_pay43 (v434 I c) (v441 I c) (v448 I c) (v455 I c) (v463 I c) (v471 I c) (v479 I c) (v487 I c) = v489 I c := rfl
def v490 : FVec F S512x1024 .f32 := k0_pay44 (F := F)
theorem v490_val : k0_pay44 (F := F) = v490 (F := F) := rfl
def v493 (c : Dev nD) : FVec F S512x512 .f32 := k0_pay45 (v432 I c) (v434 I c) (v439 I c) (v441 I c) (v446 I c) (v448 I c) (v453 I c) (v455 I c) (v460 I c) (v463 I c) (v468 I c) (v471 I c) (v476 I c) (v479 I c) (v484 I c) (v487 I c)
theorem v493_val (c : Dev nD) : k0_pay45 (v432 I c) (v434 I c) (v439 I c) (v441 I c) (v446 I c) (v448 I c) (v453 I c) (v455 I c) (v460 I c) (v463 I c) (v468 I c) (v471 I c) (v476 I c) (v479 I c) (v484 I c) (v487 I c) = v493 I c := rfl
def v494 (c : Dev nD) : Vec F S1x512x1024 .f32 := (Memref.whole cc0_stg3_0).view.readAt (Elt F) (Rect.unit (s := S8x512x1024) ![0, 0, 0] S1x512x1024.size inb_S8x512x1024_S1x512x1024_0_0_0).toLoadRect (I.W c)
theorem v494_eq (c : Dev nD) : (Memref.whole cc0_stg3_0).view.readAt (Elt F) (Rect.unit (s := S8x512x1024) ![0, 0, 0] S1x512x1024.size inb_S8x512x1024_S1x512x1024_0_0_0).toLoadRect (I.W c) = v494 I c := rfl
def v501 (c : Dev nD) : Vec F S1x512x1024 .f32 := (Memref.whole cc0_stg3_0).view.readAt (Elt F) (Rect.unit (s := S8x512x1024) ![1, 0, 0] S1x512x1024.size inb_S8x512x1024_S1x512x1024_1_0_0).toLoadRect (I.W c)
theorem v501_eq (c : Dev nD) : (Memref.whole cc0_stg3_0).view.readAt (Elt F) (Rect.unit (s := S8x512x1024) ![1, 0, 0] S1x512x1024.size inb_S8x512x1024_S1x512x1024_1_0_0).toLoadRect (I.W c) = v501 I c := rfl
def v508 (c : Dev nD) : Vec F S1x512x1024 .f32 := (Memref.whole cc0_stg3_0).view.readAt (Elt F) (Rect.unit (s := S8x512x1024) ![2, 0, 0] S1x512x1024.size inb_S8x512x1024_S1x512x1024_2_0_0).toLoadRect (I.W c)
theorem v508_eq (c : Dev nD) : (Memref.whole cc0_stg3_0).view.readAt (Elt F) (Rect.unit (s := S8x512x1024) ![2, 0, 0] S1x512x1024.size inb_S8x512x1024_S1x512x1024_2_0_0).toLoadRect (I.W c) = v508 I c := rfl
def v515 (c : Dev nD) : Vec F S1x512x1024 .f32 := (Memref.whole cc0_stg3_0).view.readAt (Elt F) (Rect.unit (s := S8x512x1024) ![3, 0, 0] S1x512x1024.size inb_S8x512x1024_S1x512x1024_3_0_0).toLoadRect (I.W c)
theorem v515_eq (c : Dev nD) : (Memref.whole cc0_stg3_0).view.readAt (Elt F) (Rect.unit (s := S8x512x1024) ![3, 0, 0] S1x512x1024.size inb_S8x512x1024_S1x512x1024_3_0_0).toLoadRect (I.W c) = v515 I c := rfl
def v522 (c : Dev nD) : Vec F S1x512x1024 .f32 := (Memref.whole cc0_stg3_0).view.readAt (Elt F) (Rect.unit (s := S8x512x1024) ![4, 0, 0] S1x512x1024.size inb_S8x512x1024_S1x512x1024_4_0_0).toLoadRect (I.W c)
theorem v522_eq (c : Dev nD) : (Memref.whole cc0_stg3_0).view.readAt (Elt F) (Rect.unit (s := S8x512x1024) ![4, 0, 0] S1x512x1024.size inb_S8x512x1024_S1x512x1024_4_0_0).toLoadRect (I.W c) = v522 I c := rfl
def v529 (c : Dev nD) : Vec F S1x512x1024 .f32 := (Memref.whole cc0_stg3_0).view.readAt (Elt F) (Rect.unit (s := S8x512x1024) ![5, 0, 0] S1x512x1024.size inb_S8x512x1024_S1x512x1024_5_0_0).toLoadRect (I.W c)
theorem v529_eq (c : Dev nD) : (Memref.whole cc0_stg3_0).view.readAt (Elt F) (Rect.unit (s := S8x512x1024) ![5, 0, 0] S1x512x1024.size inb_S8x512x1024_S1x512x1024_5_0_0).toLoadRect (I.W c) = v529 I c := rfl
def v532 (c : Dev nD) : FVec F S512x1024 .f32 := k0_pay46 (v488 I c) (v489 I c) (v490 (F := F)) (v493 I c) (v494 I c) (v501 I c) (v508 I c) (v515 I c) (v522 I c) (v529 I c)
theorem v532_val (c : Dev nD) : k0_pay46 (v488 I c) (v489 I c) (v490 (F := F)) (v493 I c) (v494 I c) (v501 I c) (v508 I c) (v515 I c) (v522 I c) (v529 I c) = v532 I c := rfl
def v536 (c : Dev nD) : Vec F S1x512x1024 .f32 := (Memref.whole cc0_stg3_0).view.readAt (Elt F) (Rect.unit (s := S8x512x1024) ![6, 0, 0] S1x512x1024.size inb_S8x512x1024_S1x512x1024_6_0_0).toLoadRect (I.W c)
theorem v536_eq (c : Dev nD) : (Memref.whole cc0_stg3_0).view.readAt (Elt F) (Rect.unit (s := S8x512x1024) ![6, 0, 0] S1x512x1024.size inb_S8x512x1024_S1x512x1024_6_0_0).toLoadRect (I.W c) = v536 I c := rfl
def v543 (c : Dev nD) : Vec F S1x512x1024 .f32 := (Memref.whole cc0_stg3_0).view.readAt (Elt F) (Rect.unit (s := S8x512x1024) ![7, 0, 0] S1x512x1024.size inb_S8x512x1024_S1x512x1024_7_0_0).toLoadRect (I.W c)
theorem v543_eq (c : Dev nD) : (Memref.whole cc0_stg3_0).view.readAt (Elt F) (Rect.unit (s := S8x512x1024) ![7, 0, 0] S1x512x1024.size inb_S8x512x1024_S1x512x1024_7_0_0).toLoadRect (I.W c) = v543 I c := rfl
def v557 (c : Dev nD) : Vec F S1x256x1024 .bf16 := sar1 I (aL c)
def v548 (c : Dev nD) : FVec F S256x1024 .f32 := k0_pay48 (v488 I c) (v489 I c) (v532 I c) (v536 I c) (v543 I c)
theorem v548_val (c : Dev nD) : k0_pay48 (v488 I c) (v489 I c) (v532 I c) (v536 I c) (v543 I c) = v548 I c := rfl
def v560 (c : Dev nD) : FVec F S256x1024 .f32 := k0_pay49 (v488 I c) (v489 I c) (v532 I c) (v536 I c) (v543 I c) (v557 I c)
theorem v560_val (c : Dev nD) : k0_pay49 (v488 I c) (v489 I c) (v532 I c) (v536 I c) (v543 I c) (v557 I c) = v560 I c := rfl
def v569 (c : Dev nD) : Vec F S1x256x1024 .bf16 := sal1 I (aR c)
def sar2 (c : Dev nD) : FVec F S1x256x1024 .bf16 := k0_pay50 (v560 I c)
theorem sar2_val (c : Dev nD) : k0_pay50 (v560 I c) = sar2 I c := rfl
def v589 (c : Dev nD) : FVec F S256x1024 .bf16 := k0_pay51 (v548 I c) (v569 I c)
theorem v589_val (c : Dev nD) : k0_pay51 (v548 I c) (v569 I c) = v589 I c := rfl
def sal2 (c : Dev nD) : FVec F S1x256x1024 .bf16 := k0_pay52 (v589 I c)
theorem sal2_val (c : Dev nD) : k0_pay52 (v589 I c) = sal2 I c := rfl
def v623 (c : Dev nD) : Vec F S64x512 .f32 := (Memref.whole cc0_stg0_0).view.readAt (Elt F) (Rect.unit (s := S2048x512) (k0_off1 c 0#32 3#32) S64x512.size (k0_off1_inb c 0 3)).toLoadRect (I.x c)
theorem v623_eq (c : Dev nD) : (Memref.whole cc0_stg0_0).view.readAt (Elt F) (Rect.unit (s := S2048x512) (k0_off1 c 0#32 3#32) S64x512.size (k0_off1_inb c 0 3)).toLoadRect (I.x c) = v623 I c := rfl
def v626 (c : Dev nD) : Vec F S64x8 .f32 := (Memref.whole cc0_scratch0).view.readAt (Elt F) (Rect.unit (s := S2048x8) (k0_off2 c 0#32 3#32) S64x8.size (k0_off2_inb c 0 3)).toLoadRect (gates I c)
theorem v626_eq (c : Dev nD) : (Memref.whole cc0_scratch0).view.readAt (Elt F) (Rect.unit (s := S2048x8) (k0_off2 c 0#32 3#32) S64x8.size (k0_off2_inb c 0 3)).toLoadRect (gates I c) = v626 I c := rfl
def v630 (c : Dev nD) : Vec F S64x512 .f32 := (Memref.whole cc0_stg0_0).view.readAt (Elt F) (Rect.unit (s := S2048x512) (k0_off1 c 512#32 3#32) S64x512.size (k0_off1_inb c 1 3)).toLoadRect (I.x c)
theorem v630_eq (c : Dev nD) : (Memref.whole cc0_stg0_0).view.readAt (Elt F) (Rect.unit (s := S2048x512) (k0_off1 c 512#32 3#32) S64x512.size (k0_off1_inb c 1 3)).toLoadRect (I.x c) = v630 I c := rfl
def v633 (c : Dev nD) : Vec F S64x8 .f32 := (Memref.whole cc0_scratch0).view.readAt (Elt F) (Rect.unit (s := S2048x8) (k0_off2 c 512#32 3#32) S64x8.size (k0_off2_inb c 1 3)).toLoadRect (gates I c)
theorem v633_eq (c : Dev nD) : (Memref.whole cc0_scratch0).view.readAt (Elt F) (Rect.unit (s := S2048x8) (k0_off2 c 512#32 3#32) S64x8.size (k0_off2_inb c 1 3)).toLoadRect (gates I c) = v633 I c := rfl
def v637 (c : Dev nD) : Vec F S64x512 .f32 := (Memref.whole cc0_stg0_0).view.readAt (Elt F) (Rect.unit (s := S2048x512) (k0_off1 c 1024#32 3#32) S64x512.size (k0_off1_inb c 2 3)).toLoadRect (I.x c)
theorem v637_eq (c : Dev nD) : (Memref.whole cc0_stg0_0).view.readAt (Elt F) (Rect.unit (s := S2048x512) (k0_off1 c 1024#32 3#32) S64x512.size (k0_off1_inb c 2 3)).toLoadRect (I.x c) = v637 I c := rfl
def v640 (c : Dev nD) : Vec F S64x8 .f32 := (Memref.whole cc0_scratch0).view.readAt (Elt F) (Rect.unit (s := S2048x8) (k0_off2 c 1024#32 3#32) S64x8.size (k0_off2_inb c 2 3)).toLoadRect (gates I c)
theorem v640_eq (c : Dev nD) : (Memref.whole cc0_scratch0).view.readAt (Elt F) (Rect.unit (s := S2048x8) (k0_off2 c 1024#32 3#32) S64x8.size (k0_off2_inb c 2 3)).toLoadRect (gates I c) = v640 I c := rfl
def v644 (c : Dev nD) : Vec F S64x512 .f32 := (Memref.whole cc0_stg0_0).view.readAt (Elt F) (Rect.unit (s := S2048x512) (k0_off1 c 1536#32 3#32) S64x512.size (k0_off1_inb c 3 3)).toLoadRect (I.x c)
theorem v644_eq (c : Dev nD) : (Memref.whole cc0_stg0_0).view.readAt (Elt F) (Rect.unit (s := S2048x512) (k0_off1 c 1536#32 3#32) S64x512.size (k0_off1_inb c 3 3)).toLoadRect (I.x c) = v644 I c := rfl
def v647 (c : Dev nD) : Vec F S64x8 .f32 := (Memref.whole cc0_scratch0).view.readAt (Elt F) (Rect.unit (s := S2048x8) (k0_off2 c 1536#32 3#32) S64x8.size (k0_off2_inb c 3 3)).toLoadRect (gates I c)
theorem v647_eq (c : Dev nD) : (Memref.whole cc0_scratch0).view.readAt (Elt F) (Rect.unit (s := S2048x8) (k0_off2 c 1536#32 3#32) S64x8.size (k0_off2_inb c 3 3)).toLoadRect (gates I c) = v647 I c := rfl
def v652 (c : Dev nD) : Vec F S64x512 .f32 := (Memref.whole cc0_stg0_0).view.readAt (Elt F) (Rect.unit (s := S2048x512) (k0_off3 c 0#32 3#32) S64x512.size (k0_off3_inb c 0 3)).toLoadRect (I.x c)
theorem v652_eq (c : Dev nD) : (Memref.whole cc0_stg0_0).view.readAt (Elt F) (Rect.unit (s := S2048x512) (k0_off3 c 0#32 3#32) S64x512.size (k0_off3_inb c 0 3)).toLoadRect (I.x c) = v652 I c := rfl
def v655 (c : Dev nD) : Vec F S64x8 .f32 := (Memref.whole cc0_scratch0).view.readAt (Elt F) (Rect.unit (s := S2048x8) (k0_off4 c 0#32 3#32) S64x8.size (k0_off4_inb c 0 3)).toLoadRect (gates I c)
theorem v655_eq (c : Dev nD) : (Memref.whole cc0_scratch0).view.readAt (Elt F) (Rect.unit (s := S2048x8) (k0_off4 c 0#32 3#32) S64x8.size (k0_off4_inb c 0 3)).toLoadRect (gates I c) = v655 I c := rfl
def v624 (c : Dev nD) : FVec F S64x512 .f32 := k0_pay53 (v623 I c)
theorem v624_val (c : Dev nD) : k0_pay53 (v623 I c) = v624 I c := rfl
def v631 (c : Dev nD) : FVec F S64x512 .f32 := k0_pay54 (v630 I c)
theorem v631_val (c : Dev nD) : k0_pay54 (v630 I c) = v631 I c := rfl
def v638 (c : Dev nD) : FVec F S64x512 .f32 := k0_pay55 (v637 I c)
theorem v638_val (c : Dev nD) : k0_pay55 (v637 I c) = v638 I c := rfl
def v645 (c : Dev nD) : FVec F S64x512 .f32 := k0_pay56 (v644 I c)
theorem v645_val (c : Dev nD) : k0_pay56 (v644 I c) = v645 I c := rfl
def v653 (c : Dev nD) : FVec F S64x512 .f32 := k0_pay57 (v652 I c)
theorem v653_val (c : Dev nD) : k0_pay57 (v652 I c) = v653 I c := rfl
def v660 (c : Dev nD) : Vec F S64x512 .f32 := (Memref.whole cc0_stg0_0).view.readAt (Elt F) (Rect.unit (s := S2048x512) (k0_off3 c 512#32 3#32) S64x512.size (k0_off3_inb c 1 3)).toLoadRect (I.x c)
theorem v660_eq (c : Dev nD) : (Memref.whole cc0_stg0_0).view.readAt (Elt F) (Rect.unit (s := S2048x512) (k0_off3 c 512#32 3#32) S64x512.size (k0_off3_inb c 1 3)).toLoadRect (I.x c) = v660 I c := rfl
def v663 (c : Dev nD) : Vec F S64x8 .f32 := (Memref.whole cc0_scratch0).view.readAt (Elt F) (Rect.unit (s := S2048x8) (k0_off4 c 512#32 3#32) S64x8.size (k0_off4_inb c 1 3)).toLoadRect (gates I c)
theorem v663_eq (c : Dev nD) : (Memref.whole cc0_scratch0).view.readAt (Elt F) (Rect.unit (s := S2048x8) (k0_off4 c 512#32 3#32) S64x8.size (k0_off4_inb c 1 3)).toLoadRect (gates I c) = v663 I c := rfl
def v668 (c : Dev nD) : Vec F S64x512 .f32 := (Memref.whole cc0_stg0_0).view.readAt (Elt F) (Rect.unit (s := S2048x512) (k0_off3 c 1024#32 3#32) S64x512.size (k0_off3_inb c 2 3)).toLoadRect (I.x c)
theorem v668_eq (c : Dev nD) : (Memref.whole cc0_stg0_0).view.readAt (Elt F) (Rect.unit (s := S2048x512) (k0_off3 c 1024#32 3#32) S64x512.size (k0_off3_inb c 2 3)).toLoadRect (I.x c) = v668 I c := rfl
def v671 (c : Dev nD) : Vec F S64x8 .f32 := (Memref.whole cc0_scratch0).view.readAt (Elt F) (Rect.unit (s := S2048x8) (k0_off4 c 1024#32 3#32) S64x8.size (k0_off4_inb c 2 3)).toLoadRect (gates I c)
theorem v671_eq (c : Dev nD) : (Memref.whole cc0_scratch0).view.readAt (Elt F) (Rect.unit (s := S2048x8) (k0_off4 c 1024#32 3#32) S64x8.size (k0_off4_inb c 2 3)).toLoadRect (gates I c) = v671 I c := rfl
def v676 (c : Dev nD) : Vec F S64x512 .f32 := (Memref.whole cc0_stg0_0).view.readAt (Elt F) (Rect.unit (s := S2048x512) (k0_off3 c 1536#32 3#32) S64x512.size (k0_off3_inb c 3 3)).toLoadRect (I.x c)
theorem v676_eq (c : Dev nD) : (Memref.whole cc0_stg0_0).view.readAt (Elt F) (Rect.unit (s := S2048x512) (k0_off3 c 1536#32 3#32) S64x512.size (k0_off3_inb c 3 3)).toLoadRect (I.x c) = v676 I c := rfl
def v679 (c : Dev nD) : Vec F S64x8 .f32 := (Memref.whole cc0_scratch0).view.readAt (Elt F) (Rect.unit (s := S2048x8) (k0_off4 c 1536#32 3#32) S64x8.size (k0_off4_inb c 3 3)).toLoadRect (gates I c)
theorem v679_eq (c : Dev nD) : (Memref.whole cc0_scratch0).view.readAt (Elt F) (Rect.unit (s := S2048x8) (k0_off4 c 1536#32 3#32) S64x8.size (k0_off4_inb c 3 3)).toLoadRect (gates I c) = v679 I c := rfl
def v686 (c : Dev nD) : Vec F S1x512x1024 .f32 := (Memref.whole cc0_stg3_0).view.readAt (Elt F) (Rect.unit (s := S8x512x1024) ![0, 0, 0] S1x512x1024.size inb_S8x512x1024_S1x512x1024_0_0_0).toLoadRect (I.W c)
theorem v686_eq (c : Dev nD) : (Memref.whole cc0_stg3_0).view.readAt (Elt F) (Rect.unit (s := S8x512x1024) ![0, 0, 0] S1x512x1024.size inb_S8x512x1024_S1x512x1024_0_0_0).toLoadRect (I.W c) = v686 I c := rfl
def v693 (c : Dev nD) : Vec F S1x512x1024 .f32 := (Memref.whole cc0_stg3_0).view.readAt (Elt F) (Rect.unit (s := S8x512x1024) ![1, 0, 0] S1x512x1024.size inb_S8x512x1024_S1x512x1024_1_0_0).toLoadRect (I.W c)
theorem v693_eq (c : Dev nD) : (Memref.whole cc0_stg3_0).view.readAt (Elt F) (Rect.unit (s := S8x512x1024) ![1, 0, 0] S1x512x1024.size inb_S8x512x1024_S1x512x1024_1_0_0).toLoadRect (I.W c) = v693 I c := rfl
def cst_457 : FVec F S512x1024 .f32 := constant S512x1024 .f32 0x00000000#32
theorem cst_457_val : (constant S512x1024 .f32 0x00000000#32 : FVec F S512x1024 .f32) = cst_457 := rfl
def v680 (c : Dev nD) : FVec F S512x512 .f32 := k0_pay58 (v624 I c) (v631 I c) (v638 I c) (v645 I c) (v653 I c) (v660 I c) (v668 I c) (v676 I c)
theorem v680_val (c : Dev nD) : k0_pay58 (v624 I c) (v631 I c) (v638 I c) (v645 I c) (v653 I c) (v660 I c) (v668 I c) (v676 I c) = v680 I c := rfl
def v681 (c : Dev nD) : FVec F S512x8 .f32 := k0_pay59 (v626 I c) (v633 I c) (v640 I c) (v647 I c) (v655 I c) (v663 I c) (v671 I c) (v679 I c)
theorem v681_val (c : Dev nD) : k0_pay59 (v626 I c) (v633 I c) (v640 I c) (v647 I c) (v655 I c) (v663 I c) (v671 I c) (v679 I c) = v681 I c := rfl
def v689 (c : Dev nD) : FVec F S512x1024 .f32 := k0_pay60 (v624 I c) (v626 I c) (v631 I c) (v633 I c) (v638 I c) (v640 I c) (v645 I c) (v647 I c) (v653 I c) (v655 I c) (v660 I c) (v663 I c) (v668 I c) (v671 I c) (v676 I c) (v679 I c) (v686 I c)
theorem v689_val (c : Dev nD) : k0_pay60 (v624 I c) (v626 I c) (v631 I c) (v633 I c) (v638 I c) (v640 I c) (v645 I c) (v647 I c) (v653 I c) (v655 I c) (v660 I c) (v663 I c) (v668 I c) (v671 I c) (v676 I c) (v679 I c) (v686 I c) = v689 I c := rfl
def v692 (c : Dev nD) : FVec F S512x512 .f32 := k0_pay61 (v624 I c) (v626 I c) (v631 I c) (v633 I c) (v638 I c) (v640 I c) (v645 I c) (v647 I c) (v653 I c) (v655 I c) (v660 I c) (v663 I c) (v668 I c) (v671 I c) (v676 I c) (v679 I c)
theorem v692_val (c : Dev nD) : k0_pay61 (v624 I c) (v626 I c) (v631 I c) (v633 I c) (v638 I c) (v640 I c) (v645 I c) (v647 I c) (v653 I c) (v655 I c) (v660 I c) (v663 I c) (v668 I c) (v671 I c) (v676 I c) (v679 I c) = v692 I c := rfl
def v694 (c : Dev nD) : FVec F S512x1024 .f32 := k0_pay62 (v693 I c)
theorem v694_val (c : Dev nD) : k0_pay62 (v693 I c) = v694 I c := rfl
def v700 (c : Dev nD) : Vec F S1x512x1024 .f32 := (Memref.whole cc0_stg3_0).view.readAt (Elt F) (Rect.unit (s := S8x512x1024) ![2, 0, 0] S1x512x1024.size inb_S8x512x1024_S1x512x1024_2_0_0).toLoadRect (I.W c)
theorem v700_eq (c : Dev nD) : (Memref.whole cc0_stg3_0).view.readAt (Elt F) (Rect.unit (s := S8x512x1024) ![2, 0, 0] S1x512x1024.size inb_S8x512x1024_S1x512x1024_2_0_0).toLoadRect (I.W c) = v700 I c := rfl
def v707 (c : Dev nD) : Vec F S1x512x1024 .f32 := (Memref.whole cc0_stg3_0).view.readAt (Elt F) (Rect.unit (s := S8x512x1024) ![3, 0, 0] S1x512x1024.size inb_S8x512x1024_S1x512x1024_3_0_0).toLoadRect (I.W c)
theorem v707_eq (c : Dev nD) : (Memref.whole cc0_stg3_0).view.readAt (Elt F) (Rect.unit (s := S8x512x1024) ![3, 0, 0] S1x512x1024.size inb_S8x512x1024_S1x512x1024_3_0_0).toLoadRect (I.W c) = v707 I c := rfl
def v714 (c : Dev nD) : Vec F S1x512x1024 .f32 := (Memref.whole cc0_stg3_0).view.readAt (Elt F) (Rect.unit (s := S8x512x1024) ![4, 0, 0] S1x512x1024.size inb_S8x512x1024_S1x512x1024_4_0_0).toLoadRect (I.W c)
theorem v714_eq (c : Dev nD) : (Memref.whole cc0_stg3_0).view.readAt (Elt F) (Rect.unit (s := S8x512x1024) ![4, 0, 0] S1x512x1024.size inb_S8x512x1024_S1x512x1024_4_0_0).toLoadRect (I.W c) = v714 I c := rfl
def v721 (c : Dev nD) : Vec F S1x512x1024 .f32 := (Memref.whole cc0_stg3_0).view.readAt (Elt F) (Rect.unit (s := S8x512x1024) ![5, 0, 0] S1x512x1024.size inb_S8x512x1024_S1x512x1024_5_0_0).toLoadRect (I.W c)
theorem v721_eq (c : Dev nD) : (Memref.whole cc0_stg3_0).view.readAt (Elt F) (Rect.unit (s := S8x512x1024) ![5, 0, 0] S1x512x1024.size inb_S8x512x1024_S1x512x1024_5_0_0).toLoadRect (I.W c) = v721 I c := rfl
def v728 (c : Dev nD) : Vec F S1x512x1024 .f32 := (Memref.whole cc0_stg3_0).view.readAt (Elt F) (Rect.unit (s := S8x512x1024) ![6, 0, 0] S1x512x1024.size inb_S8x512x1024_S1x512x1024_6_0_0).toLoadRect (I.W c)
theorem v728_eq (c : Dev nD) : (Memref.whole cc0_stg3_0).view.readAt (Elt F) (Rect.unit (s := S8x512x1024) ![6, 0, 0] S1x512x1024.size inb_S8x512x1024_S1x512x1024_6_0_0).toLoadRect (I.W c) = v728 I c := rfl
def v731 (c : Dev nD) : FVec F S512x1024 .f32 := k0_pay63 (v680 I c) (v681 I c) (v689 I c) (v692 I c) (v694 I c) (cst_457 (F := F)) (v700 I c) (v707 I c) (v714 I c) (v721 I c) (v728 I c)
theorem v731_val (c : Dev nD) : k0_pay63 (v680 I c) (v681 I c) (v689 I c) (v692 I c) (v694 I c) (cst_457 (F := F)) (v700 I c) (v707 I c) (v714 I c) (v721 I c) (v728 I c) = v731 I c := rfl
def v734 (c : Dev nD) : FVec F S512x512 .f32 := k0_pay64 (v680 I c) (v681 I c)
theorem v734_val (c : Dev nD) : k0_pay64 (v680 I c) (v681 I c) = v734 I c := rfl
def v735 (c : Dev nD) : Vec F S1x512x1024 .f32 := (Memref.whole cc0_stg3_0).view.readAt (Elt F) (Rect.unit (s := S8x512x1024) ![7, 0, 0] S1x512x1024.size inb_S8x512x1024_S1x512x1024_7_0_0).toLoadRect (I.W c)
theorem v735_eq (c : Dev nD) : (Memref.whole cc0_stg3_0).view.readAt (Elt F) (Rect.unit (s := S8x512x1024) ![7, 0, 0] S1x512x1024.size inb_S8x512x1024_S1x512x1024_7_0_0).toLoadRect (I.W c) = v735 I c := rfl
def v749 (c : Dev nD) : Vec F S1x256x1024 .bf16 := sar2 I (aL c)
def v761 (c : Dev nD) : Vec F S1x256x1024 .bf16 := sal2 I (aR c)
def v740 (c : Dev nD) : FVec F S256x1024 .f32 := k0_pay66 (v731 I c) (v734 I c) (v735 I c)
theorem v740_val (c : Dev nD) : k0_pay66 (v731 I c) (v734 I c) (v735 I c) = v740 I c := rfl
def v752 (c : Dev nD) : FVec F S256x1024 .f32 := k0_pay67 (v731 I c) (v734 I c) (v735 I c) (v749 I c)
theorem v752_val (c : Dev nD) : k0_pay67 (v731 I c) (v734 I c) (v735 I c) (v749 I c) = v752 I c := rfl
def v762 (c : Dev nD) : FVec F S256x1024 .bf16 := k0_pay68 (v761 I c)
theorem v762_val (c : Dev nD) : k0_pay68 (v761 I c) = v762 I c := rfl
/-- The accumulator after the first phase: eight blocks of rows. -/
def acc (c : Dev nD) : FVec F S512x1024 .f32 :=
  VecWindow.put (VecWindow.put (VecWindow.put (VecWindow.put (VecWindow.put (VecWindow.put (VecWindow.put (VecWindow.put ((fun _ => cst_37 : FVec F S512x1024 .f32)) ![0, 0] S64x1024.size (k0_pay70 (v752 I c))) ![64, 0] S64x1024.size (k0_pay71 (v740 I c) (v762 I c))) ![128, 0] S64x1024.size (k0_pay72 (v752 I c))) ![192, 0] S64x1024.size (k0_pay73 (v740 I c) (v762 I c))) ![256, 0] S64x1024.size (k0_pay74 (v752 I c))) ![320, 0] S64x1024.size (k0_pay75 (v740 I c) (v762 I c))) ![384, 0] S64x1024.size (k0_pay76 (v752 I c))) ![448, 0] S64x1024.size (k0_pay77 (v740 I c) (v762 I c))

def v806 (c : Dev nD) : Vec F S64x1024 .f32 := (Memref.whole cc0_scratch1).view.readAt (Elt F) (Rect.unit (s := S512x1024) (k0_off5 c 0#32) S64x1024.size (k0_off5_inb c 0)).toLoadRect (acc I c)
theorem v806_eq (c : Dev nD) : (Memref.whole cc0_scratch1).view.readAt (Elt F) (Rect.unit (s := S512x1024) (k0_off5 c 0#32) S64x1024.size (k0_off5_inb c 0)).toLoadRect (acc I c) = v806 I c := rfl
def v810 (c : Dev nD) : Vec F S64x1024 .f32 := (Memref.whole cc0_scratch1).view.readAt (Elt F) (Rect.unit (s := S512x1024) (k0_off6 c 0#32) S64x1024.size (k0_off6_inb c 0)).toLoadRect (acc I c)
theorem v810_eq (c : Dev nD) : (Memref.whole cc0_scratch1).view.readAt (Elt F) (Rect.unit (s := S512x1024) (k0_off6 c 0#32) S64x1024.size (k0_off6_inb c 0)).toLoadRect (acc I c) = v810 I c := rfl
def sbr0 (c : Dev nD) : FVec F S1x64x1024 .bf16 := k0_pay78 (v806 I c)
theorem sbr0_val (c : Dev nD) : k0_pay78 (v806 I c) = sbr0 I c := rfl
def sbl0 (c : Dev nD) : FVec F S1x64x1024 .bf16 := k0_pay79 (v810 I c)
theorem sbl0_val (c : Dev nD) : k0_pay79 (v810 I c) = sbl0 I c := rfl
def v848 (c : Dev nD) : Vec F S64x1024 .f32 := (Memref.whole cc0_scratch1).view.readAt (Elt F) (Rect.unit (s := S512x1024) (k0_off5 c 1#32) S64x1024.size (k0_off5_inb c 1)).toLoadRect (acc I c)
theorem v848_eq (c : Dev nD) : (Memref.whole cc0_scratch1).view.readAt (Elt F) (Rect.unit (s := S512x1024) (k0_off5 c 1#32) S64x1024.size (k0_off5_inb c 1)).toLoadRect (acc I c) = v848 I c := rfl
def v852 (c : Dev nD) : Vec F S64x1024 .f32 := (Memref.whole cc0_scratch1).view.readAt (Elt F) (Rect.unit (s := S512x1024) (k0_off6 c 1#32) S64x1024.size (k0_off6_inb c 1)).toLoadRect (acc I c)
theorem v852_eq (c : Dev nD) : (Memref.whole cc0_scratch1).view.readAt (Elt F) (Rect.unit (s := S512x1024) (k0_off6 c 1#32) S64x1024.size (k0_off6_inb c 1)).toLoadRect (acc I c) = v852 I c := rfl
def v861 (c : Dev nD) : Vec F S1x64x1024 .bf16 := sbr0 I (bL c)
def v873 (c : Dev nD) : Vec F S1x64x1024 .bf16 := sbl0 I (bR c)
def sbr1 (c : Dev nD) : FVec F S1x64x1024 .bf16 := k0_pay80 (v848 I c) (v861 I c)
theorem sbr1_val (c : Dev nD) : k0_pay80 (v848 I c) (v861 I c) = sbr1 I c := rfl
def sbl1 (c : Dev nD) : FVec F S1x64x1024 .bf16 := k0_pay81 (v852 I c) (v873 I c)
theorem sbl1_val (c : Dev nD) : k0_pay81 (v852 I c) (v873 I c) = sbl1 I c := rfl
def v914 (c : Dev nD) : Vec F S64x1024 .f32 := (Memref.whole cc0_scratch1).view.readAt (Elt F) (Rect.unit (s := S512x1024) (k0_off5 c 2#32) S64x1024.size (k0_off5_inb c 2)).toLoadRect (acc I c)
theorem v914_eq (c : Dev nD) : (Memref.whole cc0_scratch1).view.readAt (Elt F) (Rect.unit (s := S512x1024) (k0_off5 c 2#32) S64x1024.size (k0_off5_inb c 2)).toLoadRect (acc I c) = v914 I c := rfl
def v918 (c : Dev nD) : Vec F S64x1024 .f32 := (Memref.whole cc0_scratch1).view.readAt (Elt F) (Rect.unit (s := S512x1024) (k0_off6 c 2#32) S64x1024.size (k0_off6_inb c 2)).toLoadRect (acc I c)
theorem v918_eq (c : Dev nD) : (Memref.whole cc0_scratch1).view.readAt (Elt F) (Rect.unit (s := S512x1024) (k0_off6 c 2#32) S64x1024.size (k0_off6_inb c 2)).toLoadRect (acc I c) = v918 I c := rfl
def v927 (c : Dev nD) : Vec F S1x64x1024 .bf16 := sbr1 I (bL c)
def v939 (c : Dev nD) : Vec F S1x64x1024 .bf16 := sbl1 I (bR c)
def v930 (c : Dev nD) : FVec F S64x1024 .f32 := k0_pay82 (v914 I c) (v927 I c)
theorem v930_val (c : Dev nD) : k0_pay82 (v914 I c) (v927 I c) = v930 I c := rfl
def v942 (c : Dev nD) : FVec F S64x1024 .f32 := k0_pay83 (v918 I c) (v939 I c)
theorem v942_val (c : Dev nD) : k0_pay83 (v918 I c) (v939 I c) = v942 I c := rfl
def sbr2 (c : Dev nD) : FVec F S1x64x1024 .bf16 := k0_pay84 (v930 I c)
theorem sbr2_val (c : Dev nD) : k0_pay84 (v930 I c) = sbr2 I c := rfl
def sbl2 (c : Dev nD) : FVec F S1x64x1024 .bf16 := k0_pay85 (v942 I c)
theorem sbl2_val (c : Dev nD) : k0_pay85 (v942 I c) = sbl2 I c := rfl
def v992 (c : Dev nD) : Vec F S64x1024 .f32 := (Memref.whole cc0_scratch1).view.readAt (Elt F) (Rect.unit (s := S512x1024) (k0_off5 c 3#32) S64x1024.size (k0_off5_inb c 3)).toLoadRect (acc I c)
theorem v992_eq (c : Dev nD) : (Memref.whole cc0_scratch1).view.readAt (Elt F) (Rect.unit (s := S512x1024) (k0_off5 c 3#32) S64x1024.size (k0_off5_inb c 3)).toLoadRect (acc I c) = v992 I c := rfl
def v996 (c : Dev nD) : Vec F S64x1024 .f32 := (Memref.whole cc0_scratch1).view.readAt (Elt F) (Rect.unit (s := S512x1024) (k0_off6 c 3#32) S64x1024.size (k0_off6_inb c 3)).toLoadRect (acc I c)
theorem v996_eq (c : Dev nD) : (Memref.whole cc0_scratch1).view.readAt (Elt F) (Rect.unit (s := S512x1024) (k0_off6 c 3#32) S64x1024.size (k0_off6_inb c 3)).toLoadRect (acc I c) = v996 I c := rfl
def v1005 (c : Dev nD) : Vec F S1x64x1024 .bf16 := sbr2 I (bL c)
def v1017 (c : Dev nD) : Vec F S1x64x1024 .bf16 := sbl2 I (bR c)
/-- The result block: two blocks of rows. -/
def out (c : Dev nD) : FVec F S128x1024 .f32 :=
  VecWindow.put (VecWindow.put ((fun _ => cst_37 : FVec F S128x1024 .f32)) ![0, 0] S64x1024.size (k0_pay86 (v992 I c) (v1005 I c))) ![64, 0] S64x1024.size (k0_pay87 (v996 I c) (v1017 I c))

/-- What each device sends in each direction at each hop. -/
def sent : Sent F where
  ar := fun k c => match k with | 0 => sar0 I c | 1 => sar1 I c | 2 => sar2 I c
  al := fun k c => match k with | 0 => sal0 I c | 1 => sal1 I c | 2 => sal2 I c
  br := fun k c => match k with | 0 => sbr0 I c | 1 => sbr1 I c | 2 => sbr2 I c
  bl := fun k c => match k with | 0 => sbl0 I c | 1 => sbl1 I c | 2 => sbl2 I c

end Cert.AllReduce
-- ==== Proof.Stores.lean ====
/-
# What the stores leave

The contents of the gates' buffer, of the accumulator and of the result block after the kernel's stores, and small facts
about the exchange's order and credits.
-/
module

public import proofs.«01_k».proof.Proof.Values

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F)

omit [FloatOps F] in
/-- A wait on `s` is below everything that remains to be paid. -/
theorem before (c : Dev nD) (s : SemLoc sig) (j : ℕ) (h : (((debts c).drop j).all fun d => decide (semLv s < semLv d.2.1)) = true) :
    ∀ d ∈ (debts c).drop j, semLv s < semLv d.2.1 := fun d hd => of_decide_eq_true (List.all_eq_true.mp h d hd)

/-- An unmasked store of a rectangle of a whole buffer puts the payload there. -/
theorem whole_put {Val : EltTy → Type} (b : Ref sig .tc) (off size : Fin b.ty.shape.rank → ℕ) (inb : ∀ a, off a + size a ≤ b.ty.shape.size a)
    (f : b.ty.Contents Val) (w : (Rect.unit off size inb).shape.Idx → Val b.ty.elt) :
    ((View.whole b).slice (Rect.unit off size inb)).write Val f w Finset.univ = VecWindow.put f off size w := by
  have h := View.read_writes_cons_put (View.whole b) f inb w [] rfl
  rwa [View.read_whole, View.writes_cons, View.writes_nil, View.read_whole] at h

theorem gates_write (c : Dev nD) (f : FVec F S2048x8 .f32) :
    ((Memref.whole cc0_scratch0).access (Rect.unit (s := S2048x8) ![0, 0] S2048x8.size inb_S2048x8_S2048x8_0_0)).write (Elt F) f (k0_pay3 (v2 c) (v56 I c) (v66 I c) (cst_37 (F := F))) Finset.univ = gates I c :=
  Memref.write_access_unit_zero_univ (Elt F) cc0_scratch0 (funext fun a => by match a with | ⟨0, _⟩ => rfl | ⟨1, _⟩ => rfl) _ _ _

/-- Blocks that cover every row leave nothing of what was there. -/
theorem acc_cover (f g : FVec F S512x1024 .f32) (w0 w1 w2 w3 w4 w5 w6 w7 : FVec F S64x1024 .f32) :
    (VecWindow.put (VecWindow.put (VecWindow.put (VecWindow.put (VecWindow.put (VecWindow.put (VecWindow.put (VecWindow.put (f) ![0, 0] S64x1024.size w0) ![64, 0] S64x1024.size w1) ![128, 0] S64x1024.size w2) ![192, 0] S64x1024.size w3) ![256, 0] S64x1024.size w4) ![320, 0] S64x1024.size w5) ![384, 0] S64x1024.size w6) ![448, 0] S64x1024.size w7 : FVec F S512x1024 .f32)
      = VecWindow.put (VecWindow.put (VecWindow.put (VecWindow.put (VecWindow.put (VecWindow.put (VecWindow.put (VecWindow.put (g) ![0, 0] S64x1024.size w0) ![64, 0] S64x1024.size w1) ![128, 0] S64x1024.size w2) ![192, 0] S64x1024.size w3) ![256, 0] S64x1024.size w4) ![320, 0] S64x1024.size w5) ![384, 0] S64x1024.size w6) ![448, 0] S64x1024.size w7 := by
  funext y
  have h0 : (y 0).val < 512 := (y 0).isLt
  have h1 : (y 1).val < 1024 := (y 1).isLt
  have key : ∀ o : ℕ, o ≤ (y 0).val → (y 0).val < o + 64 → ∀ a : Fin 2, (![o, 0] : Fin 2 → ℕ) a ≤ (y a).val ∧ (y a).val < (![o, 0] : Fin 2 → ℕ) a + S64x1024.size a := by
    intro o ho ho' a
    match a with
    | ⟨0, _⟩ => exact ⟨ho, ho'⟩
    | ⟨1, _⟩ => exact ⟨Nat.zero_le _, by show (y 1).val < 0 + 1024; omega⟩
  unfold VecWindow.put
  split
  · rfl
  next h7 =>
  split
  · rfl
  next h6 =>
  split
  · rfl
  next h5 =>
  split
  · rfl
  next h4 =>
  split
  · rfl
  next h3 =>
  split
  · rfl
  next h2 =>
  split
  · rfl
  next h1 =>
  split
  · rfl
  next h0 =>
  exfalso
  have k0 := mt (fun h : 0 ≤ (y 0).val ∧ (y 0).val < 0 + 64 => key 0 h.1 h.2) h0
  have k1 := mt (fun h : 64 ≤ (y 0).val ∧ (y 0).val < 64 + 64 => key 64 h.1 h.2) h1
  have k2 := mt (fun h : 128 ≤ (y 0).val ∧ (y 0).val < 128 + 64 => key 128 h.1 h.2) h2
  have k3 := mt (fun h : 192 ≤ (y 0).val ∧ (y 0).val < 192 + 64 => key 192 h.1 h.2) h3
  have k4 := mt (fun h : 256 ≤ (y 0).val ∧ (y 0).val < 256 + 64 => key 256 h.1 h.2) h4
  have k5 := mt (fun h : 320 ≤ (y 0).val ∧ (y 0).val < 320 + 64 => key 320 h.1 h.2) h5
  have k6 := mt (fun h : 384 ≤ (y 0).val ∧ (y 0).val < 384 + 64 => key 384 h.1 h.2) h6
  have k7 := mt (fun h : 448 ≤ (y 0).val ∧ (y 0).val < 448 + 64 => key 448 h.1 h.2) h7
  omega

omit [FloatOps F] in
theorem acc_put (o : ℕ) (inb : ∀ a, (![o, 0] : Fin 2 → ℕ) a + S64x1024.size a ≤ S512x1024.size a) (f : FVec F S512x1024 .f32) (w : FVec F S64x1024 .f32) :
    ((Memref.whole cc0_scratch1).access (Rect.unit (s := S512x1024) ![o, 0] S64x1024.size inb)).write (Elt F) f w Finset.univ
      = (VecWindow.put f ![o, 0] S64x1024.size w : FVec F S512x1024 .f32) :=
  whole_put (Val := Elt F) cc0_scratch1 ![o, 0] S64x1024.size inb f w

theorem acc_writes (c : Dev nD) (f : FVec F S512x1024 .f32) :
    (VecWindow.put (VecWindow.put (VecWindow.put (VecWindow.put (VecWindow.put (VecWindow.put (VecWindow.put (VecWindow.put (f) ![0, 0] S64x1024.size (k0_pay70 (v752 I c))) ![64, 0] S64x1024.size (k0_pay71 (v740 I c) (v762 I c))) ![128, 0] S64x1024.size (k0_pay72 (v752 I c))) ![192, 0] S64x1024.size (k0_pay73 (v740 I c) (v762 I c))) ![256, 0] S64x1024.size (k0_pay74 (v752 I c))) ![320, 0] S64x1024.size (k0_pay75 (v740 I c) (v762 I c))) ![384, 0] S64x1024.size (k0_pay76 (v752 I c))) ![448, 0] S64x1024.size (k0_pay77 (v740 I c) (v762 I c)) : FVec F S512x1024 .f32) = acc I c :=
  acc_cover f _ _ _ _ _ _ _ _ _

/-- Blocks that cover every row leave nothing of what was there. -/
theorem out_cover (f g : FVec F S128x1024 .f32) (w0 w1 : FVec F S64x1024 .f32) :
    (VecWindow.put (VecWindow.put (f) ![0, 0] S64x1024.size w0) ![64, 0] S64x1024.size w1 : FVec F S128x1024 .f32)
      = VecWindow.put (VecWindow.put (g) ![0, 0] S64x1024.size w0) ![64, 0] S64x1024.size w1 := by
  funext y
  have h0 : (y 0).val < 128 := (y 0).isLt
  have h1 : (y 1).val < 1024 := (y 1).isLt
  have key : ∀ o : ℕ, o ≤ (y 0).val → (y 0).val < o + 64 → ∀ a : Fin 2, (![o, 0] : Fin 2 → ℕ) a ≤ (y a).val ∧ (y a).val < (![o, 0] : Fin 2 → ℕ) a + S64x1024.size a := by
    intro o ho ho' a
    match a with
    | ⟨0, _⟩ => exact ⟨ho, ho'⟩
    | ⟨1, _⟩ => exact ⟨Nat.zero_le _, by show (y 1).val < 0 + 1024; omega⟩
  unfold VecWindow.put
  split
  · rfl
  next h1 =>
  split
  · rfl
  next h0 =>
  exfalso
  have k0 := mt (fun h : 0 ≤ (y 0).val ∧ (y 0).val < 0 + 64 => key 0 h.1 h.2) h0
  have k1 := mt (fun h : 64 ≤ (y 0).val ∧ (y 0).val < 64 + 64 => key 64 h.1 h.2) h1
  omega

omit [FloatOps F] in
theorem out_put (o : ℕ) (inb : ∀ a, (![o, 0] : Fin 2 → ℕ) a + S64x1024.size a ≤ S128x1024.size a) (f : FVec F S128x1024 .f32) (w : FVec F S64x1024 .f32) :
    ((Memref.whole cc0_stg4_0).access (Rect.unit (s := S128x1024) ![o, 0] S64x1024.size inb)).write (Elt F) f w Finset.univ
      = (VecWindow.put f ![o, 0] S64x1024.size w : FVec F S128x1024 .f32) :=
  whole_put (Val := Elt F) cc0_stg4_0 ![o, 0] S64x1024.size inb f w

theorem out_writes (c : Dev nD) (f : FVec F S128x1024 .f32) :
    (VecWindow.put (VecWindow.put (f) ![0, 0] S64x1024.size (k0_pay86 (v992 I c) (v1005 I c))) ![64, 0] S64x1024.size (k0_pay87 (v996 I c) (v1017 I c)) : FVec F S128x1024 .f32) = out I c :=
  out_cover f _ _ _

theorem arC0_credit : (arC0).view.dmaCredit = NA := rfl
theorem arC1_credit : (arC1).view.dmaCredit = NA := rfl
theorem arC2_credit : (arC2).view.dmaCredit = NA := rfl
theorem arS0_credit : (arS0).view.dmaCredit = NA := rfl
theorem arS1_credit : (arS1).view.dmaCredit = NA := rfl
theorem alC0_credit : (alC0).view.dmaCredit = NA := rfl
theorem alC1_credit : (alC1).view.dmaCredit = NA := rfl
theorem alC2_credit : (alC2).view.dmaCredit = NA := rfl
theorem alS0_credit : (alS0).view.dmaCredit = NA := rfl
theorem alS1_credit : (alS1).view.dmaCredit = NA := rfl
theorem brC0_credit : (brC0).view.dmaCredit = NB := rfl
theorem brC1_credit : (brC1).view.dmaCredit = NB := rfl
theorem brC2_credit : (brC2).view.dmaCredit = NB := rfl
theorem brS0_credit : (brS0).view.dmaCredit = NB := rfl
theorem brS1_credit : (brS1).view.dmaCredit = NB := rfl
theorem blC0_credit : (blC0).view.dmaCredit = NB := rfl
theorem blC1_credit : (blC1).view.dmaCredit = NB := rfl
theorem blC2_credit : (blC2).view.dmaCredit = NB := rfl
theorem blS0_credit : (blS0).view.dmaCredit = NB := rfl
theorem blS1_credit : (blS1).view.dmaCredit = NB := rfl

omit [FloatOps F] in
/-- What this device's entry signal hands to the neighbour that writes its landing slots of this direction, and what it
    receives from the neighbour it will write to. -/
theorem hand_ar (c : Dev nD) : (iprop(someAt arC0 c ∗ someAt arC1 c ∗ someAt arC2 c) : sProp 𝕄) ⊢ barPay (aL c) 0 :=
  Entails.of_eq (by show _ = iprop(someAt arC0 (aR (aL c)) ∗ someAt arC1 (aR (aL c)) ∗ someAt arC2 (aR (aL c))); rw [aR_aL])
omit [FloatOps F] in
theorem take_ar (c : Dev nD) : (barPay c 0 : sProp 𝕄) ⊢ iprop(someAt arC0 (aR c) ∗ someAt arC1 (aR c) ∗ someAt arC2 (aR c)) := Entails.of_eq rfl

omit [FloatOps F] in
/-- What this device's entry signal hands to the neighbour that writes its landing slots of this direction, and what it
    receives from the neighbour it will write to. -/
theorem hand_al (c : Dev nD) : (iprop(someAt alC0 c ∗ someAt alC1 c ∗ someAt alC2 c) : sProp 𝕄) ⊢ barPay (aR c) 1 :=
  Entails.of_eq (by show _ = iprop(someAt alC0 (aL (aR c)) ∗ someAt alC1 (aL (aR c)) ∗ someAt alC2 (aL (aR c))); rw [aL_aR])
omit [FloatOps F] in
theorem take_al (c : Dev nD) : (barPay c 1 : sProp 𝕄) ⊢ iprop(someAt alC0 (aL c) ∗ someAt alC1 (aL c) ∗ someAt alC2 (aL c)) := Entails.of_eq rfl

omit [FloatOps F] in
/-- What this device's entry signal hands to the neighbour that writes its landing slots of this direction, and what it
    receives from the neighbour it will write to. -/
theorem hand_br (c : Dev nD) : (iprop(someAt brC0 c ∗ someAt brC1 c ∗ someAt brC2 c) : sProp 𝕄) ⊢ barPay (bL c) 2 :=
  Entails.of_eq (by show _ = iprop(someAt brC0 (bR (bL c)) ∗ someAt brC1 (bR (bL c)) ∗ someAt brC2 (bR (bL c))); rw [bR_bL])
omit [FloatOps F] in
theorem take_br (c : Dev nD) : (barPay c 2 : sProp 𝕄) ⊢ iprop(someAt brC0 (bR c) ∗ someAt brC1 (bR c) ∗ someAt brC2 (bR c)) := Entails.of_eq rfl

omit [FloatOps F] in
/-- What this device's entry signal hands to the neighbour that writes its landing slots of this direction, and what it
    receives from the neighbour it will write to. -/
theorem hand_bl (c : Dev nD) : (iprop(someAt blC0 c ∗ someAt blC1 c ∗ someAt blC2 c) : sProp 𝕄) ⊢ barPay (bR c) 3 :=
  Entails.of_eq (by show _ = iprop(someAt blC0 (bL (bR c)) ∗ someAt blC1 (bL (bR c)) ∗ someAt blC2 (bL (bR c))); rw [bL_bR])
omit [FloatOps F] in
theorem take_bl (c : Dev nD) : (barPay c 3 : sProp 𝕄) ⊢ iprop(someAt blC0 (bL c) ∗ someAt blC1 (bL c) ∗ someAt blC2 (bL c)) := Entails.of_eq rfl

end Cert.AllReduce
-- ==== Proof.Parts1.lean ====
/-
# The body, parts 2 to 7

One statement per part of the body: what it needs, what it leaves, and what it returns.
-/
module

public import proofs.«01_k».proof.Proof.Stores

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (c : Dev nD)

theorem part2 (v24 : BitVec 32) (v30 : BitVec 32) (v33 : BitVec 32) (v35 : BitVec 32) {Q : (Σ' (v56 : FVec F S2048x128 .f32) (v66 : IVec S2048x128 1), F .f32) → sProp 𝕄} :
    iprop(records (sent I) ∗ levAts L lv ∗ owesAny c (owing c 0) ∗ dutyTok ER (barCell (aL c)) 0 0 ∗ (someAt arC0 c ∗ someAt arC1 c ∗ someAt arC2 c) ∗ dutyTok ER (barCell (aR c)) 0 1 ∗ (someAt alC0 c ∗ someAt alC1 c ∗ someAt alC2 c) ∗ dutyTok ER (barCell (bL c)) 0 2 ∗ (someAt brC0 c ∗ someAt brC1 c ∗ someAt brC2 c) ∗ dutyTok ER (barCell (bR c)) 0 3 ∗ (someAt blC0 c ∗ someAt blC1 c ∗ someAt blC2 c) ∗ cred (tallyAt (barCell c) () 4) ∗ atPos ER (barCell c) 0 ∅ 0 ∗ bufAt c (Memref.whole cc0_stg0_0) (I.x c) ∗ bufAt c (Memref.whole cc0_stg1_0) (I.rw c) ∗ bufAt c (Memref.whole cc0_stg2_0) (I.idx c))
      ⊢ iprop(iprop(iprop(owesAny c (owing c 4) ∗ atPos ER (barCell c) 1 ∅ 0 ∗ bufAt c (Memref.whole cc0_stg0_0) (I.x c) ∗ bufAt c (Memref.whole cc0_stg1_0) (I.rw c) ∗ bufAt c (Memref.whole cc0_stg2_0) (I.idx c) ∗ someAt arC0 (aR c) ∗ someAt arC1 (aR c) ∗ someAt arC2 (aR c) ∗ someAt alC0 (aL c) ∗ someAt alC1 (aL c) ∗ someAt alC2 (aL c) ∗ someAt brC0 (bR c) ∗ someAt brC1 (bR c) ∗ someAt brC2 (bR c) ∗ someAt blC0 (bL c) ∗ someAt blC1 (bL c) ∗ someAt blC2 (bL c) -∗ Q ⟨(v56 I c), (v66 I c), (cst_37 (F := F))⟩)) -∗ runs c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v24 v30 v33 (SemArray.scalar (sig.barrier 0 rfl)) v35) Q) := by
  rw [k0_part2_eq_skeleton]; unfold k0_part2_skel
  simp only [semSignalWord, semWaitWord, Prog.lift, Prog.bind_op, Prog.bind_ret, Prog.pure_eq_ret]
  iintro ⟨#HR, #HL, HO, Htb0, Hmyar, Htb1, Hmyal, Htb2, Hmybr, Htb3, Hmybl, Hcb, Hpb, Hx, Hrw, Hidx⟩ HK
  iapply (step_signal (sent I) c (aL c) (dev1_eq c) 0 0 rfl rfl) $$ [HO Htb0 Hmyar]
  · isplitr; · iexact HR
    isplitl [HO]; · iexact HO
    isplitl [Htb0]; · iexact Htb0
    iapply (hand_ar c); iexact Hmyar
  iintro HO
  iapply (step_signal (sent I) c (aR c) (dev2_eq c) 1 1 rfl rfl) $$ [HO Htb1 Hmyal]
  · isplitr; · iexact HR
    isplitl [HO]; · iexact HO
    isplitl [Htb1]; · iexact Htb1
    iapply (hand_al c); iexact Hmyal
  iintro HO
  iapply (step_signal (sent I) c (bL c) (dev3_eq c) 2 2 rfl rfl) $$ [HO Htb2 Hmybr]
  · isplitr; · iexact HR
    isplitl [HO]; · iexact HO
    isplitl [Htb2]; · iexact Htb2
    iapply (hand_br c); iexact Hmybr
  iintro HO
  iapply (step_signal (sent I) c (bR c) (dev4_eq c) 3 3 rfl rfl) $$ [HO Htb3 Hmybl]
  · isplitr; · iexact HR
    isplitl [HO]; · iexact HO
    isplitl [Htb3]; · iexact Htb3
    iapply (hand_bl c); iexact Hmybl
  iintro HO
  iapply (step_entry (sent I) c 4 (before c _ _ rfl) rfl) $$ [HO Hcb Hpb]
  · isplitr; · iexact HR
    isplitl [HO]; · iexact HO
    isplitr; · iexact HL
    isplitl [Hcb]; · iexact Hcb
    iexact Hpb
  iintro ⟨HO, Hpb, Har, Hal, Hbr, Hbl⟩
  ihave Har := (take_ar c) $$ Har
  icases Har with ⟨Hdar0, Hdar1, Hdar2⟩
  ihave Hal := (take_al c) $$ Hal
  icases Hal with ⟨Hdal0, Hdal1, Hdal2⟩
  ihave Hbr := (take_br c) $$ Hbr
  icases Hbr with ⟨Hdbr0, Hdbr1, Hdbr2⟩
  ihave Hbl := (take_bl c) $$ Hbl
  icases Hbl with ⟨Hdbl0, Hdbl1, Hdbl2⟩
  iapply (step_load c _ (v43_eq I c)) $$ Hx; iintro Hx
  iapply (step_load c _ (v45_eq I c)) $$ Hrw; iintro Hrw
  iapply (step_load c _ (v58_eq I c)) $$ Hidx; iintro Hidx
  iapply (step_load c _ (v62_eq I c)) $$ Hidx; iintro Hidx
  iapply step_ret
  rw [cst_37_val (F := F), v56_val I c, v66_val I c]
  iapply HK
  isplitl [HO]; · iexact HO
  isplitl [Hpb]; · iexact Hpb
  isplitl [Hx]; · iexact Hx
  isplitl [Hrw]; · iexact Hrw
  isplitl [Hidx]; · iexact Hidx
  isplitl [Hdar0]; · iexact Hdar0
  isplitl [Hdar1]; · iexact Hdar1
  isplitl [Hdar2]; · iexact Hdar2
  isplitl [Hdal0]; · iexact Hdal0
  isplitl [Hdal1]; · iexact Hdal1
  isplitl [Hdal2]; · iexact Hdal2
  isplitl [Hdbr0]; · iexact Hdbr0
  isplitl [Hdbr1]; · iexact Hdbr1
  isplitl [Hdbr2]; · iexact Hdbr2
  isplitl [Hdbl0]; · iexact Hdbl0
  isplitl [Hdbl1]; · iexact Hdbl1
  iexact Hdbl2

theorem part3 (v20 : BitVec 32) (fg : FVec F S2048x8 .f32) {Q : (Σ' (v88 : BitVec 32) (v91 : BitVec 32) (v96 : FVec F S64x512 .f32) (v98 : Vec F S64x8 .f32) (v103 : FVec F S64x512 .f32), Vec F S64x8 .f32) → sProp 𝕄} :
    iprop(bufAt c (Memref.whole cc0_scratch0) (fg) ∗ bufAt c (Memref.whole cc0_stg0_0) (I.x c))
      ⊢ iprop(iprop(∀ (v88 : BitVec 32) (v91 : BitVec 32), iprop(bufAt c (Memref.whole cc0_scratch0) (gates I c) ∗ bufAt c (Memref.whole cc0_stg0_0) (I.x c) -∗ Q ⟨v88, v91, (v96 I c), (v98 I c), (v103 I c), (v105 I c)⟩)) -∗ runs c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (v2 c) v20 (v56 I c) (v66 I c) (cst_37 (F := F))) Q) := by
  rw [k0_part3_eq_skeleton]; unfold k0_part3_skel
  simp only [semSignalWord, semWaitWord, Prog.lift, Prog.bind_op, Prog.bind_ret, Prog.pure_eq_ret]
  iintro ⟨Hg, Hx⟩ HK
  iapply (step_load c _ rfl) $$ Hg; iintro Hg
  iapply (step_store c _ (gates_write I c _)) $$ Hg; iintro Hg
  iapply (step_load c _ (v95_eq I c)) $$ Hx; iintro Hx
  iapply (step_load c _ (v98_eq I c)) $$ Hg; iintro Hg
  iapply (step_load c _ (v102_eq I c)) $$ Hx; iintro Hx
  iapply (step_load c _ (v105_eq I c)) $$ Hg; iintro Hg
  iapply step_ret
  rw [v96_val I c, v103_val I c]
  iapply HK
  isplitl [Hg]; · iexact Hg
  iexact Hx

theorem part4 (v88 : BitVec 32) (v91 : BitVec 32) {Q : (Σ' (v110 : FVec F S64x512 .f32) (v112 : Vec F S64x8 .f32) (v117 : FVec F S64x512 .f32) (v119 : Vec F S64x8 .f32) (v125 : FVec F S64x512 .f32) (v127 : Vec F S64x8 .f32) (v133 : FVec F S64x512 .f32) (v135 : Vec F S64x8 .f32), FVec F S64x512 .f32) → sProp 𝕄} :
    iprop(bufAt c (Memref.whole cc0_stg0_0) (I.x c) ∗ bufAt c (Memref.whole cc0_scratch0) (gates I c))
      ⊢ iprop(iprop(iprop(bufAt c (Memref.whole cc0_stg0_0) (I.x c) ∗ bufAt c (Memref.whole cc0_scratch0) (gates I c) -∗ Q ⟨(v110 I c), (v112 I c), (v117 I c), (v119 I c), (v125 I c), (v127 I c), (v133 I c), (v135 I c), (v141 I c)⟩)) -∗ runs c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v88 v91) Q) := by
  rw [k0_part4_eq_skeleton]; unfold k0_part4_skel
  simp only [semSignalWord, semWaitWord, Prog.lift, Prog.bind_op, Prog.bind_ret, Prog.pure_eq_ret]
  iintro ⟨Hx, Hg⟩ HK
  iapply (step_load c _ (v109_eq I c)) $$ Hx; iintro Hx
  iapply (step_load c _ (v112_eq I c)) $$ Hg; iintro Hg
  iapply (step_load c _ (v116_eq I c)) $$ Hx; iintro Hx
  iapply (step_load c _ (v119_eq I c)) $$ Hg; iintro Hg
  iapply (step_load c _ (v124_eq I c)) $$ Hx; iintro Hx
  iapply (step_load c _ (v127_eq I c)) $$ Hg; iintro Hg
  iapply (step_load c _ (v132_eq I c)) $$ Hx; iintro Hx
  iapply (step_load c _ (v135_eq I c)) $$ Hg; iintro Hg
  iapply (step_load c _ (v140_eq I c)) $$ Hx; iintro Hx
  iapply step_ret
  rw [v110_val I c, v117_val I c, v125_val I c, v133_val I c, v141_val I c]
  iapply HK
  isplitl [Hx]; · iexact Hx
  iexact Hg

theorem part5 (v91 : BitVec 32) {Q : (Σ' (v152 : FVec F S512x512 .f32) (v153 : FVec F S512x8 .f32) (v175 : FVec F S512x1024 .f32) (v178 : FVec F S512x512 .f32) (v180 : FVec F S512x1024 .f32), FVec F S512x1024 .f32) → sProp 𝕄} :
    iprop(bufAt c (Memref.whole cc0_scratch0) (gates I c) ∗ bufAt c (Memref.whole cc0_stg0_0) (I.x c) ∗ bufAt c (Memref.whole cc0_stg3_0) (I.W c))
      ⊢ iprop(iprop(iprop(bufAt c (Memref.whole cc0_scratch0) (gates I c) ∗ bufAt c (Memref.whole cc0_stg0_0) (I.x c) ∗ bufAt c (Memref.whole cc0_stg3_0) (I.W c) -∗ Q ⟨(v152 I c), (v153 I c), (v175 I c), (v178 I c), (v180 I c), (cst_94 (F := F))⟩)) -∗ runs c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v91 (v96 I c) (v98 I c) (v103 I c) (v105 I c) (v110 I c) (v112 I c) (v117 I c) (v119 I c) (v125 I c) (v127 I c) (v133 I c) (v135 I c) (v141 I c)) Q) := by
  rw [k0_part5_eq_skeleton]; unfold k0_part5_skel
  simp only [semSignalWord, semWaitWord, Prog.lift, Prog.bind_op, Prog.bind_ret, Prog.pure_eq_ret]
  iintro ⟨Hg, Hx, HW⟩ HK
  iapply (step_load c _ (v143_eq I c)) $$ Hg; iintro Hg
  iapply (step_load c _ (v148_eq I c)) $$ Hx; iintro Hx
  iapply (step_load c _ (v151_eq I c)) $$ Hg; iintro Hg
  iapply (step_load c _ (v158_eq I c)) $$ HW; iintro HW
  iapply (step_load c _ (v165_eq I c)) $$ HW; iintro HW
  iapply (step_load c _ (v172_eq I c)) $$ HW; iintro HW
  iapply (step_load c _ (v179_eq I c)) $$ HW; iintro HW
  iapply step_ret
  rw [cst_94_val (F := F), v152_val I c, v153_val I c, v175_val I c, v178_val I c, v180_val I c]
  iapply HK
  isplitl [Hg]; · iexact Hg
  isplitl [Hx]; · iexact Hx
  iexact HW

theorem part6 {Q : FVec F S256x1024 .bf16 → sProp 𝕄} :
    iprop(bufAt c (Memref.whole cc0_stg3_0) (I.W c) ∗ someAt arS0 c)
      ⊢ iprop(iprop(iprop(bufAt c (Memref.whole cc0_stg3_0) (I.W c) ∗ landAt castsA arS0 c (sar0 I c) -∗ Q (v217 I c))) -∗ runs c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (v152 I c) (v153 I c) (v175 I c) (v178 I c) (v180 I c) (cst_94 (F := F))) Q) := by
  rw [k0_part6_eq_skeleton]; unfold k0_part6_skel
  simp only [semSignalWord, semWaitWord, Prog.lift, Prog.bind_op, Prog.bind_ret, Prog.pure_eq_ret]
  iintro ⟨HW, Hsar0⟩ HK
  iapply (step_load c _ (v186_eq I c)) $$ HW; iintro HW
  iapply (step_load c _ (v193_eq I c)) $$ HW; iintro HW
  iapply (step_load c _ (v200_eq I c)) $$ HW; iintro HW
  iapply (step_load c _ (v207_eq I c)) $$ HW; iintro HW
  iapply (step_load_some c) $$ Hsar0; iintro %_ Hsar0
  rw [sar0_val I c]
  iapply (step_store_some c castsA) $$ Hsar0; iintro Hsar0
  iapply step_ret
  rw [v217_val I c]
  iapply HK
  isplitl [HW]; · iexact HW
  iexact Hsar0

theorem part7 (v20 : BitVec 32) (v24 : BitVec 32) (v28 : BitVec 32) {Q : (Σ' (v244 : BitVec 32), BitVec 32) → sProp 𝕄} :
    iprop(records (sent I) ∗ levAts L lv ∗ someAt alS0 c ∗ landAt castsA arS0 c (sar0 I c) ∗ someAt arC0 (aR c) ∗ owesAny c (owing c 4) ∗ dutyTok ER (dcell c (dq 5 (Nat.le_of_ble_eq_true rfl))) 0 0 ∗ dutyTok ER (dcell (aR c) (dq 13 (Nat.le_of_ble_eq_true rfl))) 0 0 ∗ someAt alC0 (aL c) ∗ dutyTok ER (dcell c (dq 7 (Nat.le_of_ble_eq_true rfl))) 0 0 ∗ dutyTok ER (dcell (aL c) (dq 16 (Nat.le_of_ble_eq_true rfl))) 0 0)
      ⊢ iprop(iprop(∀ (v244 : BitVec 32) (v247 : BitVec 32), iprop(owesAny c (owing c 6) ∗ cred (tallyAt (dcell c (dq 5 (Nat.le_of_ble_eq_true rfl))) () NA) ∗ cred (tallyAt (dcell c (dq 7 (Nat.le_of_ble_eq_true rfl))) () NA) -∗ Q ⟨v244, v247⟩)) -∗ runs c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v20 v24 v28 (v217 I c)) Q) := by
  rw [k0_part7_eq_skeleton]; unfold k0_part7_skel
  simp only [semSignalWord, semWaitWord, Prog.lift, Prog.bind_op, Prog.bind_ret, Prog.pure_eq_ret]
  iintro ⟨#HR, #HL, Hsal0, Hsar0, Hdar0, HO, Hts5r0, Htr13, Hdal0, Hts7r0, Htr16⟩ HK
  iapply (step_load_some c) $$ Hsal0; iintro %_ Hsal0
  rw [sal0_val I c]
  iapply (step_store_some c castsA) $$ Hsal0; iintro Hsal0
  iapply (step_send (sent I) c (aR c) (dev5_eq c) 4 0 (dq 5 (Nat.le_of_ble_eq_true rfl)) (dq 13 (Nat.le_of_ble_eq_true rfl)) castsA (sar0 I c) NA
      (by decide) (by decide) (by decide) rfl rfl arC0_credit rfl rfl
      (by show landAt _ _ _ (sar0 I (aL (aR c))) = _; rw [aL_aR])) $$ [Hsar0 Hdar0 HO Hts5r0 Htr13]
  · isplitr; · iexact HR
    isplitl [Hsar0]; · iexact Hsar0
    isplitl [Hdar0]; · iexact Hdar0
    isplitl [HO]; · iexact HO
    isplitl [Hts5r0]; · iexact Hts5r0
    isplitr; · iapply (reached_dma (sent I) c (dq 5 (Nat.le_of_ble_eq_true rfl)) (by decide)); iexact HR
    iexact Htr13
  iintro ⟨Hc5, HO⟩
  iapply (step_send (sent I) c (aL c) (dev6_eq c) 5 0 (dq 7 (Nat.le_of_ble_eq_true rfl)) (dq 16 (Nat.le_of_ble_eq_true rfl)) castsA (sal0 I c) NA
      (by decide) (by decide) (by decide) rfl rfl alC0_credit rfl rfl
      (by show landAt _ _ _ (sal0 I (aR (aL c))) = _; rw [aR_aL])) $$ [Hsal0 Hdal0 HO Hts7r0 Htr16]
  · isplitr; · iexact HR
    isplitl [Hsal0]; · iexact Hsal0
    isplitl [Hdal0]; · iexact Hdal0
    isplitl [HO]; · iexact HO
    isplitl [Hts7r0]; · iexact Hts7r0
    isplitr; · iapply (reached_dma (sent I) c (dq 7 (Nat.le_of_ble_eq_true rfl)) (by decide)); iexact HR
    iexact Htr16
  iintro ⟨Hc7, HO⟩
  iapply step_ret
  iapply HK
  isplitl [HO]; · iexact HO
  isplitl [Hc5]; · iexact Hc5
  iexact Hc7

end Cert.AllReduce
-- ==== Proof.Parts2.lean ====
/-
# The body, parts 8 to 12

One statement per part of the body: what it needs, what it leaves, and what it returns.
-/
module

public import proofs.«01_k».proof.Proof.Stores

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (c : Dev nD)

theorem part8 (v244 : BitVec 32) (v247 : BitVec 32) {Q : (Σ' (v252 : FVec F S64x512 .f32) (v254 : Vec F S64x8 .f32) (v259 : FVec F S64x512 .f32) (v261 : Vec F S64x8 .f32) (v266 : FVec F S64x512 .f32) (v268 : Vec F S64x8 .f32) (v273 : FVec F S64x512 .f32) (v275 : Vec F S64x8 .f32) (v281 : FVec F S64x512 .f32) (v283 : Vec F S64x8 .f32) (v284 : BitVec 32), BitVec 32) → sProp 𝕄} :
    iprop(bufAt c (Memref.whole cc0_stg0_0) (I.x c) ∗ bufAt c (Memref.whole cc0_scratch0) (gates I c))
      ⊢ iprop(iprop(∀ (v284 : BitVec 32) (c512_i32_162 : BitVec 32), iprop(bufAt c (Memref.whole cc0_stg0_0) (I.x c) ∗ bufAt c (Memref.whole cc0_scratch0) (gates I c) -∗ Q ⟨(v252 I c), (v254 I c), (v259 I c), (v261 I c), (v266 I c), (v268 I c), (v273 I c), (v275 I c), (v281 I c), (v283 I c), v284, c512_i32_162⟩)) -∗ runs c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v244 v247) Q) := by
  rw [k0_part8_eq_skeleton]; unfold k0_part8_skel
  simp only [semSignalWord, semWaitWord, Prog.lift, Prog.bind_op, Prog.bind_ret, Prog.pure_eq_ret]
  iintro ⟨Hx, Hg⟩ HK
  iapply (step_load c _ (v251_eq I c)) $$ Hx; iintro Hx
  iapply (step_load c _ (v254_eq I c)) $$ Hg; iintro Hg
  iapply (step_load c _ (v258_eq I c)) $$ Hx; iintro Hx
  iapply (step_load c _ (v261_eq I c)) $$ Hg; iintro Hg
  iapply (step_load c _ (v265_eq I c)) $$ Hx; iintro Hx
  iapply (step_load c _ (v268_eq I c)) $$ Hg; iintro Hg
  iapply (step_load c _ (v272_eq I c)) $$ Hx; iintro Hx
  iapply (step_load c _ (v275_eq I c)) $$ Hg; iintro Hg
  iapply (step_load c _ (v280_eq I c)) $$ Hx; iintro Hx
  iapply (step_load c _ (v283_eq I c)) $$ Hg; iintro Hg
  iapply step_ret
  rw [v252_val I c, v259_val I c, v266_val I c, v273_val I c, v281_val I c]
  iapply HK
  isplitl [Hx]; · iexact Hx
  iexact Hg

theorem part9 (v247 : BitVec 32) (v284 : BitVec 32) (c512_i32_162 : BitVec 32) {Q : (Σ' (v308 : FVec F S512x512 .f32) (v309 : FVec F S512x8 .f32) (v317 : FVec F S512x1024 .f32) (v320 : FVec F S512x512 .f32) (v322 : FVec F S512x1024 .f32), FVec F S512x1024 .f32) → sProp 𝕄} :
    iprop(bufAt c (Memref.whole cc0_stg0_0) (I.x c) ∗ bufAt c (Memref.whole cc0_scratch0) (gates I c) ∗ bufAt c (Memref.whole cc0_stg3_0) (I.W c))
      ⊢ iprop(iprop(iprop(bufAt c (Memref.whole cc0_stg0_0) (I.x c) ∗ bufAt c (Memref.whole cc0_scratch0) (gates I c) ∗ bufAt c (Memref.whole cc0_stg3_0) (I.W c) -∗ Q ⟨(v308 I c), (v309 I c), (v317 I c), (v320 I c), (v322 I c), (cst_184 (F := F))⟩)) -∗ runs c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v247 (v252 I c) (v254 I c) (v259 I c) (v261 I c) (v266 I c) (v268 I c) (v273 I c) (v275 I c) (v281 I c) (v283 I c) v284 c512_i32_162) Q) := by
  rw [k0_part9_eq_skeleton]; unfold k0_part9_skel
  simp only [semSignalWord, semWaitWord, Prog.lift, Prog.bind_op, Prog.bind_ret, Prog.pure_eq_ret]
  iintro ⟨Hx, Hg, HW⟩ HK
  iapply (step_load c _ (v288_eq I c)) $$ Hx; iintro Hx
  iapply (step_load c _ (v291_eq I c)) $$ Hg; iintro Hg
  iapply (step_load c _ (v296_eq I c)) $$ Hx; iintro Hx
  iapply (step_load c _ (v299_eq I c)) $$ Hg; iintro Hg
  iapply (step_load c _ (v304_eq I c)) $$ Hx; iintro Hx
  iapply (step_load c _ (v307_eq I c)) $$ Hg; iintro Hg
  iapply (step_load c _ (v314_eq I c)) $$ HW; iintro HW
  iapply (step_load c _ (v321_eq I c)) $$ HW; iintro HW
  iapply step_ret
  rw [cst_184_val (F := F), v308_val I c, v309_val I c, v317_val I c, v320_val I c, v322_val I c]
  iapply HK
  isplitl [Hx]; · iexact Hx
  isplitl [Hg]; · iexact Hg
  iexact HW

theorem part10 {Q : (Σ' (v359 : FVec F S512x1024 .f32), FVec F S512x512 .f32) → sProp 𝕄} :
    iprop(bufAt c (Memref.whole cc0_stg3_0) (I.W c))
      ⊢ iprop(iprop(iprop(bufAt c (Memref.whole cc0_stg3_0) (I.W c) -∗ Q ⟨(v359 I c), (v362 I c)⟩)) -∗ runs c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (v308 I c) (v309 I c) (v317 I c) (v320 I c) (v322 I c) (cst_184 (F := F))) Q) := by
  rw [k0_part10_eq_skeleton]; unfold k0_part10_skel
  simp only [semSignalWord, semWaitWord, Prog.lift, Prog.bind_op, Prog.bind_ret, Prog.pure_eq_ret]
  iintro HW HK
  iapply (step_load c _ (v328_eq I c)) $$ HW; iintro HW
  iapply (step_load c _ (v335_eq I c)) $$ HW; iintro HW
  iapply (step_load c _ (v342_eq I c)) $$ HW; iintro HW
  iapply (step_load c _ (v349_eq I c)) $$ HW; iintro HW
  iapply (step_load c _ (v356_eq I c)) $$ HW; iintro HW
  iapply step_ret
  rw [v359_val I c, v362_val I c]
  iapply HK; iexact HW

theorem part11 {Q : (Σ' (v368 : FVec F S256x1024 .f32) (v380 : FVec F S256x1024 .f32), FVec F S256x1024 .bf16) → sProp 𝕄} :
    iprop(records (sent I) ∗ levAts L lv ∗ bufAt c (Memref.whole cc0_stg3_0) (I.W c) ∗ owesAny c (owing c 6) ∗ cred (tallyAt (dcell c (dq 13 (Nat.le_of_ble_eq_true rfl))) () NA) ∗ atPos ER (dcell c (dq 13 (Nat.le_of_ble_eq_true rfl))) 0 ∅ 0 ∗ cred (tallyAt (dcell c (dq 16 (Nat.le_of_ble_eq_true rfl))) () NA) ∗ atPos ER (dcell c (dq 16 (Nat.le_of_ble_eq_true rfl))) 0 ∅ 0)
      ⊢ iprop(iprop(iprop(bufAt c (Memref.whole cc0_stg3_0) (I.W c) ∗ owesAny c (owing c 6) ∗ atPos ER (dcell c (dq 13 (Nat.le_of_ble_eq_true rfl))) 1 ∅ 0 ∗ atPos ER (dcell c (dq 16 (Nat.le_of_ble_eq_true rfl))) 1 ∅ 0 ∗ landAt castsA arC0 c (v377 I c) ∗ landAt castsA alC0 c (v389 I c) -∗ Q ⟨(v368 I c), (v380 I c), (v390 I c)⟩)) -∗ runs c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (v2 c) (v359 I c) (v362 I c)) Q) := by
  rw [k0_part11_eq_skeleton]; unfold k0_part11_skel
  simp only [semSignalWord, semWaitWord, Prog.lift, Prog.bind_op, Prog.bind_ret, Prog.pure_eq_ret]
  iintro ⟨#HR, #HL, HW, HO, Hc13, Hp13, Hc16, Hp16⟩ HK
  iapply (step_load c _ (v363_eq I c)) $$ HW; iintro HW
  iapply (step_wait (sent I) c 6 0 (dq 13 (Nat.le_of_ble_eq_true rfl)) NA (landAt castsA arC0 c (v377 I c)) (by decide) (by decide) rfl rfl (before c _ _ rfl) arC0_credit) $$ [HO Hc13 Hp13]
  · isplitr; · iexact HR
    isplitl [HO]; · iexact HO
    isplitr; · iexact HL
    isplitl [Hc13]; · iexact Hc13
    iexact Hp13
  iintro ⟨HO, Hp13, Hr13, Hlar0⟩
  iapply (step_load_land (m := Memref.whole cc0_scratch2) (r := Rect.unit (s := S3x256x1024) ![0, 0, 0] S1x256x1024.size inb_S3x256x1024_S1x256x1024_0_0_0) c castsA (v377 I c)) $$ Hlar0; iintro Hlar0
  iapply (step_wait (sent I) c 6 0 (dq 16 (Nat.le_of_ble_eq_true rfl)) NA (landAt castsA alC0 c (v389 I c)) (by decide) (by decide) rfl rfl (before c _ _ rfl) alC0_credit) $$ [HO Hc16 Hp16]
  · isplitr; · iexact HR
    isplitl [HO]; · iexact HO
    isplitr; · iexact HL
    isplitl [Hc16]; · iexact Hc16
    iexact Hp16
  iintro ⟨HO, Hp16, Hr16, Hlal0⟩
  iapply (step_load_land (m := Memref.whole cc0_scratch3) (r := Rect.unit (s := S3x256x1024) ![0, 0, 0] S1x256x1024.size inb_S3x256x1024_S1x256x1024_0_0_0) c castsA (v389 I c)) $$ Hlal0; iintro Hlal0
  iapply step_ret
  rw [v368_val I c, v380_val I c, v390_val I c]
  iapply HK
  isplitl [HW]; · iexact HW
  isplitl [HO]; · iexact HO
  isplitl [Hp13]; · iexact Hp13
  isplitl [Hp16]; · iexact Hp16
  isplitl [Hlar0]; · iexact Hlar0
  iexact Hlal0

theorem part12 (v24 : BitVec 32) (v28 : BitVec 32) {Q : PUnit → sProp 𝕄} :
    iprop(records (sent I) ∗ levAts L lv ∗ someAt arS1 c ∗ someAt alS1 c ∗ someAt arC1 (aR c) ∗ owesAny c (owing c 6) ∗ dutyTok ER (dcell c (dq 6 (Nat.le_of_ble_eq_true rfl))) 0 0 ∗ dutyTok ER (dcell (aR c) (dq 14 (Nat.le_of_ble_eq_true rfl))) 0 0 ∗ someAt alC1 (aL c) ∗ dutyTok ER (dcell c (dq 8 (Nat.le_of_ble_eq_true rfl))) 0 0 ∗ dutyTok ER (dcell (aL c) (dq 17 (Nat.le_of_ble_eq_true rfl))) 0 0)
      ⊢ iprop(iprop(iprop(owesAny c (owing c 8) ∗ cred (tallyAt (dcell c (dq 6 (Nat.le_of_ble_eq_true rfl))) () NA) ∗ cred (tallyAt (dcell c (dq 8 (Nat.le_of_ble_eq_true rfl))) () NA) -∗ Q ⟨⟩)) -∗ runs c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v24 v28 (v368 I c) (v380 I c) (v390 I c)) Q) := by
  rw [k0_part12_eq_skeleton]; unfold k0_part12_skel
  simp only [semSignalWord, semWaitWord, Prog.lift, Prog.bind_op, Prog.bind_ret, Prog.pure_eq_ret]
  iintro ⟨#HR, #HL, Hsar1, Hsal1, Hdar1, HO, Hts6r0, Htr14, Hdal1, Hts8r0, Htr17⟩ HK
  iapply (step_load_some c) $$ Hsar1; iintro %_ Hsar1
  rw [sar1_val I c]
  iapply (step_store_some c castsA) $$ Hsar1; iintro Hsar1
  iapply (step_load_some c) $$ Hsal1; iintro %_ Hsal1
  rw [sal1_val I c]
  iapply (step_store_some c castsA) $$ Hsal1; iintro Hsal1
  iapply (step_send (sent I) c (aR c) (dev7_eq c) 6 0 (dq 6 (Nat.le_of_ble_eq_true rfl)) (dq 14 (Nat.le_of_ble_eq_true rfl)) castsA (sar1 I c) NA
      (by decide) (by decide) (by decide) rfl rfl arC1_credit rfl rfl
      (by show landAt _ _ _ (sar1 I (aL (aR c))) = _; rw [aL_aR])) $$ [Hsar1 Hdar1 HO Hts6r0 Htr14]
  · isplitr; · iexact HR
    isplitl [Hsar1]; · iexact Hsar1
    isplitl [Hdar1]; · iexact Hdar1
    isplitl [HO]; · iexact HO
    isplitl [Hts6r0]; · iexact Hts6r0
    isplitr; · iapply (reached_dma (sent I) c (dq 6 (Nat.le_of_ble_eq_true rfl)) (by decide)); iexact HR
    iexact Htr14
  iintro ⟨Hc6, HO⟩
  iapply (step_send (sent I) c (aL c) (dev8_eq c) 7 0 (dq 8 (Nat.le_of_ble_eq_true rfl)) (dq 17 (Nat.le_of_ble_eq_true rfl)) castsA (sal1 I c) NA
      (by decide) (by decide) (by decide) rfl rfl alC1_credit rfl rfl
      (by show landAt _ _ _ (sal1 I (aR (aL c))) = _; rw [aR_aL])) $$ [Hsal1 Hdal1 HO Hts8r0 Htr17]
  · isplitr; · iexact HR
    isplitl [Hsal1]; · iexact Hsal1
    isplitl [Hdal1]; · iexact Hdal1
    isplitl [HO]; · iexact HO
    isplitl [Hts8r0]; · iexact Hts8r0
    isplitr; · iapply (reached_dma (sent I) c (dq 8 (Nat.le_of_ble_eq_true rfl)) (by decide)); iexact HR
    iexact Htr17
  iintro ⟨Hc8, HO⟩
  iapply step_ret
  iapply HK
  isplitl [HO]; · iexact HO
  isplitl [Hc6]; · iexact Hc6
  iexact Hc8

end Cert.AllReduce
-- ==== Proof.Parts3.lean ====
/-
# The body, parts 13 to 18

One statement per part of the body: what it needs, what it leaves, and what it returns.
-/
module

public import proofs.«01_k».proof.Proof.Stores

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (c : Dev nD)

theorem part13 (v20 : BitVec 32) {Q : (Σ' (v427 : BitVec 32) (v432 : FVec F S64x512 .f32) (v434 : Vec F S64x8 .f32) (v439 : FVec F S64x512 .f32) (v441 : Vec F S64x8 .f32) (v446 : FVec F S64x512 .f32) (v448 : Vec F S64x8 .f32) (v453 : FVec F S64x512 .f32) (v455 : Vec F S64x8 .f32), BitVec 32) → sProp 𝕄} :
    iprop(bufAt c (Memref.whole cc0_stg0_0) (I.x c) ∗ bufAt c (Memref.whole cc0_scratch0) (gates I c))
      ⊢ iprop(iprop(∀ (v427 : BitVec 32) (v456 : BitVec 32), iprop(bufAt c (Memref.whole cc0_stg0_0) (I.x c) ∗ bufAt c (Memref.whole cc0_scratch0) (gates I c) -∗ Q ⟨v427, (v432 I c), (v434 I c), (v439 I c), (v441 I c), (v446 I c), (v448 I c), (v453 I c), (v455 I c), v456⟩)) -∗ runs c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v20) Q) := by
  rw [k0_part13_eq_skeleton]; unfold k0_part13_skel
  simp only [semSignalWord, semWaitWord, Prog.lift, Prog.bind_op, Prog.bind_ret, Prog.pure_eq_ret]
  iintro ⟨Hx, Hg⟩ HK
  iapply (step_load c _ (v431_eq I c)) $$ Hx; iintro Hx
  iapply (step_load c _ (v434_eq I c)) $$ Hg; iintro Hg
  iapply (step_load c _ (v438_eq I c)) $$ Hx; iintro Hx
  iapply (step_load c _ (v441_eq I c)) $$ Hg; iintro Hg
  iapply (step_load c _ (v445_eq I c)) $$ Hx; iintro Hx
  iapply (step_load c _ (v448_eq I c)) $$ Hg; iintro Hg
  iapply (step_load c _ (v452_eq I c)) $$ Hx; iintro Hx
  iapply (step_load c _ (v455_eq I c)) $$ Hg; iintro Hg
  iapply step_ret
  rw [v432_val I c, v439_val I c, v446_val I c, v453_val I c]
  iapply HK
  isplitl [Hx]; · iexact Hx
  iexact Hg

theorem part14 (v427 : BitVec 32) (v456 : BitVec 32) {Q : (Σ' (v488 : FVec F S512x512 .f32) (v489 : FVec F S512x8 .f32) (v490 : FVec F S512x1024 .f32), FVec F S512x512 .f32) → sProp 𝕄} :
    iprop(bufAt c (Memref.whole cc0_stg0_0) (I.x c) ∗ bufAt c (Memref.whole cc0_scratch0) (gates I c))
      ⊢ iprop(iprop(iprop(bufAt c (Memref.whole cc0_stg0_0) (I.x c) ∗ bufAt c (Memref.whole cc0_scratch0) (gates I c) -∗ Q ⟨(v488 I c), (v489 I c), (v490 (F := F)), (v493 I c)⟩)) -∗ runs c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v427 (v432 I c) (v434 I c) (v439 I c) (v441 I c) (v446 I c) (v448 I c) (v453 I c) (v455 I c) v456) Q) := by
  rw [k0_part14_eq_skeleton]; unfold k0_part14_skel
  simp only [semSignalWord, semWaitWord, Prog.lift, Prog.bind_op, Prog.bind_ret, Prog.pure_eq_ret]
  iintro ⟨Hx, Hg⟩ HK
  iapply (step_load c _ (v460_eq I c)) $$ Hx; iintro Hx
  iapply (step_load c _ (v463_eq I c)) $$ Hg; iintro Hg
  iapply (step_load c _ (v468_eq I c)) $$ Hx; iintro Hx
  iapply (step_load c _ (v471_eq I c)) $$ Hg; iintro Hg
  iapply (step_load c _ (v476_eq I c)) $$ Hx; iintro Hx
  iapply (step_load c _ (v479_eq I c)) $$ Hg; iintro Hg
  iapply (step_load c _ (v484_eq I c)) $$ Hx; iintro Hx
  iapply (step_load c _ (v487_eq I c)) $$ Hg; iintro Hg
  iapply step_ret
  rw [v488_val I c, v489_val I c, v490_val (F := F), v493_val I c]
  iapply HK
  isplitl [Hx]; · iexact Hx
  iexact Hg

theorem part15 {Q : FVec F S512x1024 .f32 → sProp 𝕄} :
    iprop(bufAt c (Memref.whole cc0_stg3_0) (I.W c))
      ⊢ iprop(iprop(iprop(bufAt c (Memref.whole cc0_stg3_0) (I.W c) -∗ Q (v532 I c))) -∗ runs c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (v488 I c) (v489 I c) (v490 (F := F)) (v493 I c)) Q) := by
  rw [k0_part15_eq_skeleton]; unfold k0_part15_skel
  simp only [semSignalWord, semWaitWord, Prog.lift, Prog.bind_op, Prog.bind_ret, Prog.pure_eq_ret]
  iintro HW HK
  iapply (step_load c _ (v494_eq I c)) $$ HW; iintro HW
  iapply (step_load c _ (v501_eq I c)) $$ HW; iintro HW
  iapply (step_load c _ (v508_eq I c)) $$ HW; iintro HW
  iapply (step_load c _ (v515_eq I c)) $$ HW; iintro HW
  iapply (step_load c _ (v522_eq I c)) $$ HW; iintro HW
  iapply (step_load c _ (v529_eq I c)) $$ HW; iintro HW
  iapply step_ret
  rw [v532_val I c]
  iapply HK; iexact HW

theorem part16 {Q : (Σ' (v548 : FVec F S256x1024 .f32), FVec F S256x1024 .f32) → sProp 𝕄} :
    iprop(records (sent I) ∗ levAts L lv ∗ bufAt c (Memref.whole cc0_stg3_0) (I.W c) ∗ owesAny c (owing c 8) ∗ cred (tallyAt (dcell c (dq 14 (Nat.le_of_ble_eq_true rfl))) () NA) ∗ atPos ER (dcell c (dq 14 (Nat.le_of_ble_eq_true rfl))) 0 ∅ 0)
      ⊢ iprop(iprop(iprop(bufAt c (Memref.whole cc0_stg3_0) (I.W c) ∗ owesAny c (owing c 8) ∗ atPos ER (dcell c (dq 14 (Nat.le_of_ble_eq_true rfl))) 1 ∅ 0 ∗ landAt castsA arC1 c (v557 I c) -∗ Q ⟨(v548 I c), (v560 I c)⟩)) -∗ runs c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (v2 c) (v488 I c) (v489 I c) (v532 I c)) Q) := by
  rw [k0_part16_eq_skeleton]; unfold k0_part16_skel
  simp only [semSignalWord, semWaitWord, Prog.lift, Prog.bind_op, Prog.bind_ret, Prog.pure_eq_ret]
  iintro ⟨#HR, #HL, HW, HO, Hc14, Hp14⟩ HK
  iapply (step_load c _ (v536_eq I c)) $$ HW; iintro HW
  iapply (step_load c _ (v543_eq I c)) $$ HW; iintro HW
  iapply (step_wait (sent I) c 8 0 (dq 14 (Nat.le_of_ble_eq_true rfl)) NA (landAt castsA arC1 c (v557 I c)) (by decide) (by decide) rfl rfl (before c _ _ rfl) arC1_credit) $$ [HO Hc14 Hp14]
  · isplitr; · iexact HR
    isplitl [HO]; · iexact HO
    isplitr; · iexact HL
    isplitl [Hc14]; · iexact Hc14
    iexact Hp14
  iintro ⟨HO, Hp14, Hr14, Hlar1⟩
  iapply (step_load_land (m := Memref.whole cc0_scratch2) (r := Rect.unit (s := S3x256x1024) ![1, 0, 0] S1x256x1024.size inb_S3x256x1024_S1x256x1024_1_0_0) c castsA (v557 I c)) $$ Hlar1; iintro Hlar1
  iapply step_ret
  rw [v548_val I c, v560_val I c]
  iapply HK
  isplitl [HW]; · iexact HW
  isplitl [HO]; · iexact HO
  isplitl [Hp14]; · iexact Hp14
  iexact Hlar1

theorem part17 {Q : FVec F S256x1024 .bf16 → sProp 𝕄} :
    iprop(records (sent I) ∗ levAts L lv ∗ owesAny c (owing c 8) ∗ cred (tallyAt (dcell c (dq 17 (Nat.le_of_ble_eq_true rfl))) () NA) ∗ atPos ER (dcell c (dq 17 (Nat.le_of_ble_eq_true rfl))) 0 ∅ 0 ∗ cred (tallyAt (dcell c (dq 5 (Nat.le_of_ble_eq_true rfl))) () NA) ∗ atPos ER (dcell c (dq 5 (Nat.le_of_ble_eq_true rfl))) 0 ∅ 0 ∗ cred (tallyAt (dcell c (dq 7 (Nat.le_of_ble_eq_true rfl))) () NA) ∗ atPos ER (dcell c (dq 7 (Nat.le_of_ble_eq_true rfl))) 0 ∅ 0)
      ⊢ iprop(iprop(iprop(owesAny c (owing c 8) ∗ atPos ER (dcell c (dq 17 (Nat.le_of_ble_eq_true rfl))) 1 ∅ 0 ∗ atPos ER (dcell c (dq 5 (Nat.le_of_ble_eq_true rfl))) 1 ∅ 0 ∗ atPos ER (dcell c (dq 7 (Nat.le_of_ble_eq_true rfl))) 1 ∅ 0 ∗ landAt castsA alC1 c (v569 I c) ∗ reached ER (dcell c (dq 5 (Nat.le_of_ble_eq_true rfl))) 1 ∗ landAt castsA arS0 c (sar2 I c) ∗ reached ER (dcell c (dq 7 (Nat.le_of_ble_eq_true rfl))) 1 ∗ someAt alS0 c -∗ Q (v589 I c))) -∗ runs c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (v548 I c) (v560 I c)) Q) := by
  rw [k0_part17_eq_skeleton]; unfold k0_part17_skel
  simp only [semSignalWord, semWaitWord, Prog.lift, Prog.bind_op, Prog.bind_ret, Prog.pure_eq_ret]
  iintro ⟨#HR, #HL, HO, Hc17, Hp17, Hc5, Hp5, Hc7, Hp7⟩ HK
  iapply (step_wait (sent I) c 8 0 (dq 17 (Nat.le_of_ble_eq_true rfl)) NA (landAt castsA alC1 c (v569 I c)) (by decide) (by decide) rfl rfl (before c _ _ rfl) alC1_credit) $$ [HO Hc17 Hp17]
  · isplitr; · iexact HR
    isplitl [HO]; · iexact HO
    isplitr; · iexact HL
    isplitl [Hc17]; · iexact Hc17
    iexact Hp17
  iintro ⟨HO, Hp17, Hr17, Hlal1⟩
  iapply (step_load_land (m := Memref.whole cc0_scratch3) (r := Rect.unit (s := S3x256x1024) ![1, 0, 0] S1x256x1024.size inb_S3x256x1024_S1x256x1024_1_0_0) c castsA (v569 I c)) $$ Hlal1; iintro Hlal1
  iapply (step_wait (sent I) c 8 0 (dq 5 (Nat.le_of_ble_eq_true rfl)) NA (someAt arS0 c) (by decide) (by decide) rfl rfl (before c _ _ rfl) arS0_credit) $$ [HO Hc5 Hp5]
  · isplitr; · iexact HR
    isplitl [HO]; · iexact HO
    isplitr; · iexact HL
    isplitl [Hc5]; · iexact Hc5
    iexact Hp5
  iintro ⟨HO, Hp5, Hr5, Hsar0⟩
  iapply (step_wait (sent I) c 8 0 (dq 7 (Nat.le_of_ble_eq_true rfl)) NA (someAt alS0 c) (by decide) (by decide) rfl rfl (before c _ _ rfl) alS0_credit) $$ [HO Hc7 Hp7]
  · isplitr; · iexact HR
    isplitl [HO]; · iexact HO
    isplitr; · iexact HL
    isplitl [Hc7]; · iexact Hc7
    iexact Hp7
  iintro ⟨HO, Hp7, Hr7, Hsal0⟩
  iapply (step_load_some c) $$ Hsar0; iintro %_ Hsar0
  rw [sar2_val I c]
  iapply (step_store_some c castsA) $$ Hsar0; iintro Hsar0
  iapply step_ret
  rw [v589_val I c]
  iapply HK
  isplitl [HO]; · iexact HO
  isplitl [Hp17]; · iexact Hp17
  isplitl [Hp5]; · iexact Hp5
  isplitl [Hp7]; · iexact Hp7
  isplitl [Hlal1]; · iexact Hlal1
  isplitl [Hr5]; · iexact Hr5
  isplitl [Hsar0]; · iexact Hsar0
  isplitl [Hr7]; · iexact Hr7
  iexact Hsal0

theorem part18 (v20 : BitVec 32) (v24 : BitVec 32) (v28 : BitVec 32) {Q : (Σ' (v616 : BitVec 32), BitVec 32) → sProp 𝕄} :
    iprop(records (sent I) ∗ levAts L lv ∗ someAt alS0 c ∗ landAt castsA arS0 c (sar2 I c) ∗ someAt arC2 (aR c) ∗ owesAny c (owing c 8) ∗ dutyTok ER (dcell c (dq 5 (Nat.le_of_ble_eq_true rfl))) 1 0 ∗ dutyTok ER (dcell (aR c) (dq 15 (Nat.le_of_ble_eq_true rfl))) 0 0 ∗ reached ER (dcell c (dq 5 (Nat.le_of_ble_eq_true rfl))) 1 ∗ someAt alC2 (aL c) ∗ dutyTok ER (dcell c (dq 7 (Nat.le_of_ble_eq_true rfl))) 1 0 ∗ dutyTok ER (dcell (aL c) (dq 18 (Nat.le_of_ble_eq_true rfl))) 0 0 ∗ reached ER (dcell c (dq 7 (Nat.le_of_ble_eq_true rfl))) 1)
      ⊢ iprop(iprop(∀ (v616 : BitVec 32) (v619 : BitVec 32), iprop(owesAny c (owing c 10) ∗ cred (tallyAt (dcell c (dq 5 (Nat.le_of_ble_eq_true rfl))) () NA) ∗ cred (tallyAt (dcell c (dq 7 (Nat.le_of_ble_eq_true rfl))) () NA) -∗ Q ⟨v616, v619⟩)) -∗ runs c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v20 v24 v28 (v589 I c)) Q) := by
  rw [k0_part18_eq_skeleton]; unfold k0_part18_skel
  simp only [semSignalWord, semWaitWord, Prog.lift, Prog.bind_op, Prog.bind_ret, Prog.pure_eq_ret]
  iintro ⟨#HR, #HL, Hsal0, Hsar0, Hdar2, HO, Hts5r1, Htr15, Hr5, Hdal2, Hts7r1, Htr18, Hr7⟩ HK
  iapply (step_load_some c) $$ Hsal0; iintro %_ Hsal0
  rw [sal2_val I c]
  iapply (step_store_some c castsA) $$ Hsal0; iintro Hsal0
  iapply (step_send (sent I) c (aR c) (dev9_eq c) 8 1 (dq 5 (Nat.le_of_ble_eq_true rfl)) (dq 15 (Nat.le_of_ble_eq_true rfl)) castsA (sar2 I c) NA
      (by decide) (by decide) (by decide) rfl rfl arC2_credit rfl rfl
      (by show landAt _ _ _ (sar2 I (aL (aR c))) = _; rw [aL_aR])) $$ [Hsar0 Hdar2 HO Hts5r1 Hr5 Htr15]
  · isplitr; · iexact HR
    isplitl [Hsar0]; · iexact Hsar0
    isplitl [Hdar2]; · iexact Hdar2
    isplitl [HO]; · iexact HO
    isplitl [Hts5r1]; · iexact Hts5r1
    isplitl [Hr5]; · iexact Hr5
    iexact Htr15
  iintro ⟨Hc5, HO⟩
  iapply (step_send (sent I) c (aL c) (dev10_eq c) 9 1 (dq 7 (Nat.le_of_ble_eq_true rfl)) (dq 18 (Nat.le_of_ble_eq_true rfl)) castsA (sal2 I c) NA
      (by decide) (by decide) (by decide) rfl rfl alC2_credit rfl rfl
      (by show landAt _ _ _ (sal2 I (aR (aL c))) = _; rw [aR_aL])) $$ [Hsal0 Hdal2 HO Hts7r1 Hr7 Htr18]
  · isplitr; · iexact HR
    isplitl [Hsal0]; · iexact Hsal0
    isplitl [Hdal2]; · iexact Hdal2
    isplitl [HO]; · iexact HO
    isplitl [Hts7r1]; · iexact Hts7r1
    isplitl [Hr7]; · iexact Hr7
    iexact Htr18
  iintro ⟨Hc7, HO⟩
  iapply step_ret
  iapply HK
  isplitl [HO]; · iexact HO
  isplitl [Hc5]; · iexact Hc5
  iexact Hc7

end Cert.AllReduce
-- ==== Proof.Parts4.lean ====
/-
# The body, parts 19 to 23

One statement per part of the body: what it needs, what it leaves, and what it returns.
-/
module

public import proofs.«01_k».proof.Proof.Stores

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (c : Dev nD)

theorem part19 (v616 : BitVec 32) (v619 : BitVec 32) {Q : (Σ' (v624 : FVec F S64x512 .f32) (v626 : Vec F S64x8 .f32) (v631 : FVec F S64x512 .f32) (v633 : Vec F S64x8 .f32) (v638 : FVec F S64x512 .f32) (v640 : Vec F S64x8 .f32) (v645 : FVec F S64x512 .f32) (v647 : Vec F S64x8 .f32) (v653 : FVec F S64x512 .f32) (v655 : Vec F S64x8 .f32) (v656 : BitVec 32), BitVec 32) → sProp 𝕄} :
    iprop(bufAt c (Memref.whole cc0_stg0_0) (I.x c) ∗ bufAt c (Memref.whole cc0_scratch0) (gates I c))
      ⊢ iprop(iprop(∀ (v656 : BitVec 32) (c512_i32_435 : BitVec 32), iprop(bufAt c (Memref.whole cc0_stg0_0) (I.x c) ∗ bufAt c (Memref.whole cc0_scratch0) (gates I c) -∗ Q ⟨(v624 I c), (v626 I c), (v631 I c), (v633 I c), (v638 I c), (v640 I c), (v645 I c), (v647 I c), (v653 I c), (v655 I c), v656, c512_i32_435⟩)) -∗ runs c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v616 v619) Q) := by
  rw [k0_part19_eq_skeleton]; unfold k0_part19_skel
  simp only [semSignalWord, semWaitWord, Prog.lift, Prog.bind_op, Prog.bind_ret, Prog.pure_eq_ret]
  iintro ⟨Hx, Hg⟩ HK
  iapply (step_load c _ (v623_eq I c)) $$ Hx; iintro Hx
  iapply (step_load c _ (v626_eq I c)) $$ Hg; iintro Hg
  iapply (step_load c _ (v630_eq I c)) $$ Hx; iintro Hx
  iapply (step_load c _ (v633_eq I c)) $$ Hg; iintro Hg
  iapply (step_load c _ (v637_eq I c)) $$ Hx; iintro Hx
  iapply (step_load c _ (v640_eq I c)) $$ Hg; iintro Hg
  iapply (step_load c _ (v644_eq I c)) $$ Hx; iintro Hx
  iapply (step_load c _ (v647_eq I c)) $$ Hg; iintro Hg
  iapply (step_load c _ (v652_eq I c)) $$ Hx; iintro Hx
  iapply (step_load c _ (v655_eq I c)) $$ Hg; iintro Hg
  iapply step_ret
  rw [v624_val I c, v631_val I c, v638_val I c, v645_val I c, v653_val I c]
  iapply HK
  isplitl [Hx]; · iexact Hx
  iexact Hg

theorem part20 (v619 : BitVec 32) (v656 : BitVec 32) (c512_i32_435 : BitVec 32) {Q : (Σ' (v680 : FVec F S512x512 .f32) (v681 : FVec F S512x8 .f32) (v689 : FVec F S512x1024 .f32) (v692 : FVec F S512x512 .f32) (v694 : FVec F S512x1024 .f32), FVec F S512x1024 .f32) → sProp 𝕄} :
    iprop(bufAt c (Memref.whole cc0_stg0_0) (I.x c) ∗ bufAt c (Memref.whole cc0_scratch0) (gates I c) ∗ bufAt c (Memref.whole cc0_stg3_0) (I.W c))
      ⊢ iprop(iprop(iprop(bufAt c (Memref.whole cc0_stg0_0) (I.x c) ∗ bufAt c (Memref.whole cc0_scratch0) (gates I c) ∗ bufAt c (Memref.whole cc0_stg3_0) (I.W c) -∗ Q ⟨(v680 I c), (v681 I c), (v689 I c), (v692 I c), (v694 I c), (cst_457 (F := F))⟩)) -∗ runs c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v619 (v624 I c) (v626 I c) (v631 I c) (v633 I c) (v638 I c) (v640 I c) (v645 I c) (v647 I c) (v653 I c) (v655 I c) v656 c512_i32_435) Q) := by
  rw [k0_part20_eq_skeleton]; unfold k0_part20_skel
  simp only [semSignalWord, semWaitWord, Prog.lift, Prog.bind_op, Prog.bind_ret, Prog.pure_eq_ret]
  iintro ⟨Hx, Hg, HW⟩ HK
  iapply (step_load c _ (v660_eq I c)) $$ Hx; iintro Hx
  iapply (step_load c _ (v663_eq I c)) $$ Hg; iintro Hg
  iapply (step_load c _ (v668_eq I c)) $$ Hx; iintro Hx
  iapply (step_load c _ (v671_eq I c)) $$ Hg; iintro Hg
  iapply (step_load c _ (v676_eq I c)) $$ Hx; iintro Hx
  iapply (step_load c _ (v679_eq I c)) $$ Hg; iintro Hg
  iapply (step_load c _ (v686_eq I c)) $$ HW; iintro HW
  iapply (step_load c _ (v693_eq I c)) $$ HW; iintro HW
  iapply step_ret
  rw [cst_457_val (F := F), v680_val I c, v681_val I c, v689_val I c, v692_val I c, v694_val I c]
  iapply HK
  isplitl [Hx]; · iexact Hx
  isplitl [Hg]; · iexact Hg
  iexact HW

theorem part21 {Q : (Σ' (v731 : FVec F S512x1024 .f32), FVec F S512x512 .f32) → sProp 𝕄} :
    iprop(bufAt c (Memref.whole cc0_stg3_0) (I.W c))
      ⊢ iprop(iprop(iprop(bufAt c (Memref.whole cc0_stg3_0) (I.W c) -∗ Q ⟨(v731 I c), (v734 I c)⟩)) -∗ runs c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (v680 I c) (v681 I c) (v689 I c) (v692 I c) (v694 I c) (cst_457 (F := F))) Q) := by
  rw [k0_part21_eq_skeleton]; unfold k0_part21_skel
  simp only [semSignalWord, semWaitWord, Prog.lift, Prog.bind_op, Prog.bind_ret, Prog.pure_eq_ret]
  iintro HW HK
  iapply (step_load c _ (v700_eq I c)) $$ HW; iintro HW
  iapply (step_load c _ (v707_eq I c)) $$ HW; iintro HW
  iapply (step_load c _ (v714_eq I c)) $$ HW; iintro HW
  iapply (step_load c _ (v721_eq I c)) $$ HW; iintro HW
  iapply (step_load c _ (v728_eq I c)) $$ HW; iintro HW
  iapply step_ret
  rw [v731_val I c, v734_val I c]
  iapply HK; iexact HW

theorem part22 {Q : (Σ' (v740 : FVec F S256x1024 .f32) (v752 : FVec F S256x1024 .f32), FVec F S256x1024 .bf16) → sProp 𝕄} :
    iprop(records (sent I) ∗ levAts L lv ∗ bufAt c (Memref.whole cc0_stg3_0) (I.W c) ∗ owesAny c (owing c 10) ∗ cred (tallyAt (dcell c (dq 15 (Nat.le_of_ble_eq_true rfl))) () NA) ∗ atPos ER (dcell c (dq 15 (Nat.le_of_ble_eq_true rfl))) 0 ∅ 0 ∗ cred (tallyAt (dcell c (dq 18 (Nat.le_of_ble_eq_true rfl))) () NA) ∗ atPos ER (dcell c (dq 18 (Nat.le_of_ble_eq_true rfl))) 0 ∅ 0)
      ⊢ iprop(iprop(iprop(bufAt c (Memref.whole cc0_stg3_0) (I.W c) ∗ owesAny c (owing c 10) ∗ atPos ER (dcell c (dq 15 (Nat.le_of_ble_eq_true rfl))) 1 ∅ 0 ∗ atPos ER (dcell c (dq 18 (Nat.le_of_ble_eq_true rfl))) 1 ∅ 0 ∗ landAt castsA arC2 c (v749 I c) ∗ landAt castsA alC2 c (v761 I c) -∗ Q ⟨(v740 I c), (v752 I c), (v762 I c)⟩)) -∗ runs c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (v2 c) (v731 I c) (v734 I c)) Q) := by
  rw [k0_part22_eq_skeleton]; unfold k0_part22_skel
  simp only [semSignalWord, semWaitWord, Prog.lift, Prog.bind_op, Prog.bind_ret, Prog.pure_eq_ret]
  iintro ⟨#HR, #HL, HW, HO, Hc15, Hp15, Hc18, Hp18⟩ HK
  iapply (step_load c _ (v735_eq I c)) $$ HW; iintro HW
  iapply (step_wait (sent I) c 10 0 (dq 15 (Nat.le_of_ble_eq_true rfl)) NA (landAt castsA arC2 c (v749 I c)) (by decide) (by decide) rfl rfl (before c _ _ rfl) arC2_credit) $$ [HO Hc15 Hp15]
  · isplitr; · iexact HR
    isplitl [HO]; · iexact HO
    isplitr; · iexact HL
    isplitl [Hc15]; · iexact Hc15
    iexact Hp15
  iintro ⟨HO, Hp15, Hr15, Hlar2⟩
  iapply (step_load_land (m := Memref.whole cc0_scratch2) (r := Rect.unit (s := S3x256x1024) ![2, 0, 0] S1x256x1024.size inb_S3x256x1024_S1x256x1024_2_0_0) c castsA (v749 I c)) $$ Hlar2; iintro Hlar2
  iapply (step_wait (sent I) c 10 0 (dq 18 (Nat.le_of_ble_eq_true rfl)) NA (landAt castsA alC2 c (v761 I c)) (by decide) (by decide) rfl rfl (before c _ _ rfl) alC2_credit) $$ [HO Hc18 Hp18]
  · isplitr; · iexact HR
    isplitl [HO]; · iexact HO
    isplitr; · iexact HL
    isplitl [Hc18]; · iexact Hc18
    iexact Hp18
  iintro ⟨HO, Hp18, Hr18, Hlal2⟩
  iapply (step_load_land (m := Memref.whole cc0_scratch3) (r := Rect.unit (s := S3x256x1024) ![2, 0, 0] S1x256x1024.size inb_S3x256x1024_S1x256x1024_2_0_0) c castsA (v761 I c)) $$ Hlal2; iintro Hlal2
  iapply step_ret
  rw [v740_val I c, v752_val I c, v762_val I c]
  iapply HK
  isplitl [HW]; · iexact HW
  isplitl [HO]; · iexact HO
  isplitl [Hp15]; · iexact Hp15
  isplitl [Hp18]; · iexact Hp18
  isplitl [Hlar2]; · iexact Hlar2
  iexact Hlal2

theorem part23 (v19 : BitVec 32) (fa : FVec F S512x1024 .f32) {Q : BitVec 32 → sProp 𝕄} :
    iprop(bufAt c (Memref.whole cc0_scratch1) (fa))
      ⊢ iprop(iprop(∀ (v797 : BitVec 32), iprop(bufAt c (Memref.whole cc0_scratch1) (acc I c) -∗ Q v797)) -∗ runs c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 v19 (v740 I c) (v752 I c) (v762 I c)) Q) := by
  rw [k0_part23_eq_skeleton]; unfold k0_part23_skel
  simp only [semSignalWord, semWaitWord, Prog.lift, Prog.bind_op, Prog.bind_ret, Prog.pure_eq_ret]
  iintro Hacc HK
  iapply (step_load c _ rfl) $$ Hacc; iintro Hacc
  iapply (step_store c _ (acc_put _ _ _ _)) $$ Hacc; iintro Hacc
  iapply (step_load c _ rfl) $$ Hacc; iintro Hacc
  iapply (step_store c _ (acc_put _ _ _ _)) $$ Hacc; iintro Hacc
  iapply (step_load c _ rfl) $$ Hacc; iintro Hacc
  iapply (step_store c _ (acc_put _ _ _ _)) $$ Hacc; iintro Hacc
  iapply (step_load c _ rfl) $$ Hacc; iintro Hacc
  iapply (step_store c _ (acc_put _ _ _ _)) $$ Hacc; iintro Hacc
  iapply (step_load c _ rfl) $$ Hacc; iintro Hacc
  iapply (step_store c _ (acc_put _ _ _ _)) $$ Hacc; iintro Hacc
  iapply (step_load c _ rfl) $$ Hacc; iintro Hacc
  iapply (step_store c _ (acc_put _ _ _ _)) $$ Hacc; iintro Hacc
  iapply (step_load c _ rfl) $$ Hacc; iintro Hacc
  iapply (step_store c _ (acc_put _ _ _ _)) $$ Hacc; iintro Hacc
  iapply (step_load c _ rfl) $$ Hacc; iintro Hacc
  iapply (step_store c _ (acc_put _ _ _ _)) $$ Hacc; iintro Hacc
  ihave Hacc := (Entails.of_eq (congrArg (fun z => (bufAt c (Memref.whole cc0_scratch1) z : sProp 𝕄)) (acc_writes I c fa))) $$ Hacc
  iapply step_ret
  iapply HK; iexact Hacc

end Cert.AllReduce
-- ==== Proof.Parts5.lean ====
/-
# The body, parts 24 to 28

One statement per part of the body: what it needs, what it leaves, and what it returns.
-/
module

public import proofs.«01_k».proof.Proof.Stores

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (c : Dev nD)

theorem part24 (v19 : BitVec 32) (v30 : BitVec 32) (v797 : BitVec 32) {Q : PUnit → sProp 𝕄} :
    iprop(bufAt c (Memref.whole cc0_scratch1) (acc I c) ∗ someAt brS0 c ∗ someAt blS0 c)
      ⊢ iprop(iprop(iprop(bufAt c (Memref.whole cc0_scratch1) (acc I c) ∗ landAt castsB brS0 c (sbr0 I c) ∗ landAt castsB blS0 c (sbl0 I c) -∗ Q ⟨⟩)) -∗ runs c (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v19 v30 v797) Q) := by
  rw [k0_part24_eq_skeleton]; unfold k0_part24_skel
  simp only [semSignalWord, semWaitWord, Prog.lift, Prog.bind_op, Prog.bind_ret, Prog.pure_eq_ret]
  iintro ⟨Hacc, Hsbr0, Hsbl0⟩ HK
  iapply (step_load c _ (v806_eq I c)) $$ Hacc; iintro Hacc
  iapply (step_load c _ (v810_eq I c)) $$ Hacc; iintro Hacc
  iapply (step_load_some c) $$ Hsbr0; iintro %_ Hsbr0
  rw [sbr0_val I c]
  iapply (step_store_some c castsB) $$ Hsbr0; iintro Hsbr0
  iapply (step_load_some c) $$ Hsbl0; iintro %_ Hsbl0
  rw [sbl0_val I c]
  iapply (step_store_some c castsB) $$ Hsbl0; iintro Hsbl0
  iapply step_ret
  iapply HK
  isplitl [Hacc]; · iexact Hacc
  isplitl [Hsbr0]; · iexact Hsbr0
  iexact Hsbl0

theorem part25 (v19 : BitVec 32) (v33 : BitVec 32) {Q : (Σ' (v848 : Vec F S64x1024 .f32), Vec F S64x1024 .f32) → sProp 𝕄} :
    iprop(records (sent I) ∗ levAts L lv ∗ landAt castsB brS0 c (sbr0 I c) ∗ someAt brC0 (bR c) ∗ owesAny c (owing c 10) ∗ dutyTok ER (dcell c (dq 9 (Nat.le_of_ble_eq_true rfl))) 0 0 ∗ dutyTok ER (dcell (bR c) (dq 19 (Nat.le_of_ble_eq_true rfl))) 0 0 ∗ landAt castsB blS0 c (sbl0 I c) ∗ someAt blC0 (bL c) ∗ dutyTok ER (dcell c (dq 11 (Nat.le_of_ble_eq_true rfl))) 0 0 ∗ dutyTok ER (dcell (bL c) (dq 22 (Nat.le_of_ble_eq_true rfl))) 0 0 ∗ bufAt c (Memref.whole cc0_scratch1) (acc I c))
      ⊢ iprop(iprop(iprop(owesAny c (owing c 12) ∗ bufAt c (Memref.whole cc0_scratch1) (acc I c) ∗ cred (tallyAt (dcell c (dq 9 (Nat.le_of_ble_eq_true rfl))) () NB) ∗ cred (tallyAt (dcell c (dq 11 (Nat.le_of_ble_eq_true rfl))) () NB) -∗ Q ⟨(v848 I c), (v852 I c)⟩)) -∗ runs c (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (v2 c) v19 v33) Q) := by
  rw [k0_part25_eq_skeleton]; unfold k0_part25_skel
  simp only [semSignalWord, semWaitWord, Prog.lift, Prog.bind_op, Prog.bind_ret, Prog.pure_eq_ret]
  iintro ⟨#HR, #HL, Hsbr0, Hdbr0, HO, Hts9r0, Htr19, Hsbl0, Hdbl0, Hts11r0, Htr22, Hacc⟩ HK
  iapply (step_send (sent I) c (bR c) (dev11_eq c) 10 0 (dq 9 (Nat.le_of_ble_eq_true rfl)) (dq 19 (Nat.le_of_ble_eq_true rfl)) castsB (sbr0 I c) NB
      (by decide) (by decide) (by decide) rfl rfl brC0_credit rfl rfl
      (by show landAt _ _ _ (sbr0 I (bL (bR c))) = _; rw [bL_bR])) $$ [Hsbr0 Hdbr0 HO Hts9r0 Htr19]
  · isplitr; · iexact HR
    isplitl [Hsbr0]; · iexact Hsbr0
    isplitl [Hdbr0]; · iexact Hdbr0
    isplitl [HO]; · iexact HO
    isplitl [Hts9r0]; · iexact Hts9r0
    isplitr; · iapply (reached_dma (sent I) c (dq 9 (Nat.le_of_ble_eq_true rfl)) (by decide)); iexact HR
    iexact Htr19
  iintro ⟨Hc9, HO⟩
  iapply (step_send (sent I) c (bL c) (dev12_eq c) 11 0 (dq 11 (Nat.le_of_ble_eq_true rfl)) (dq 22 (Nat.le_of_ble_eq_true rfl)) castsB (sbl0 I c) NB
      (by decide) (by decide) (by decide) rfl rfl blC0_credit rfl rfl
      (by show landAt _ _ _ (sbl0 I (bR (bL c))) = _; rw [bR_bL])) $$ [Hsbl0 Hdbl0 HO Hts11r0 Htr22]
  · isplitr; · iexact HR
    isplitl [Hsbl0]; · iexact Hsbl0
    isplitl [Hdbl0]; · iexact Hdbl0
    isplitl [HO]; · iexact HO
    isplitl [Hts11r0]; · iexact Hts11r0
    isplitr; · iapply (reached_dma (sent I) c (dq 11 (Nat.le_of_ble_eq_true rfl)) (by decide)); iexact HR
    iexact Htr22
  iintro ⟨Hc11, HO⟩
  iapply (step_load c _ (v848_eq I c)) $$ Hacc; iintro Hacc
  iapply (step_load c _ (v852_eq I c)) $$ Hacc; iintro Hacc
  iapply step_ret
  iapply HK
  isplitl [HO]; · iexact HO
  isplitl [Hacc]; · iexact Hacc
  isplitl [Hc9]; · iexact Hc9
  iexact Hc11

theorem part26 {Q : PUnit → sProp 𝕄} :
    iprop(records (sent I) ∗ levAts L lv ∗ owesAny c (owing c 12) ∗ cred (tallyAt (dcell c (dq 19 (Nat.le_of_ble_eq_true rfl))) () NB) ∗ atPos ER (dcell c (dq 19 (Nat.le_of_ble_eq_true rfl))) 0 ∅ 0 ∗ cred (tallyAt (dcell c (dq 22 (Nat.le_of_ble_eq_true rfl))) () NB) ∗ atPos ER (dcell c (dq 22 (Nat.le_of_ble_eq_true rfl))) 0 ∅ 0 ∗ someAt brS1 c ∗ someAt blS1 c)
      ⊢ iprop(iprop(iprop(owesAny c (owing c 12) ∗ atPos ER (dcell c (dq 19 (Nat.le_of_ble_eq_true rfl))) 1 ∅ 0 ∗ atPos ER (dcell c (dq 22 (Nat.le_of_ble_eq_true rfl))) 1 ∅ 0 ∗ landAt castsB brS1 c (sbr1 I c) ∗ landAt castsB blS1 c (sbl1 I c) ∗ landAt castsB brC0 c (v861 I c) ∗ landAt castsB blC0 c (v873 I c) -∗ Q ⟨⟩)) -∗ runs c (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (v2 c) (v848 I c) (v852 I c)) Q) := by
  rw [k0_part26_eq_skeleton]; unfold k0_part26_skel
  simp only [semSignalWord, semWaitWord, Prog.lift, Prog.bind_op, Prog.bind_ret, Prog.pure_eq_ret]
  iintro ⟨#HR, #HL, HO, Hc19, Hp19, Hc22, Hp22, Hsbr1, Hsbl1⟩ HK
  iapply (step_wait (sent I) c 12 0 (dq 19 (Nat.le_of_ble_eq_true rfl)) NB (landAt castsB brC0 c (v861 I c)) (by decide) (by decide) rfl rfl (before c _ _ rfl) brC0_credit) $$ [HO Hc19 Hp19]
  · isplitr; · iexact HR
    isplitl [HO]; · iexact HO
    isplitr; · iexact HL
    isplitl [Hc19]; · iexact Hc19
    iexact Hp19
  iintro ⟨HO, Hp19, Hr19, Hlbr0⟩
  iapply (step_load_land (m := Memref.whole cc0_scratch6) (r := Rect.unit (s := S3x64x1024) ![0, 0, 0] S1x64x1024.size inb_S3x64x1024_S1x64x1024_0_0_0) c castsB (v861 I c)) $$ Hlbr0; iintro Hlbr0
  iapply (step_wait (sent I) c 12 0 (dq 22 (Nat.le_of_ble_eq_true rfl)) NB (landAt castsB blC0 c (v873 I c)) (by decide) (by decide) rfl rfl (before c _ _ rfl) blC0_credit) $$ [HO Hc22 Hp22]
  · isplitr; · iexact HR
    isplitl [HO]; · iexact HO
    isplitr; · iexact HL
    isplitl [Hc22]; · iexact Hc22
    iexact Hp22
  iintro ⟨HO, Hp22, Hr22, Hlbl0⟩
  iapply (step_load_land (m := Memref.whole cc0_scratch7) (r := Rect.unit (s := S3x64x1024) ![0, 0, 0] S1x64x1024.size inb_S3x64x1024_S1x64x1024_0_0_0) c castsB (v873 I c)) $$ Hlbl0; iintro Hlbl0
  iapply (step_load_some c) $$ Hsbr1; iintro %_ Hsbr1
  rw [sbr1_val I c]
  iapply (step_store_some c castsB) $$ Hsbr1; iintro Hsbr1
  iapply (step_load_some c) $$ Hsbl1; iintro %_ Hsbl1
  rw [sbl1_val I c]
  iapply (step_store_some c castsB) $$ Hsbl1; iintro Hsbl1
  iapply step_ret
  iapply HK
  isplitl [HO]; · iexact HO
  isplitl [Hp19]; · iexact Hp19
  isplitl [Hp22]; · iexact Hp22
  isplitl [Hsbr1]; · iexact Hsbr1
  isplitl [Hsbl1]; · iexact Hsbl1
  isplitl [Hlbr0]; · iexact Hlbr0
  iexact Hlbl0

theorem part27 (v19 : BitVec 32) (v30 : BitVec 32) (v33 : BitVec 32) {Q : (Σ' (v914 : Vec F S64x1024 .f32) (v915 : BitVec 32), BitVec 32) → sProp 𝕄} :
    iprop(records (sent I) ∗ levAts L lv ∗ landAt castsB brS1 c (sbr1 I c) ∗ someAt brC1 (bR c) ∗ owesAny c (owing c 12) ∗ dutyTok ER (dcell c (dq 10 (Nat.le_of_ble_eq_true rfl))) 0 0 ∗ dutyTok ER (dcell (bR c) (dq 20 (Nat.le_of_ble_eq_true rfl))) 0 0 ∗ landAt castsB blS1 c (sbl1 I c) ∗ someAt blC1 (bL c) ∗ dutyTok ER (dcell c (dq 12 (Nat.le_of_ble_eq_true rfl))) 0 0 ∗ dutyTok ER (dcell (bL c) (dq 23 (Nat.le_of_ble_eq_true rfl))) 0 0 ∗ bufAt c (Memref.whole cc0_scratch1) (acc I c))
      ⊢ iprop(iprop(∀ (v915 : BitVec 32) (c64_i32_629 : BitVec 32), iprop(owesAny c (owing c 14) ∗ bufAt c (Memref.whole cc0_scratch1) (acc I c) ∗ cred (tallyAt (dcell c (dq 10 (Nat.le_of_ble_eq_true rfl))) () NB) ∗ cred (tallyAt (dcell c (dq 12 (Nat.le_of_ble_eq_true rfl))) () NB) -∗ Q ⟨(v914 I c), v915, c64_i32_629⟩)) -∗ runs c (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v19 v30 v33) Q) := by
  rw [k0_part27_eq_skeleton]; unfold k0_part27_skel
  simp only [semSignalWord, semWaitWord, Prog.lift, Prog.bind_op, Prog.bind_ret, Prog.pure_eq_ret]
  iintro ⟨#HR, #HL, Hsbr1, Hdbr1, HO, Hts10r0, Htr20, Hsbl1, Hdbl1, Hts12r0, Htr23, Hacc⟩ HK
  iapply (step_send (sent I) c (bR c) (dev13_eq c) 12 0 (dq 10 (Nat.le_of_ble_eq_true rfl)) (dq 20 (Nat.le_of_ble_eq_true rfl)) castsB (sbr1 I c) NB
      (by decide) (by decide) (by decide) rfl rfl brC1_credit rfl rfl
      (by show landAt _ _ _ (sbr1 I (bL (bR c))) = _; rw [bL_bR])) $$ [Hsbr1 Hdbr1 HO Hts10r0 Htr20]
  · isplitr; · iexact HR
    isplitl [Hsbr1]; · iexact Hsbr1
    isplitl [Hdbr1]; · iexact Hdbr1
    isplitl [HO]; · iexact HO
    isplitl [Hts10r0]; · iexact Hts10r0
    isplitr; · iapply (reached_dma (sent I) c (dq 10 (Nat.le_of_ble_eq_true rfl)) (by decide)); iexact HR
    iexact Htr20
  iintro ⟨Hc10, HO⟩
  iapply (step_send (sent I) c (bL c) (dev14_eq c) 13 0 (dq 12 (Nat.le_of_ble_eq_true rfl)) (dq 23 (Nat.le_of_ble_eq_true rfl)) castsB (sbl1 I c) NB
      (by decide) (by decide) (by decide) rfl rfl blC1_credit rfl rfl
      (by show landAt _ _ _ (sbl1 I (bR (bL c))) = _; rw [bR_bL])) $$ [Hsbl1 Hdbl1 HO Hts12r0 Htr23]
  · isplitr; · iexact HR
    isplitl [Hsbl1]; · iexact Hsbl1
    isplitl [Hdbl1]; · iexact Hdbl1
    isplitl [HO]; · iexact HO
    isplitl [Hts12r0]; · iexact Hts12r0
    isplitr; · iapply (reached_dma (sent I) c (dq 12 (Nat.le_of_ble_eq_true rfl)) (by decide)); iexact HR
    iexact Htr23
  iintro ⟨Hc12, HO⟩
  iapply (step_load c _ (v914_eq I c)) $$ Hacc; iintro Hacc
  iapply step_ret
  iapply HK
  isplitl [HO]; · iexact HO
  isplitl [Hacc]; · iexact Hacc
  isplitl [Hc10]; · iexact Hc10
  iexact Hc12

theorem part28 (v915 : BitVec 32) (c64_i32_629 : BitVec 32) {Q : (Σ' (v930 : FVec F S64x1024 .f32), FVec F S64x1024 .f32) → sProp 𝕄} :
    iprop(records (sent I) ∗ levAts L lv ∗ bufAt c (Memref.whole cc0_scratch1) (acc I c) ∗ owesAny c (owing c 14) ∗ cred (tallyAt (dcell c (dq 20 (Nat.le_of_ble_eq_true rfl))) () NB) ∗ atPos ER (dcell c (dq 20 (Nat.le_of_ble_eq_true rfl))) 0 ∅ 0 ∗ cred (tallyAt (dcell c (dq 23 (Nat.le_of_ble_eq_true rfl))) () NB) ∗ atPos ER (dcell c (dq 23 (Nat.le_of_ble_eq_true rfl))) 0 ∅ 0)
      ⊢ iprop(iprop(iprop(bufAt c (Memref.whole cc0_scratch1) (acc I c) ∗ owesAny c (owing c 14) ∗ atPos ER (dcell c (dq 20 (Nat.le_of_ble_eq_true rfl))) 1 ∅ 0 ∗ atPos ER (dcell c (dq 23 (Nat.le_of_ble_eq_true rfl))) 1 ∅ 0 ∗ landAt castsB brC1 c (v927 I c) ∗ landAt castsB blC1 c (v939 I c) -∗ Q ⟨(v930 I c), (v942 I c)⟩)) -∗ runs c (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (v2 c) (v914 I c) v915 c64_i32_629) Q) := by
  rw [k0_part28_eq_skeleton]; unfold k0_part28_skel
  simp only [semSignalWord, semWaitWord, Prog.lift, Prog.bind_op, Prog.bind_ret, Prog.pure_eq_ret]
  iintro ⟨#HR, #HL, Hacc, HO, Hc20, Hp20, Hc23, Hp23⟩ HK
  iapply (step_load c _ (v918_eq I c)) $$ Hacc; iintro Hacc
  iapply (step_wait (sent I) c 14 0 (dq 20 (Nat.le_of_ble_eq_true rfl)) NB (landAt castsB brC1 c (v927 I c)) (by decide) (by decide) rfl rfl (before c _ _ rfl) brC1_credit) $$ [HO Hc20 Hp20]
  · isplitr; · iexact HR
    isplitl [HO]; · iexact HO
    isplitr; · iexact HL
    isplitl [Hc20]; · iexact Hc20
    iexact Hp20
  iintro ⟨HO, Hp20, Hr20, Hlbr1⟩
  iapply (step_load_land (m := Memref.whole cc0_scratch6) (r := Rect.unit (s := S3x64x1024) ![1, 0, 0] S1x64x1024.size inb_S3x64x1024_S1x64x1024_1_0_0) c castsB (v927 I c)) $$ Hlbr1; iintro Hlbr1
  iapply (step_wait (sent I) c 14 0 (dq 23 (Nat.le_of_ble_eq_true rfl)) NB (landAt castsB blC1 c (v939 I c)) (by decide) (by decide) rfl rfl (before c _ _ rfl) blC1_credit) $$ [HO Hc23 Hp23]
  · isplitr; · iexact HR
    isplitl [HO]; · iexact HO
    isplitr; · iexact HL
    isplitl [Hc23]; · iexact Hc23
    iexact Hp23
  iintro ⟨HO, Hp23, Hr23, Hlbl1⟩
  iapply (step_load_land (m := Memref.whole cc0_scratch7) (r := Rect.unit (s := S3x64x1024) ![1, 0, 0] S1x64x1024.size inb_S3x64x1024_S1x64x1024_1_0_0) c castsB (v939 I c)) $$ Hlbl1; iintro Hlbl1
  iapply step_ret
  rw [v930_val I c, v942_val I c]
  iapply HK
  isplitl [Hacc]; · iexact Hacc
  isplitl [HO]; · iexact HO
  isplitl [Hp20]; · iexact Hp20
  isplitl [Hp23]; · iexact Hp23
  isplitl [Hlbr1]; · iexact Hlbr1
  iexact Hlbl1

end Cert.AllReduce
-- ==== Proof.Parts6.lean ====
/-
# The body, parts 29 to 33

One statement per part of the body: what it needs, what it leaves, and what it returns.
-/
module

public import proofs.«01_k».proof.Proof.Stores

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (c : Dev nD)

theorem part29 (v30 : BitVec 32) {Q : PUnit → sProp 𝕄} :
    iprop(records (sent I) ∗ levAts L lv ∗ owesAny c (owing c 14) ∗ cred (tallyAt (dcell c (dq 9 (Nat.le_of_ble_eq_true rfl))) () NB) ∗ atPos ER (dcell c (dq 9 (Nat.le_of_ble_eq_true rfl))) 0 ∅ 0 ∗ cred (tallyAt (dcell c (dq 11 (Nat.le_of_ble_eq_true rfl))) () NB) ∗ atPos ER (dcell c (dq 11 (Nat.le_of_ble_eq_true rfl))) 0 ∅ 0)
      ⊢ iprop(iprop(iprop(owesAny c (owing c 14) ∗ atPos ER (dcell c (dq 9 (Nat.le_of_ble_eq_true rfl))) 1 ∅ 0 ∗ atPos ER (dcell c (dq 11 (Nat.le_of_ble_eq_true rfl))) 1 ∅ 0 ∗ reached ER (dcell c (dq 9 (Nat.le_of_ble_eq_true rfl))) 1 ∗ landAt castsB brS0 c (sbr2 I c) ∗ reached ER (dcell c (dq 11 (Nat.le_of_ble_eq_true rfl))) 1 ∗ landAt castsB blS0 c (sbl2 I c) -∗ Q ⟨⟩)) -∗ runs c (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 v30 (v930 I c) (v942 I c)) Q) := by
  rw [k0_part29_eq_skeleton]; unfold k0_part29_skel
  simp only [semSignalWord, semWaitWord, Prog.lift, Prog.bind_op, Prog.bind_ret, Prog.pure_eq_ret]
  iintro ⟨#HR, #HL, HO, Hc9, Hp9, Hc11, Hp11⟩ HK
  iapply (step_wait (sent I) c 14 0 (dq 9 (Nat.le_of_ble_eq_true rfl)) NB (someAt brS0 c) (by decide) (by decide) rfl rfl (before c _ _ rfl) brS0_credit) $$ [HO Hc9 Hp9]
  · isplitr; · iexact HR
    isplitl [HO]; · iexact HO
    isplitr; · iexact HL
    isplitl [Hc9]; · iexact Hc9
    iexact Hp9
  iintro ⟨HO, Hp9, Hr9, Hsbr0⟩
  iapply (step_wait (sent I) c 14 0 (dq 11 (Nat.le_of_ble_eq_true rfl)) NB (someAt blS0 c) (by decide) (by decide) rfl rfl (before c _ _ rfl) blS0_credit) $$ [HO Hc11 Hp11]
  · isplitr; · iexact HR
    isplitl [HO]; · iexact HO
    isplitr; · iexact HL
    isplitl [Hc11]; · iexact Hc11
    iexact Hp11
  iintro ⟨HO, Hp11, Hr11, Hsbl0⟩
  iapply (step_load_some c) $$ Hsbr0; iintro %_ Hsbr0
  rw [sbr2_val I c]
  iapply (step_store_some c castsB) $$ Hsbr0; iintro Hsbr0
  iapply (step_load_some c) $$ Hsbl0; iintro %_ Hsbl0
  rw [sbl2_val I c]
  iapply (step_store_some c castsB) $$ Hsbl0; iintro Hsbl0
  iapply step_ret
  iapply HK
  isplitl [HO]; · iexact HO
  isplitl [Hp9]; · iexact Hp9
  isplitl [Hp11]; · iexact Hp11
  isplitl [Hr9]; · iexact Hr9
  isplitl [Hsbr0]; · iexact Hsbr0
  isplitl [Hr11]; · iexact Hr11
  iexact Hsbl0

theorem part30 (v19 : BitVec 32) (v33 : BitVec 32) {Q : (Σ' (v992 : Vec F S64x1024 .f32), Vec F S64x1024 .f32) → sProp 𝕄} :
    iprop(records (sent I) ∗ levAts L lv ∗ landAt castsB brS0 c (sbr2 I c) ∗ someAt brC2 (bR c) ∗ owesAny c (owing c 14) ∗ dutyTok ER (dcell c (dq 9 (Nat.le_of_ble_eq_true rfl))) 1 0 ∗ dutyTok ER (dcell (bR c) (dq 21 (Nat.le_of_ble_eq_true rfl))) 0 0 ∗ reached ER (dcell c (dq 9 (Nat.le_of_ble_eq_true rfl))) 1 ∗ landAt castsB blS0 c (sbl2 I c) ∗ someAt blC2 (bL c) ∗ dutyTok ER (dcell c (dq 11 (Nat.le_of_ble_eq_true rfl))) 1 0 ∗ dutyTok ER (dcell (bL c) (dq 24 (Nat.le_of_ble_eq_true rfl))) 0 0 ∗ reached ER (dcell c (dq 11 (Nat.le_of_ble_eq_true rfl))) 1 ∗ bufAt c (Memref.whole cc0_scratch1) (acc I c))
      ⊢ iprop(iprop(iprop(owesAny c (owing c 16) ∗ bufAt c (Memref.whole cc0_scratch1) (acc I c) ∗ cred (tallyAt (dcell c (dq 9 (Nat.le_of_ble_eq_true rfl))) () NB) ∗ cred (tallyAt (dcell c (dq 11 (Nat.le_of_ble_eq_true rfl))) () NB) -∗ Q ⟨(v992 I c), (v996 I c)⟩)) -∗ runs c (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (v2 c) v19 v33) Q) := by
  rw [k0_part30_eq_skeleton]; unfold k0_part30_skel
  simp only [semSignalWord, semWaitWord, Prog.lift, Prog.bind_op, Prog.bind_ret, Prog.pure_eq_ret]
  iintro ⟨#HR, #HL, Hsbr0, Hdbr2, HO, Hts9r1, Htr21, Hr9, Hsbl0, Hdbl2, Hts11r1, Htr24, Hr11, Hacc⟩ HK
  iapply (step_send (sent I) c (bR c) (dev15_eq c) 14 1 (dq 9 (Nat.le_of_ble_eq_true rfl)) (dq 21 (Nat.le_of_ble_eq_true rfl)) castsB (sbr2 I c) NB
      (by decide) (by decide) (by decide) rfl rfl brC2_credit rfl rfl
      (by show landAt _ _ _ (sbr2 I (bL (bR c))) = _; rw [bL_bR])) $$ [Hsbr0 Hdbr2 HO Hts9r1 Hr9 Htr21]
  · isplitr; · iexact HR
    isplitl [Hsbr0]; · iexact Hsbr0
    isplitl [Hdbr2]; · iexact Hdbr2
    isplitl [HO]; · iexact HO
    isplitl [Hts9r1]; · iexact Hts9r1
    isplitl [Hr9]; · iexact Hr9
    iexact Htr21
  iintro ⟨Hc9, HO⟩
  iapply (step_send (sent I) c (bL c) (dev16_eq c) 15 1 (dq 11 (Nat.le_of_ble_eq_true rfl)) (dq 24 (Nat.le_of_ble_eq_true rfl)) castsB (sbl2 I c) NB
      (by decide) (by decide) (by decide) rfl rfl blC2_credit rfl rfl
      (by show landAt _ _ _ (sbl2 I (bR (bL c))) = _; rw [bR_bL])) $$ [Hsbl0 Hdbl2 HO Hts11r1 Hr11 Htr24]
  · isplitr; · iexact HR
    isplitl [Hsbl0]; · iexact Hsbl0
    isplitl [Hdbl2]; · iexact Hdbl2
    isplitl [HO]; · iexact HO
    isplitl [Hts11r1]; · iexact Hts11r1
    isplitl [Hr11]; · iexact Hr11
    iexact Htr24
  iintro ⟨Hc11, HO⟩
  iapply (step_load c _ (v992_eq I c)) $$ Hacc; iintro Hacc
  iapply (step_load c _ (v996_eq I c)) $$ Hacc; iintro Hacc
  iapply step_ret
  iapply HK
  isplitl [HO]; · iexact HO
  isplitl [Hacc]; · iexact Hacc
  isplitl [Hc9]; · iexact Hc9
  iexact Hc11

theorem part31 (fo : FVec F S128x1024 .f32) {Q : PUnit → sProp 𝕄} :
    iprop(records (sent I) ∗ levAts L lv ∗ owesAny c (owing c 16) ∗ cred (tallyAt (dcell c (dq 21 (Nat.le_of_ble_eq_true rfl))) () NB) ∗ atPos ER (dcell c (dq 21 (Nat.le_of_ble_eq_true rfl))) 0 ∅ 0 ∗ cred (tallyAt (dcell c (dq 24 (Nat.le_of_ble_eq_true rfl))) () NB) ∗ atPos ER (dcell c (dq 24 (Nat.le_of_ble_eq_true rfl))) 0 ∅ 0 ∗ bufAt c (Memref.whole cc0_stg4_0) (fo))
      ⊢ iprop(iprop(iprop(owesAny c (owing c 16) ∗ atPos ER (dcell c (dq 21 (Nat.le_of_ble_eq_true rfl))) 1 ∅ 0 ∗ atPos ER (dcell c (dq 24 (Nat.le_of_ble_eq_true rfl))) 1 ∅ 0 ∗ bufAt c (Memref.whole cc0_stg4_0) (out I c) ∗ landAt castsB brC2 c (v1005 I c) ∗ landAt castsB blC2 c (v1017 I c) -∗ Q ⟨⟩)) -∗ runs c (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 (v2 c) (v992 I c) (v996 I c)) Q) := by
  rw [k0_part31_eq_skeleton]; unfold k0_part31_skel
  simp only [semSignalWord, semWaitWord, Prog.lift, Prog.bind_op, Prog.bind_ret, Prog.pure_eq_ret]
  iintro ⟨#HR, #HL, HO, Hc21, Hp21, Hc24, Hp24, Hout⟩ HK
  iapply (step_wait (sent I) c 16 0 (dq 21 (Nat.le_of_ble_eq_true rfl)) NB (landAt castsB brC2 c (v1005 I c)) (by decide) (by decide) rfl rfl (before c _ _ rfl) brC2_credit) $$ [HO Hc21 Hp21]
  · isplitr; · iexact HR
    isplitl [HO]; · iexact HO
    isplitr; · iexact HL
    isplitl [Hc21]; · iexact Hc21
    iexact Hp21
  iintro ⟨HO, Hp21, Hr21, Hlbr2⟩
  iapply (step_load_land (m := Memref.whole cc0_scratch6) (r := Rect.unit (s := S3x64x1024) ![2, 0, 0] S1x64x1024.size inb_S3x64x1024_S1x64x1024_2_0_0) c castsB (v1005 I c)) $$ Hlbr2; iintro Hlbr2
  iapply (step_wait (sent I) c 16 0 (dq 24 (Nat.le_of_ble_eq_true rfl)) NB (landAt castsB blC2 c (v1017 I c)) (by decide) (by decide) rfl rfl (before c _ _ rfl) blC2_credit) $$ [HO Hc24 Hp24]
  · isplitr; · iexact HR
    isplitl [HO]; · iexact HO
    isplitr; · iexact HL
    isplitl [Hc24]; · iexact Hc24
    iexact Hp24
  iintro ⟨HO, Hp24, Hr24, Hlbl2⟩
  iapply (step_load_land (m := Memref.whole cc0_scratch7) (r := Rect.unit (s := S3x64x1024) ![2, 0, 0] S1x64x1024.size inb_S3x64x1024_S1x64x1024_2_0_0) c castsB (v1017 I c)) $$ Hlbl2; iintro Hlbl2
  iapply (step_load c _ rfl) $$ Hout; iintro Hout
  iapply (step_store c _ (out_put _ _ _ _)) $$ Hout; iintro Hout
  iapply (step_load c _ rfl) $$ Hout; iintro Hout
  iapply (step_store c _ (out_put _ _ _ _)) $$ Hout; iintro Hout
  ihave Hout := (Entails.of_eq (congrArg (fun z => (bufAt c (Memref.whole cc0_stg4_0) z : sProp 𝕄)) (out_writes I c fo))) $$ Hout
  iapply step_ret
  iapply HK
  isplitl [HO]; · iexact HO
  isplitl [Hp21]; · iexact Hp21
  isplitl [Hp24]; · iexact Hp24
  isplitl [Hout]; · iexact Hout
  isplitl [Hlbr2]; · iexact Hlbr2
  iexact Hlbl2

theorem part32 {Q : PUnit → sProp 𝕄} :
    iprop(records (sent I) ∗ levAts L lv ∗ owesAny c (owing c 16) ∗ cred (tallyAt (dcell c (dq 6 (Nat.le_of_ble_eq_true rfl))) () NA) ∗ atPos ER (dcell c (dq 6 (Nat.le_of_ble_eq_true rfl))) 0 ∅ 0 ∗ cred (tallyAt (dcell c (dq 5 (Nat.le_of_ble_eq_true rfl))) () NA) ∗ atPos ER (dcell c (dq 5 (Nat.le_of_ble_eq_true rfl))) 1 ∅ 0 ∗ cred (tallyAt (dcell c (dq 8 (Nat.le_of_ble_eq_true rfl))) () NA) ∗ atPos ER (dcell c (dq 8 (Nat.le_of_ble_eq_true rfl))) 0 ∅ 0 ∗ cred (tallyAt (dcell c (dq 7 (Nat.le_of_ble_eq_true rfl))) () NA) ∗ atPos ER (dcell c (dq 7 (Nat.le_of_ble_eq_true rfl))) 1 ∅ 0)
      ⊢ iprop(iprop(iprop(owesAny c (owing c 16) ∗ atPos ER (dcell c (dq 6 (Nat.le_of_ble_eq_true rfl))) 1 ∅ 0 ∗ atPos ER (dcell c (dq 5 (Nat.le_of_ble_eq_true rfl))) 2 ∅ 0 ∗ atPos ER (dcell c (dq 8 (Nat.le_of_ble_eq_true rfl))) 1 ∅ 0 ∗ atPos ER (dcell c (dq 7 (Nat.le_of_ble_eq_true rfl))) 2 ∅ 0 ∗ someAt arS1 c ∗ someAt arS0 c ∗ someAt alS1 c ∗ someAt alS0 c -∗ Q ⟨⟩)) -∗ runs c (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 ) Q) := by
  rw [k0_part32_eq_skeleton]; unfold k0_part32_skel
  simp only [semSignalWord, semWaitWord, Prog.lift, Prog.bind_op, Prog.bind_ret, Prog.pure_eq_ret]
  iintro ⟨#HR, #HL, HO, Hc6, Hp6, Hc5, Hp5, Hc8, Hp8, Hc7, Hp7⟩ HK
  iapply (step_wait (sent I) c 16 0 (dq 6 (Nat.le_of_ble_eq_true rfl)) NA (someAt arS1 c) (by decide) (by decide) rfl rfl (before c _ _ rfl) arS1_credit) $$ [HO Hc6 Hp6]
  · isplitr; · iexact HR
    isplitl [HO]; · iexact HO
    isplitr; · iexact HL
    isplitl [Hc6]; · iexact Hc6
    iexact Hp6
  iintro ⟨HO, Hp6, Hr6, Hsar1⟩
  iapply (step_wait (sent I) c 16 1 (dq 5 (Nat.le_of_ble_eq_true rfl)) NA (someAt arS0 c) (by decide) (by decide) rfl rfl (before c _ _ rfl) arS0_credit) $$ [HO Hc5 Hp5]
  · isplitr; · iexact HR
    isplitl [HO]; · iexact HO
    isplitr; · iexact HL
    isplitl [Hc5]; · iexact Hc5
    iexact Hp5
  iintro ⟨HO, Hp5, Hr5, Hsar0⟩
  iapply (step_wait (sent I) c 16 0 (dq 8 (Nat.le_of_ble_eq_true rfl)) NA (someAt alS1 c) (by decide) (by decide) rfl rfl (before c _ _ rfl) alS1_credit) $$ [HO Hc8 Hp8]
  · isplitr; · iexact HR
    isplitl [HO]; · iexact HO
    isplitr; · iexact HL
    isplitl [Hc8]; · iexact Hc8
    iexact Hp8
  iintro ⟨HO, Hp8, Hr8, Hsal1⟩
  iapply (step_wait (sent I) c 16 1 (dq 7 (Nat.le_of_ble_eq_true rfl)) NA (someAt alS0 c) (by decide) (by decide) rfl rfl (before c _ _ rfl) alS0_credit) $$ [HO Hc7 Hp7]
  · isplitr; · iexact HR
    isplitl [HO]; · iexact HO
    isplitr; · iexact HL
    isplitl [Hc7]; · iexact Hc7
    iexact Hp7
  iintro ⟨HO, Hp7, Hr7, Hsal0⟩
  iapply step_ret
  iapply HK
  isplitl [HO]; · iexact HO
  isplitl [Hp6]; · iexact Hp6
  isplitl [Hp5]; · iexact Hp5
  isplitl [Hp8]; · iexact Hp8
  isplitl [Hp7]; · iexact Hp7
  isplitl [Hsar1]; · iexact Hsar1
  isplitl [Hsar0]; · iexact Hsar0
  isplitl [Hsal1]; · iexact Hsal1
  iexact Hsal0

theorem part33 {Q : PUnit → sProp 𝕄} :
    iprop(records (sent I) ∗ levAts L lv ∗ owesAny c (owing c 16) ∗ cred (tallyAt (dcell c (dq 10 (Nat.le_of_ble_eq_true rfl))) () NB) ∗ atPos ER (dcell c (dq 10 (Nat.le_of_ble_eq_true rfl))) 0 ∅ 0 ∗ cred (tallyAt (dcell c (dq 9 (Nat.le_of_ble_eq_true rfl))) () NB) ∗ atPos ER (dcell c (dq 9 (Nat.le_of_ble_eq_true rfl))) 1 ∅ 0 ∗ cred (tallyAt (dcell c (dq 12 (Nat.le_of_ble_eq_true rfl))) () NB) ∗ atPos ER (dcell c (dq 12 (Nat.le_of_ble_eq_true rfl))) 0 ∅ 0 ∗ cred (tallyAt (dcell c (dq 11 (Nat.le_of_ble_eq_true rfl))) () NB) ∗ atPos ER (dcell c (dq 11 (Nat.le_of_ble_eq_true rfl))) 1 ∅ 0)
      ⊢ iprop(iprop(iprop(owesAny c (owing c 16) ∗ atPos ER (dcell c (dq 10 (Nat.le_of_ble_eq_true rfl))) 1 ∅ 0 ∗ atPos ER (dcell c (dq 9 (Nat.le_of_ble_eq_true rfl))) 2 ∅ 0 ∗ atPos ER (dcell c (dq 12 (Nat.le_of_ble_eq_true rfl))) 1 ∅ 0 ∗ atPos ER (dcell c (dq 11 (Nat.le_of_ble_eq_true rfl))) 2 ∅ 0 ∗ someAt brS1 c ∗ someAt brS0 c ∗ someAt blS1 c ∗ someAt blS0 c -∗ Q ⟨⟩)) -∗ runs c (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 ) Q) := by
  rw [k0_part33_eq_skeleton]; unfold k0_part33_skel
  simp only [semSignalWord, semWaitWord, Prog.lift, Prog.bind_op, Prog.bind_ret, Prog.pure_eq_ret]
  iintro ⟨#HR, #HL, HO, Hc10, Hp10, Hc9, Hp9, Hc12, Hp12, Hc11, Hp11⟩ HK
  iapply (step_wait (sent I) c 16 0 (dq 10 (Nat.le_of_ble_eq_true rfl)) NB (someAt brS1 c) (by decide) (by decide) rfl rfl (before c _ _ rfl) brS1_credit) $$ [HO Hc10 Hp10]
  · isplitr; · iexact HR
    isplitl [HO]; · iexact HO
    isplitr; · iexact HL
    isplitl [Hc10]; · iexact Hc10
    iexact Hp10
  iintro ⟨HO, Hp10, Hr10, Hsbr1⟩
  iapply (step_wait (sent I) c 16 1 (dq 9 (Nat.le_of_ble_eq_true rfl)) NB (someAt brS0 c) (by decide) (by decide) rfl rfl (before c _ _ rfl) brS0_credit) $$ [HO Hc9 Hp9]
  · isplitr; · iexact HR
    isplitl [HO]; · iexact HO
    isplitr; · iexact HL
    isplitl [Hc9]; · iexact Hc9
    iexact Hp9
  iintro ⟨HO, Hp9, Hr9, Hsbr0⟩
  iapply (step_wait (sent I) c 16 0 (dq 12 (Nat.le_of_ble_eq_true rfl)) NB (someAt blS1 c) (by decide) (by decide) rfl rfl (before c _ _ rfl) blS1_credit) $$ [HO Hc12 Hp12]
  · isplitr; · iexact HR
    isplitl [HO]; · iexact HO
    isplitr; · iexact HL
    isplitl [Hc12]; · iexact Hc12
    iexact Hp12
  iintro ⟨HO, Hp12, Hr12, Hsbl1⟩
  iapply (step_wait (sent I) c 16 1 (dq 11 (Nat.le_of_ble_eq_true rfl)) NB (someAt blS0 c) (by decide) (by decide) rfl rfl (before c _ _ rfl) blS0_credit) $$ [HO Hc11 Hp11]
  · isplitr; · iexact HR
    isplitl [HO]; · iexact HO
    isplitr; · iexact HL
    isplitl [Hc11]; · iexact Hc11
    iexact Hp11
  iintro ⟨HO, Hp11, Hr11, Hsbl0⟩
  iapply step_ret
  iapply HK
  isplitl [HO]; · iexact HO
  isplitl [Hp10]; · iexact Hp10
  isplitl [Hp9]; · iexact Hp9
  isplitl [Hp12]; · iexact Hp12
  isplitl [Hp11]; · iexact Hp11
  isplitl [Hsbr1]; · iexact Hsbr1
  isplitl [Hsbr0]; · iexact Hsbr0
  isplitl [Hsbl1]; · iexact Hsbl1
  iexact Hsbl0

end Cert.AllReduce
-- ==== Proof.Body.lean ====
/-
# The body

The kernel's body on one device, from what the device starts with to what it ends with: the parts in order, then every
semaphore of the exchange closed at zero.
-/
module

public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option maxRecDepth 8000

variable {F : FTy → Type} [FloatOps F]

local notation "𝕄" => MT nD τ sig Unit (Elt F) ℕ UU ℕ

variable (I : Inputs F) (c : Dev nD)

/-- What a device holds when its body starts, besides the records and the levels. -/
def bodyStart (fo : FVec F S128x1024 .f32) (fg : FVec F S2048x8 .f32) (fa : FVec F S512x1024 .f32) : sProp 𝕄 :=
  iprop(bufAt c (Memref.whole cc0_stg0_0) (I.x c)
    ∗ bufAt c (Memref.whole cc0_stg1_0) (I.rw c)
    ∗ bufAt c (Memref.whole cc0_stg2_0) (I.idx c)
    ∗ bufAt c (Memref.whole cc0_stg3_0) (I.W c)
    ∗ bufAt c (Memref.whole cc0_stg4_0) (fo)
    ∗ bufAt c (Memref.whole cc0_scratch0) (fg)
    ∗ bufAt c (Memref.whole cc0_scratch1) (fa)
    ∗ owesAny c (owing c 0)
    ∗ someAt arS0 c
    ∗ someAt arS1 c
    ∗ someAt alS0 c
    ∗ someAt alS1 c
    ∗ someAt brS0 c
    ∗ someAt brS1 c
    ∗ someAt blS0 c
    ∗ someAt blS1 c
    ∗ dutyTok ER (barCell (aL c)) 0 0
    ∗ (someAt arC0 c ∗ someAt arC1 c ∗ someAt arC2 c)
    ∗ dutyTok ER (barCell (aR c)) 0 1
    ∗ (someAt alC0 c ∗ someAt alC1 c ∗ someAt alC2 c)
    ∗ dutyTok ER (barCell (bL c)) 0 2
    ∗ (someAt brC0 c ∗ someAt brC1 c ∗ someAt brC2 c)
    ∗ dutyTok ER (barCell (bR c)) 0 3
    ∗ (someAt blC0 c ∗ someAt blC1 c ∗ someAt blC2 c)
    ∗ cred (tallyAt (barCell c) () 4)
    ∗ atPos ER (barCell c) 0 ∅ 0
    ∗ dutyTok ER (dcell (aR c) (dq 13 (Nat.le_of_ble_eq_true rfl))) 0 0
    ∗ cred (tallyAt (dcell c (dq 13 (Nat.le_of_ble_eq_true rfl))) () NA)
    ∗ atPos ER (dcell c (dq 13 (Nat.le_of_ble_eq_true rfl))) 0 ∅ 0
    ∗ dutyTok ER (dcell (aR c) (dq 14 (Nat.le_of_ble_eq_true rfl))) 0 0
    ∗ cred (tallyAt (dcell c (dq 14 (Nat.le_of_ble_eq_true rfl))) () NA)
    ∗ atPos ER (dcell c (dq 14 (Nat.le_of_ble_eq_true rfl))) 0 ∅ 0
    ∗ dutyTok ER (dcell (aR c) (dq 15 (Nat.le_of_ble_eq_true rfl))) 0 0
    ∗ cred (tallyAt (dcell c (dq 15 (Nat.le_of_ble_eq_true rfl))) () NA)
    ∗ atPos ER (dcell c (dq 15 (Nat.le_of_ble_eq_true rfl))) 0 ∅ 0
    ∗ dutyTok ER (dcell c (dq 5 (Nat.le_of_ble_eq_true rfl))) 0 0
    ∗ dutyTok ER (dcell c (dq 5 (Nat.le_of_ble_eq_true rfl))) 1 0
    ∗ atPos ER (dcell c (dq 5 (Nat.le_of_ble_eq_true rfl))) 0 ∅ 0
    ∗ dutyTok ER (dcell c (dq 6 (Nat.le_of_ble_eq_true rfl))) 0 0
    ∗ atPos ER (dcell c (dq 6 (Nat.le_of_ble_eq_true rfl))) 0 ∅ 0
    ∗ dutyTok ER (dcell (aL c) (dq 16 (Nat.le_of_ble_eq_true rfl))) 0 0
    ∗ cred (tallyAt (dcell c (dq 16 (Nat.le_of_ble_eq_true rfl))) () NA)
    ∗ atPos ER (dcell c (dq 16 (Nat.le_of_ble_eq_true rfl))) 0 ∅ 0
    ∗ dutyTok ER (dcell (aL c) (dq 17 (Nat.le_of_ble_eq_true rfl))) 0 0
    ∗ cred (tallyAt (dcell c (dq 17 (Nat.le_of_ble_eq_true rfl))) () NA)
    ∗ atPos ER (dcell c (dq 17 (Nat.le_of_ble_eq_true rfl))) 0 ∅ 0
    ∗ dutyTok ER (dcell (aL c) (dq 18 (Nat.le_of_ble_eq_true rfl))) 0 0
    ∗ cred (tallyAt (dcell c (dq 18 (Nat.le_of_ble_eq_true rfl))) () NA)
    ∗ atPos ER (dcell c (dq 18 (Nat.le_of_ble_eq_true rfl))) 0 ∅ 0
    ∗ dutyTok ER (dcell c (dq 7 (Nat.le_of_ble_eq_true rfl))) 0 0
    ∗ dutyTok ER (dcell c (dq 7 (Nat.le_of_ble_eq_true rfl))) 1 0
    ∗ atPos ER (dcell c (dq 7 (Nat.le_of_ble_eq_true rfl))) 0 ∅ 0
    ∗ dutyTok ER (dcell c (dq 8 (Nat.le_of_ble_eq_true rfl))) 0 0
    ∗ atPos ER (dcell c (dq 8 (Nat.le_of_ble_eq_true rfl))) 0 ∅ 0
    ∗ dutyTok ER (dcell (bR c) (dq 19 (Nat.le_of_ble_eq_true rfl))) 0 0
    ∗ cred (tallyAt (dcell c (dq 19 (Nat.le_of_ble_eq_true rfl))) () NB)
    ∗ atPos ER (dcell c (dq 19 (Nat.le_of_ble_eq_true rfl))) 0 ∅ 0
    ∗ dutyTok ER (dcell (bR c) (dq 20 (Nat.le_of_ble_eq_true rfl))) 0 0
    ∗ cred (tallyAt (dcell c (dq 20 (Nat.le_of_ble_eq_true rfl))) () NB)
    ∗ atPos ER (dcell c (dq 20 (Nat.le_of_ble_eq_true rfl))) 0 ∅ 0
    ∗ dutyTok ER (dcell (bR c) (dq 21 (Nat.le_of_ble_eq_true rfl))) 0 0
    ∗ cred (tallyAt (dcell c (dq 21 (Nat.le_of_ble_eq_true rfl))) () NB)
    ∗ atPos ER (dcell c (dq 21 (Nat.le_of_ble_eq_true rfl))) 0 ∅ 0
    ∗ dutyTok ER (dcell c (dq 9 (Nat.le_of_ble_eq_true rfl))) 0 0
    ∗ dutyTok ER (dcell c (dq 9 (Nat.le_of_ble_eq_true rfl))) 1 0
    ∗ atPos ER (dcell c (dq 9 (Nat.le_of_ble_eq_true rfl))) 0 ∅ 0
    ∗ dutyTok ER (dcell c (dq 10 (Nat.le_of_ble_eq_true rfl))) 0 0
    ∗ atPos ER (dcell c (dq 10 (Nat.le_of_ble_eq_true rfl))) 0 ∅ 0
    ∗ dutyTok ER (dcell (bL c) (dq 22 (Nat.le_of_ble_eq_true rfl))) 0 0
    ∗ cred (tallyAt (dcell c (dq 22 (Nat.le_of_ble_eq_true rfl))) () NB)
    ∗ atPos ER (dcell c (dq 22 (Nat.le_of_ble_eq_true rfl))) 0 ∅ 0
    ∗ dutyTok ER (dcell (bL c) (dq 23 (Nat.le_of_ble_eq_true rfl))) 0 0
    ∗ cred (tallyAt (dcell c (dq 23 (Nat.le_of_ble_eq_true rfl))) () NB)
    ∗ atPos ER (dcell c (dq 23 (Nat.le_of_ble_eq_true rfl))) 0 ∅ 0
    ∗ dutyTok ER (dcell (bL c) (dq 24 (Nat.le_of_ble_eq_true rfl))) 0 0
    ∗ cred (tallyAt (dcell c (dq 24 (Nat.le_of_ble_eq_true rfl))) () NB)
    ∗ atPos ER (dcell c (dq 24 (Nat.le_of_ble_eq_true rfl))) 0 ∅ 0
    ∗ dutyTok ER (dcell c (dq 11 (Nat.le_of_ble_eq_true rfl))) 0 0
    ∗ dutyTok ER (dcell c (dq 11 (Nat.le_of_ble_eq_true rfl))) 1 0
    ∗ atPos ER (dcell c (dq 11 (Nat.le_of_ble_eq_true rfl))) 0 ∅ 0
    ∗ dutyTok ER (dcell c (dq 12 (Nat.le_of_ble_eq_true rfl))) 0 0
    ∗ atPos ER (dcell c (dq 12 (Nat.le_of_ble_eq_true rfl))) 0 ∅ 0)

/-- What it holds when its body ends. -/
def bodyEnd : sProp 𝕄 :=
  iprop(bufAt c (Memref.whole cc0_stg0_0) (I.x c)
    ∗ bufAt c (Memref.whole cc0_stg1_0) (I.rw c)
    ∗ bufAt c (Memref.whole cc0_stg2_0) (I.idx c)
    ∗ bufAt c (Memref.whole cc0_stg3_0) (I.W c)
    ∗ bufAt c (Memref.whole cc0_stg4_0) (out I c)
    ∗ bufAt c (Memref.whole cc0_scratch0) (gates I c)
    ∗ bufAt c (Memref.whole cc0_scratch1) (acc I c)
    ∗ owesAny c (owing c 16)
    ∗ landAt castsA arC0 c (v377 I c)
    ∗ landAt castsA alC0 c (v389 I c)
    ∗ landAt castsA arC1 c (v557 I c)
    ∗ landAt castsA alC1 c (v569 I c)
    ∗ landAt castsA arC2 c (v749 I c)
    ∗ landAt castsA alC2 c (v761 I c)
    ∗ landAt castsB brC0 c (v861 I c)
    ∗ landAt castsB blC0 c (v873 I c)
    ∗ landAt castsB brC1 c (v927 I c)
    ∗ landAt castsB blC1 c (v939 I c)
    ∗ landAt castsB brC2 c (v1005 I c)
    ∗ landAt castsB blC2 c (v1017 I c)
    ∗ someAt arS1 c
    ∗ someAt arS0 c
    ∗ someAt alS1 c
    ∗ someAt alS0 c
    ∗ someAt brS1 c
    ∗ someAt brS0 c
    ∗ someAt blS1 c
    ∗ someAt blS0 c
    ∗ semVal (barCell c) 0
    ∗ semVal (dcell c (dq 13 (Nat.le_of_ble_eq_true rfl))) 0
    ∗ semVal (dcell c (dq 14 (Nat.le_of_ble_eq_true rfl))) 0
    ∗ semVal (dcell c (dq 15 (Nat.le_of_ble_eq_true rfl))) 0
    ∗ semVal (dcell c (dq 5 (Nat.le_of_ble_eq_true rfl))) 0
    ∗ semVal (dcell c (dq 6 (Nat.le_of_ble_eq_true rfl))) 0
    ∗ semVal (dcell c (dq 16 (Nat.le_of_ble_eq_true rfl))) 0
    ∗ semVal (dcell c (dq 17 (Nat.le_of_ble_eq_true rfl))) 0
    ∗ semVal (dcell c (dq 18 (Nat.le_of_ble_eq_true rfl))) 0
    ∗ semVal (dcell c (dq 7 (Nat.le_of_ble_eq_true rfl))) 0
    ∗ semVal (dcell c (dq 8 (Nat.le_of_ble_eq_true rfl))) 0
    ∗ semVal (dcell c (dq 19 (Nat.le_of_ble_eq_true rfl))) 0
    ∗ semVal (dcell c (dq 20 (Nat.le_of_ble_eq_true rfl))) 0
    ∗ semVal (dcell c (dq 21 (Nat.le_of_ble_eq_true rfl))) 0
    ∗ semVal (dcell c (dq 9 (Nat.le_of_ble_eq_true rfl))) 0
    ∗ semVal (dcell c (dq 10 (Nat.le_of_ble_eq_true rfl))) 0
    ∗ semVal (dcell c (dq 22 (Nat.le_of_ble_eq_true rfl))) 0
    ∗ semVal (dcell c (dq 23 (Nat.le_of_ble_eq_true rfl))) 0
    ∗ semVal (dcell c (dq 24 (Nat.le_of_ble_eq_true rfl))) 0
    ∗ semVal (dcell c (dq 11 (Nat.le_of_ble_eq_true rfl))) 0
    ∗ semVal (dcell c (dq 12 (Nat.le_of_ble_eq_true rfl))) 0)

theorem part1 {Q : (Σ' (d0 : Dev nD) (v2 : BitVec 32) (v19 : BitVec 32) (v20 : BitVec 32) (v24 : BitVec 32) (v28 : BitVec 32) (v30 : BitVec 32) (v33 : BitVec 32) (v34 : Sems sig S_), BitVec 32) → sProp 𝕄} :
    iprop(∀ (v19 : BitVec 32) (v20 : BitVec 32) (v24 : BitVec 32) (v28 : BitVec 32) (v30 : BitVec 32) (v33 : BitVec 32) (v35 : BitVec 32), Q ⟨c, v2 c, v19, v20, v24, v28, v30, v33, SemArray.scalar (sig.barrier 0 rfl), v35⟩) ⊢ runs c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17) Q := by
  rw [k0_part1_eq_skeleton]; unfold k0_part1_skel
  simp only [Prog.lift, Prog.bind_op, Prog.bind_ret, Prog.pure_eq_ret]
  iintro HK
  iapply step_id
  iapply step_ret
  rw [show Scalar.remsi (Scalar.divsi (Dev.word c) 1#32) 16#32 = v2 c from rfl]
  iapply HK

theorem step_ret_upd {α : Type} {Q : α → sProp 𝕄} (a : α) : iprop(|={Set.univ}=> Q a) ⊢ runs c (.ret a) Q := by
  unfold runs; rw [wp_ret]

theorem step_bind {α β : Type} {Q : β → sProp 𝕄} (p : Prog (TpuEff nD τ sig (Elt F) Λ₀ .tc) α) (k : α → Prog (TpuEff nD τ sig (Elt F) Λ₀ .tc) β) :
    runs c p (fun a => runs c (k a) Q) ⊢ runs c (p >>= k) Q := by
  unfold runs; rw [wp_bind]

set_option maxHeartbeats 4000000 in
theorem sound_body (fo : FVec F S128x1024 .f32) (fg : FVec F S2048x8 .f32) (fa : FVec F S512x1024 .f32) (Kt : PUnit → sProp 𝕄) :
    iprop(records (sent I) ∗ levAts L lv ∗ bodyStart I c fo fg fa ∗ (bodyEnd I c -∗ Kt ⟨⟩)) ⊢ runs c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17) Kt := by
  rw [cc0_body_eq_skeleton]; unfold cc0_body_skel
  unfold bodyStart
  iintro ⟨#HR, #HL, ⟨Hx, Hrw, Hidx, HW, Hout, Hg, Hacc, HO, Hsar0, Hsar1, Hsal0, Hsal1, Hsbr0, Hsbr1, Hsbl0, Hsbl1, Htb0, Hmyar, Htb1, Hmyal, Htb2, Hmybr, Htb3, Hmybl, Hcb, Hpb, Htr13, Hc13, Hp13, Htr14, Hc14, Hp14, Htr15, Hc15, Hp15, Hts5r0, Hts5r1, Hp5, Hts6r0, Hp6, Htr16, Hc16, Hp16, Htr17, Hc17, Hp17, Htr18, Hc18, Hp18, Hts7r0, Hts7r1, Hp7, Hts8r0, Hp8, Htr19, Hc19, Hp19, Htr20, Hc20, Hp20, Htr21, Hc21, Hp21, Hts9r0, Hts9r1, Hp9, Hts10r0, Hp10, Htr22, Hc22, Hp22, Htr23, Hc23, Hp23, Htr24, Hc24, Hp24, Hts11r0, Hts11r1, Hp11, Hts12r0, Hp12⟩, HKt⟩
  iapply step_bind
  iapply (part1 c)
  iintro %v19 %v20 %v24 %v28 %v30 %v33 %v35
  dsimp only
  iapply step_bind
  iapply (part2 I c v24 v30 v33 v35) $$ [HO Htb0 Hmyar Htb1 Hmyal Htb2 Hmybr Htb3 Hmybl Hcb Hpb Hx Hrw Hidx]
  · isplitr; · iexact HR
    isplitr; · iexact HL
    isplitl [HO]; · iexact HO
    isplitl [Htb0]; · iexact Htb0
    isplitl [Hmyar]; · iexact Hmyar
    isplitl [Htb1]; · iexact Htb1
    isplitl [Hmyal]; · iexact Hmyal
    isplitl [Htb2]; · iexact Htb2
    isplitl [Hmybr]; · iexact Hmybr
    isplitl [Htb3]; · iexact Htb3
    isplitl [Hmybl]; · iexact Hmybl
    isplitl [Hcb]; · iexact Hcb
    isplitl [Hpb]; · iexact Hpb
    isplitl [Hx]; · iexact Hx
    isplitl [Hrw]; · iexact Hrw
    iexact Hidx
  iintro ⟨HO, Hpb, Hx, Hrw, Hidx, Hdar0, Hdar1, Hdar2, Hdal0, Hdal1, Hdal2, Hdbr0, Hdbr1, Hdbr2, Hdbl0, Hdbl1, Hdbl2⟩
  try dsimp only
  iapply step_bind
  iapply (part3 I c v20 fg) $$ [Hg Hx]
  · isplitl [Hg]; · iexact Hg
    iexact Hx
  iintro %v88 %v91 ⟨Hg, Hx⟩
  try dsimp only
  iapply step_bind
  iapply (part4 I c v88 v91) $$ [Hx Hg]
  · isplitl [Hx]; · iexact Hx
    iexact Hg
  iintro ⟨Hx, Hg⟩
  try dsimp only
  iapply step_bind
  iapply (part5 I c v91) $$ [Hg Hx HW]
  · isplitl [Hg]; · iexact Hg
    isplitl [Hx]; · iexact Hx
    iexact HW
  iintro ⟨Hg, Hx, HW⟩
  try dsimp only
  iapply step_bind
  iapply (part6 I c ) $$ [HW Hsar0]
  · isplitl [HW]; · iexact HW
    iexact Hsar0
  iintro ⟨HW, Hsar0⟩
  try dsimp only
  iapply step_bind
  iapply (part7 I c v20 v24 v28) $$ [Hsal0 Hsar0 Hdar0 HO Hts5r0 Htr13 Hdal0 Hts7r0 Htr16]
  · isplitr; · iexact HR
    isplitr; · iexact HL
    isplitl [Hsal0]; · iexact Hsal0
    isplitl [Hsar0]; · iexact Hsar0
    isplitl [Hdar0]; · iexact Hdar0
    isplitl [HO]; · iexact HO
    isplitl [Hts5r0]; · iexact Hts5r0
    isplitl [Htr13]; · iexact Htr13
    isplitl [Hdal0]; · iexact Hdal0
    isplitl [Hts7r0]; · iexact Hts7r0
    iexact Htr16
  iintro %v244 %v247 ⟨HO, Hc5, Hc7⟩
  try dsimp only
  iapply step_bind
  iapply (part8 I c v244 v247) $$ [Hx Hg]
  · isplitl [Hx]; · iexact Hx
    iexact Hg
  iintro %v284 %c512_i32_162 ⟨Hx, Hg⟩
  try dsimp only
  iapply step_bind
  iapply (part9 I c v247 v284 c512_i32_162) $$ [Hx Hg HW]
  · isplitl [Hx]; · iexact Hx
    isplitl [Hg]; · iexact Hg
    iexact HW
  iintro ⟨Hx, Hg, HW⟩
  try dsimp only
  iapply step_bind
  iapply (part10 I c ) $$ HW
  iintro HW
  try dsimp only
  iapply step_bind
  iapply (part11 I c ) $$ [HW HO Hc13 Hp13 Hc16 Hp16]
  · isplitr; · iexact HR
    isplitr; · iexact HL
    isplitl [HW]; · iexact HW
    isplitl [HO]; · iexact HO
    isplitl [Hc13]; · iexact Hc13
    isplitl [Hp13]; · iexact Hp13
    isplitl [Hc16]; · iexact Hc16
    iexact Hp16
  iintro ⟨HW, HO, Hp13, Hp16, Hlar0, Hlal0⟩
  try dsimp only
  iapply step_bind
  iapply (part12 I c v24 v28) $$ [Hsar1 Hsal1 Hdar1 HO Hts6r0 Htr14 Hdal1 Hts8r0 Htr17]
  · isplitr; · iexact HR
    isplitr; · iexact HL
    isplitl [Hsar1]; · iexact Hsar1
    isplitl [Hsal1]; · iexact Hsal1
    isplitl [Hdar1]; · iexact Hdar1
    isplitl [HO]; · iexact HO
    isplitl [Hts6r0]; · iexact Hts6r0
    isplitl [Htr14]; · iexact Htr14
    isplitl [Hdal1]; · iexact Hdal1
    isplitl [Hts8r0]; · iexact Hts8r0
    iexact Htr17
  iintro ⟨HO, Hc6, Hc8⟩
  try dsimp only
  iapply step_bind
  iapply (part13 I c v20) $$ [Hx Hg]
  · isplitl [Hx]; · iexact Hx
    iexact Hg
  iintro %v427 %v456 ⟨Hx, Hg⟩
  try dsimp only
  iapply step_bind
  iapply (part14 I c v427 v456) $$ [Hx Hg]
  · isplitl [Hx]; · iexact Hx
    iexact Hg
  iintro ⟨Hx, Hg⟩
  try dsimp only
  iapply step_bind
  iapply (part15 I c ) $$ HW
  iintro HW
  try dsimp only
  iapply step_bind
  iapply (part16 I c ) $$ [HW HO Hc14 Hp14]
  · isplitr; · iexact HR
    isplitr; · iexact HL
    isplitl [HW]; · iexact HW
    isplitl [HO]; · iexact HO
    isplitl [Hc14]; · iexact Hc14
    iexact Hp14
  iintro ⟨HW, HO, Hp14, Hlar1⟩
  try dsimp only
  iapply step_bind
  iapply (part17 I c ) $$ [HO Hc17 Hp17 Hc5 Hp5 Hc7 Hp7]
  · isplitr; · iexact HR
    isplitr; · iexact HL
    isplitl [HO]; · iexact HO
    isplitl [Hc17]; · iexact Hc17
    isplitl [Hp17]; · iexact Hp17
    isplitl [Hc5]; · iexact Hc5
    isplitl [Hp5]; · iexact Hp5
    isplitl [Hc7]; · iexact Hc7
    iexact Hp7
  iintro ⟨HO, Hp17, Hp5, Hp7, Hlal1, Hr5, Hsar0, Hr7, Hsal0⟩
  try dsimp only
  iapply step_bind
  iapply (part18 I c v20 v24 v28) $$ [Hsal0 Hsar0 Hdar2 HO Hts5r1 Htr15 Hr5 Hdal2 Hts7r1 Htr18 Hr7]
  · isplitr; · iexact HR
    isplitr; · iexact HL
    isplitl [Hsal0]; · iexact Hsal0
    isplitl [Hsar0]; · iexact Hsar0
    isplitl [Hdar2]; · iexact Hdar2
    isplitl [HO]; · iexact HO
    isplitl [Hts5r1]; · iexact Hts5r1
    isplitl [Htr15]; · iexact Htr15
    isplitl [Hr5]; · iexact Hr5
    isplitl [Hdal2]; · iexact Hdal2
    isplitl [Hts7r1]; · iexact Hts7r1
    isplitl [Htr18]; · iexact Htr18
    iexact Hr7
  iintro %v616 %v619 ⟨HO, Hc5, Hc7⟩
  try dsimp only
  iapply step_bind
  iapply (part19 I c v616 v619) $$ [Hx Hg]
  · isplitl [Hx]; · iexact Hx
    iexact Hg
  iintro %v656 %c512_i32_435 ⟨Hx, Hg⟩
  try dsimp only
  iapply step_bind
  iapply (part20 I c v619 v656 c512_i32_435) $$ [Hx Hg HW]
  · isplitl [Hx]; · iexact Hx
    isplitl [Hg]; · iexact Hg
    iexact HW
  iintro ⟨Hx, Hg, HW⟩
  try dsimp only
  iapply step_bind
  iapply (part21 I c ) $$ HW
  iintro HW
  try dsimp only
  iapply step_bind
  iapply (part22 I c ) $$ [HW HO Hc15 Hp15 Hc18 Hp18]
  · isplitr; · iexact HR
    isplitr; · iexact HL
    isplitl [HW]; · iexact HW
    isplitl [HO]; · iexact HO
    isplitl [Hc15]; · iexact Hc15
    isplitl [Hp15]; · iexact Hp15
    isplitl [Hc18]; · iexact Hc18
    iexact Hp18
  iintro ⟨HW, HO, Hp15, Hp18, Hlar2, Hlal2⟩
  try dsimp only
  iapply step_bind
  iapply (part23 I c v19 fa) $$ Hacc
  iintro %v797 Hacc
  try dsimp only
  iapply step_bind
  iapply (part24 I c v19 v30 v797) $$ [Hacc Hsbr0 Hsbl0]
  · isplitl [Hacc]; · iexact Hacc
    isplitl [Hsbr0]; · iexact Hsbr0
    iexact Hsbl0
  iintro ⟨Hacc, Hsbr0, Hsbl0⟩
  try dsimp only
  iapply step_bind
  iapply (part25 I c v19 v33) $$ [Hsbr0 Hdbr0 HO Hts9r0 Htr19 Hsbl0 Hdbl0 Hts11r0 Htr22 Hacc]
  · isplitr; · iexact HR
    isplitr; · iexact HL
    isplitl [Hsbr0]; · iexact Hsbr0
    isplitl [Hdbr0]; · iexact Hdbr0
    isplitl [HO]; · iexact HO
    isplitl [Hts9r0]; · iexact Hts9r0
    isplitl [Htr19]; · iexact Htr19
    isplitl [Hsbl0]; · iexact Hsbl0
    isplitl [Hdbl0]; · iexact Hdbl0
    isplitl [Hts11r0]; · iexact Hts11r0
    isplitl [Htr22]; · iexact Htr22
    iexact Hacc
  iintro ⟨HO, Hacc, Hc9, Hc11⟩
  try dsimp only
  iapply step_bind
  iapply (part26 I c ) $$ [HO Hc19 Hp19 Hc22 Hp22 Hsbr1 Hsbl1]
  · isplitr; · iexact HR
    isplitr; · iexact HL
    isplitl [HO]; · iexact HO
    isplitl [Hc19]; · iexact Hc19
    isplitl [Hp19]; · iexact Hp19
    isplitl [Hc22]; · iexact Hc22
    isplitl [Hp22]; · iexact Hp22
    isplitl [Hsbr1]; · iexact Hsbr1
    iexact Hsbl1
  iintro ⟨HO, Hp19, Hp22, Hsbr1, Hsbl1, Hlbr0, Hlbl0⟩
  try dsimp only
  iapply step_bind
  iapply (part27 I c v19 v30 v33) $$ [Hsbr1 Hdbr1 HO Hts10r0 Htr20 Hsbl1 Hdbl1 Hts12r0 Htr23 Hacc]
  · isplitr; · iexact HR
    isplitr; · iexact HL
    isplitl [Hsbr1]; · iexact Hsbr1
    isplitl [Hdbr1]; · iexact Hdbr1
    isplitl [HO]; · iexact HO
    isplitl [Hts10r0]; · iexact Hts10r0
    isplitl [Htr20]; · iexact Htr20
    isplitl [Hsbl1]; · iexact Hsbl1
    isplitl [Hdbl1]; · iexact Hdbl1
    isplitl [Hts12r0]; · iexact Hts12r0
    isplitl [Htr23]; · iexact Htr23
    iexact Hacc
  iintro %v915 %c64_i32_629 ⟨HO, Hacc, Hc10, Hc12⟩
  try dsimp only
  iapply step_bind
  iapply (part28 I c v915 c64_i32_629) $$ [Hacc HO Hc20 Hp20 Hc23 Hp23]
  · isplitr; · iexact HR
    isplitr; · iexact HL
    isplitl [Hacc]; · iexact Hacc
    isplitl [HO]; · iexact HO
    isplitl [Hc20]; · iexact Hc20
    isplitl [Hp20]; · iexact Hp20
    isplitl [Hc23]; · iexact Hc23
    iexact Hp23
  iintro ⟨Hacc, HO, Hp20, Hp23, Hlbr1, Hlbl1⟩
  try dsimp only
  iapply step_bind
  iapply (part29 I c v30) $$ [HO Hc9 Hp9 Hc11 Hp11]
  · isplitr; · iexact HR
    isplitr; · iexact HL
    isplitl [HO]; · iexact HO
    isplitl [Hc9]; · iexact Hc9
    isplitl [Hp9]; · iexact Hp9
    isplitl [Hc11]; · iexact Hc11
    iexact Hp11
  iintro ⟨HO, Hp9, Hp11, Hr9, Hsbr0, Hr11, Hsbl0⟩
  try dsimp only
  iapply step_bind
  iapply (part30 I c v19 v33) $$ [Hsbr0 Hdbr2 HO Hts9r1 Htr21 Hr9 Hsbl0 Hdbl2 Hts11r1 Htr24 Hr11 Hacc]
  · isplitr; · iexact HR
    isplitr; · iexact HL
    isplitl [Hsbr0]; · iexact Hsbr0
    isplitl [Hdbr2]; · iexact Hdbr2
    isplitl [HO]; · iexact HO
    isplitl [Hts9r1]; · iexact Hts9r1
    isplitl [Htr21]; · iexact Htr21
    isplitl [Hr9]; · iexact Hr9
    isplitl [Hsbl0]; · iexact Hsbl0
    isplitl [Hdbl2]; · iexact Hdbl2
    isplitl [Hts11r1]; · iexact Hts11r1
    isplitl [Htr24]; · iexact Htr24
    isplitl [Hr11]; · iexact Hr11
    iexact Hacc
  iintro ⟨HO, Hacc, Hc9, Hc11⟩
  try dsimp only
  iapply step_bind
  iapply (part31 I c fo) $$ [HO Hc21 Hp21 Hc24 Hp24 Hout]
  · isplitr; · iexact HR
    isplitr; · iexact HL
    isplitl [HO]; · iexact HO
    isplitl [Hc21]; · iexact Hc21
    isplitl [Hp21]; · iexact Hp21
    isplitl [Hc24]; · iexact Hc24
    isplitl [Hp24]; · iexact Hp24
    iexact Hout
  iintro ⟨HO, Hp21, Hp24, Hout, Hlbr2, Hlbl2⟩
  try dsimp only
  iapply step_bind
  iapply (part32 I c ) $$ [HO Hc6 Hp6 Hc5 Hp5 Hc8 Hp8 Hc7 Hp7]
  · isplitr; · iexact HR
    isplitr; · iexact HL
    isplitl [HO]; · iexact HO
    isplitl [Hc6]; · iexact Hc6
    isplitl [Hp6]; · iexact Hp6
    isplitl [Hc5]; · iexact Hc5
    isplitl [Hp5]; · iexact Hp5
    isplitl [Hc8]; · iexact Hc8
    isplitl [Hp8]; · iexact Hp8
    isplitl [Hc7]; · iexact Hc7
    iexact Hp7
  iintro ⟨HO, Hp6, Hp5, Hp8, Hp7, Hsar1, Hsar0, Hsal1, Hsal0⟩
  try dsimp only
  iapply step_bind
  iapply (part33 I c ) $$ [HO Hc10 Hp10 Hc9 Hp9 Hc12 Hp12 Hc11 Hp11]
  · isplitr; · iexact HR
    isplitr; · iexact HL
    isplitl [HO]; · iexact HO
    isplitl [Hc10]; · iexact Hc10
    isplitl [Hp10]; · iexact Hp10
    isplitl [Hc9]; · iexact Hc9
    isplitl [Hp9]; · iexact Hp9
    isplitl [Hc12]; · iexact Hc12
    isplitl [Hp12]; · iexact Hp12
    isplitl [Hc11]; · iexact Hc11
    iexact Hp11
  iintro ⟨HO, Hp10, Hp9, Hp12, Hp11, Hsbr1, Hsbr0, Hsbl1, Hsbl0⟩
  try dsimp only
  rw [Prog.pure_eq_ret]
  iapply (step_ret_upd c)
  imod (step_close_bar (sent I) c) $$ [Hpb] with Hpb
  · isplitr; · iexact HR
    iexact Hpb
  imod (step_close (sent I) c (dq 13 (Nat.le_of_ble_eq_true rfl)) (by decide) 1 (by decide)) $$ [Hp13] with Hp13
  · isplitr; · iexact HR
    iexact Hp13
  imod (step_close (sent I) c (dq 14 (Nat.le_of_ble_eq_true rfl)) (by decide) 1 (by decide)) $$ [Hp14] with Hp14
  · isplitr; · iexact HR
    iexact Hp14
  imod (step_close (sent I) c (dq 15 (Nat.le_of_ble_eq_true rfl)) (by decide) 1 (by decide)) $$ [Hp15] with Hp15
  · isplitr; · iexact HR
    iexact Hp15
  imod (step_close (sent I) c (dq 5 (Nat.le_of_ble_eq_true rfl)) (by decide) 2 (by decide)) $$ [Hp5] with Hp5
  · isplitr; · iexact HR
    iexact Hp5
  imod (step_close (sent I) c (dq 6 (Nat.le_of_ble_eq_true rfl)) (by decide) 1 (by decide)) $$ [Hp6] with Hp6
  · isplitr; · iexact HR
    iexact Hp6
  imod (step_close (sent I) c (dq 16 (Nat.le_of_ble_eq_true rfl)) (by decide) 1 (by decide)) $$ [Hp16] with Hp16
  · isplitr; · iexact HR
    iexact Hp16
  imod (step_close (sent I) c (dq 17 (Nat.le_of_ble_eq_true rfl)) (by decide) 1 (by decide)) $$ [Hp17] with Hp17
  · isplitr; · iexact HR
    iexact Hp17
  imod (step_close (sent I) c (dq 18 (Nat.le_of_ble_eq_true rfl)) (by decide) 1 (by decide)) $$ [Hp18] with Hp18
  · isplitr; · iexact HR
    iexact Hp18
  imod (step_close (sent I) c (dq 7 (Nat.le_of_ble_eq_true rfl)) (by decide) 2 (by decide)) $$ [Hp7] with Hp7
  · isplitr; · iexact HR
    iexact Hp7
  imod (step_close (sent I) c (dq 8 (Nat.le_of_ble_eq_true rfl)) (by decide) 1 (by decide)) $$ [Hp8] with Hp8
  · isplitr; · iexact HR
    iexact Hp8
  imod (step_close (sent I) c (dq 19 (Nat.le_of_ble_eq_true rfl)) (by decide) 1 (by decide)) $$ [Hp19] with Hp19
  · isplitr; · iexact HR
    iexact Hp19
  imod (step_close (sent I) c (dq 20 (Nat.le_of_ble_eq_true rfl)) (by decide) 1 (by decide)) $$ [Hp20] with Hp20
  · isplitr; · iexact HR
    iexact Hp20
  imod (step_close (sent I) c (dq 21 (Nat.le_of_ble_eq_true rfl)) (by decide) 1 (by decide)) $$ [Hp21] with Hp21
  · isplitr; · iexact HR
    iexact Hp21
  imod (step_close (sent I) c (dq 9 (Nat.le_of_ble_eq_true rfl)) (by decide) 2 (by decide)) $$ [Hp9] with Hp9
  · isplitr; · iexact HR
    iexact Hp9
  imod (step_close (sent I) c (dq 10 (Nat.le_of_ble_eq_true rfl)) (by decide) 1 (by decide)) $$ [Hp10] with Hp10
  · isplitr; · iexact HR
    iexact Hp10
  imod (step_close (sent I) c (dq 22 (Nat.le_of_ble_eq_true rfl)) (by decide) 1 (by decide)) $$ [Hp22] with Hp22
  · isplitr; · iexact HR
    iexact Hp22
  imod (step_close (sent I) c (dq 23 (Nat.le_of_ble_eq_true rfl)) (by decide) 1 (by decide)) $$ [Hp23] with Hp23
  · isplitr; · iexact HR
    iexact Hp23
  imod (step_close (sent I) c (dq 24 (Nat.le_of_ble_eq_true rfl)) (by decide) 1 (by decide)) $$ [Hp24] with Hp24
  · isplitr; · iexact HR
    iexact Hp24
  imod (step_close (sent I) c (dq 11 (Nat.le_of_ble_eq_true rfl)) (by decide) 2 (by decide)) $$ [Hp11] with Hp11
  · isplitr; · iexact HR
    iexact Hp11
  imod (step_close (sent I) c (dq 12 (Nat.le_of_ble_eq_true rfl)) (by decide) 1 (by decide)) $$ [Hp12] with Hp12
  · isplitr; · iexact HR
    iexact Hp12
  imodintro
  iapply HKt
  unfold bodyEnd
  isplitl [Hx]; · iexact Hx
  isplitl [Hrw]; · iexact Hrw
  isplitl [Hidx]; · iexact Hidx
  isplitl [HW]; · iexact HW
  isplitl [Hout]; · iexact Hout
  isplitl [Hg]; · iexact Hg
  isplitl [Hacc]; · iexact Hacc
  isplitl [HO]; · iexact HO
  isplitl [Hlar0]; · iexact Hlar0
  isplitl [Hlal0]; · iexact Hlal0
  isplitl [Hlar1]; · iexact Hlar1
  isplitl [Hlal1]; · iexact Hlal1
  isplitl [Hlar2]; · iexact Hlar2
  isplitl [Hlal2]; · iexact Hlal2
  isplitl [Hlbr0]; · iexact Hlbr0
  isplitl [Hlbl0]; · iexact Hlbl0
  isplitl [Hlbr1]; · iexact Hlbr1
  isplitl [Hlbl1]; · iexact Hlbl1
  isplitl [Hlbr2]; · iexact Hlbr2
  isplitl [Hlbl2]; · iexact Hlbl2
  isplitl [Hsar1]; · iexact Hsar1
  isplitl [Hsar0]; · iexact Hsar0
  isplitl [Hsal1]; · iexact Hsal1
  isplitl [Hsal0]; · iexact Hsal0
  isplitl [Hsbr1]; · iexact Hsbr1
  isplitl [Hsbr0]; · iexact Hsbr0
  isplitl [Hsbl1]; · iexact Hsbl1
  isplitl [Hsbl0]; · iexact Hsbl0
  isplitl [Hpb]; · iexact Hpb
  isplitl [Hp13]; · iexact Hp13
  isplitl [Hp14]; · iexact Hp14
  isplitl [Hp15]; · iexact Hp15
  isplitl [Hp5]; · iexact Hp5
  isplitl [Hp6]; · iexact Hp6
  isplitl [Hp16]; · iexact Hp16
  isplitl [Hp17]; · iexact Hp17
  isplitl [Hp18]; · iexact Hp18
  isplitl [Hp7]; · iexact Hp7
  isplitl [Hp8]; · iexact Hp8
  isplitl [Hp19]; · iexact Hp19
  isplitl [Hp20]; · iexact Hp20
  isplitl [Hp21]; · iexact Hp21
  isplitl [Hp9]; · iexact Hp9
  isplitl [Hp10]; · iexact Hp10
  isplitl [Hp22]; · iexact Hp22
  isplitl [Hp23]; · iexact Hp23
  isplitl [Hp24]; · iexact Hp24
  isplitl [Hp11]; · iexact Hp11
  iexact Hp12

end Cert.AllReduce
-- ==== Proof.Slots.lean ====
/-
# Landing and send buffers as their slots

Each landing buffer is its three slots, each send buffer its two: a buffer at whatever contents is its slots at whatever
contents, and back.
-/
module

public import proofs.«01_k».proof.Proof.Exchange
public import Idealize.ShloMosaic.Lib.Ring

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The slots of a buffer of shape `S3x256x1024`. -/
def A3 (k : Fin 3) : Finset S3x256x1024.Idx := match k with
  | 0 => (Rect.unit (s := S3x256x1024) ![0, 0, 0] S1x256x1024.size inb_S3x256x1024_S1x256x1024_0_0_0).set | 1 => (Rect.unit (s := S3x256x1024) ![1, 0, 0] S1x256x1024.size inb_S3x256x1024_S1x256x1024_1_0_0).set | 2 => (Rect.unit (s := S3x256x1024) ![2, 0, 0] S1x256x1024.size inb_S3x256x1024_S1x256x1024_2_0_0).set
theorem mem_A3 (k : Fin 3) (y : S3x256x1024.Idx) : y ∈ A3 k ↔ (y 0).val = k.val := by
  have h1 : (y 1).val < 256 := (y 1).isLt
  have h2 : (y 2).val < 1024 := (y 2).isLt
  fin_cases k
  · show y ∈ (Rect.unit (s := S3x256x1024) ![0, 0, 0] S1x256x1024.size inb_S3x256x1024_S1x256x1024_0_0_0).set ↔ (y 0).val = 0
    rw [Rect.mem_set_unit]
    exact ⟨fun h => by have h0 : 0 ≤ (y 0).val ∧ (y 0).val < 0 + 1 := h 0; omega, fun h a => by
      fin_cases a
      · show 0 ≤ (y 0).val ∧ (y 0).val < 0 + 1; omega
      · show 0 ≤ (y 1).val ∧ (y 1).val < 0 + 256; omega
      · show 0 ≤ (y 2).val ∧ (y 2).val < 0 + 1024; omega⟩
  · show y ∈ (Rect.unit (s := S3x256x1024) ![1, 0, 0] S1x256x1024.size inb_S3x256x1024_S1x256x1024_1_0_0).set ↔ (y 0).val = 1
    rw [Rect.mem_set_unit]
    exact ⟨fun h => by have h0 : 1 ≤ (y 0).val ∧ (y 0).val < 1 + 1 := h 0; omega, fun h a => by
      fin_cases a
      · show 1 ≤ (y 0).val ∧ (y 0).val < 1 + 1; omega
      · show 0 ≤ (y 1).val ∧ (y 1).val < 0 + 256; omega
      · show 0 ≤ (y 2).val ∧ (y 2).val < 0 + 1024; omega⟩
  · show y ∈ (Rect.unit (s := S3x256x1024) ![2, 0, 0] S1x256x1024.size inb_S3x256x1024_S1x256x1024_2_0_0).set ↔ (y 0).val = 2
    rw [Rect.mem_set_unit]
    exact ⟨fun h => by have h0 : 2 ≤ (y 0).val ∧ (y 0).val < 2 + 1 := h 0; omega, fun h a => by
      fin_cases a
      · show 2 ≤ (y 0).val ∧ (y 0).val < 2 + 1; omega
      · show 0 ≤ (y 1).val ∧ (y 1).val < 0 + 256; omega
      · show 0 ≤ (y 2).val ∧ (y 2).val < 0 + 1024; omega⟩
theorem A3_disjoint : ∀ s s' : Fin 3, s ≠ s' → Disjoint (A3 s) (A3 s') := by
  intro s s' hne; rw [Finset.disjoint_left]; intro y hy hy'; rw [mem_A3] at hy hy'; exact hne (Fin.ext (hy.symm.trans hy'))
theorem A3_cover : (Finset.univ : Finset (Fin 3)).biUnion A3 = Finset.univ := by
  ext y; simp only [Finset.mem_biUnion, Finset.mem_univ, true_and, iff_true]; exact ⟨(y 0).cast (by decide), by rw [mem_A3]; rfl⟩

/-- The slots of a buffer of shape `S2x256x1024`. -/
def A2 (k : Fin 2) : Finset S2x256x1024.Idx := match k with
  | 0 => (Rect.unit (s := S2x256x1024) ![0, 0, 0] S1x256x1024.size inb_S2x256x1024_S1x256x1024_0_0_0).set | 1 => (Rect.unit (s := S2x256x1024) ![1, 0, 0] S1x256x1024.size inb_S2x256x1024_S1x256x1024_1_0_0).set
theorem mem_A2 (k : Fin 2) (y : S2x256x1024.Idx) : y ∈ A2 k ↔ (y 0).val = k.val := by
  have h1 : (y 1).val < 256 := (y 1).isLt
  have h2 : (y 2).val < 1024 := (y 2).isLt
  fin_cases k
  · show y ∈ (Rect.unit (s := S2x256x1024) ![0, 0, 0] S1x256x1024.size inb_S2x256x1024_S1x256x1024_0_0_0).set ↔ (y 0).val = 0
    rw [Rect.mem_set_unit]
    exact ⟨fun h => by have h0 : 0 ≤ (y 0).val ∧ (y 0).val < 0 + 1 := h 0; omega, fun h a => by
      fin_cases a
      · show 0 ≤ (y 0).val ∧ (y 0).val < 0 + 1; omega
      · show 0 ≤ (y 1).val ∧ (y 1).val < 0 + 256; omega
      · show 0 ≤ (y 2).val ∧ (y 2).val < 0 + 1024; omega⟩
  · show y ∈ (Rect.unit (s := S2x256x1024) ![1, 0, 0] S1x256x1024.size inb_S2x256x1024_S1x256x1024_1_0_0).set ↔ (y 0).val = 1
    rw [Rect.mem_set_unit]
    exact ⟨fun h => by have h0 : 1 ≤ (y 0).val ∧ (y 0).val < 1 + 1 := h 0; omega, fun h a => by
      fin_cases a
      · show 1 ≤ (y 0).val ∧ (y 0).val < 1 + 1; omega
      · show 0 ≤ (y 1).val ∧ (y 1).val < 0 + 256; omega
      · show 0 ≤ (y 2).val ∧ (y 2).val < 0 + 1024; omega⟩
theorem A2_disjoint : ∀ s s' : Fin 2, s ≠ s' → Disjoint (A2 s) (A2 s') := by
  intro s s' hne; rw [Finset.disjoint_left]; intro y hy hy'; rw [mem_A2] at hy hy'; exact hne (Fin.ext (hy.symm.trans hy'))
theorem A2_cover : (Finset.univ : Finset (Fin 2)).biUnion A2 = Finset.univ := by
  ext y; simp only [Finset.mem_biUnion, Finset.mem_univ, true_and, iff_true]; exact ⟨(y 0).cast (by decide), by rw [mem_A2]; rfl⟩

/-- The slots of a buffer of shape `S3x64x1024`. -/
def B3 (k : Fin 3) : Finset S3x64x1024.Idx := match k with
  | 0 => (Rect.unit (s := S3x64x1024) ![0, 0, 0] S1x64x1024.size inb_S3x64x1024_S1x64x1024_0_0_0).set | 1 => (Rect.unit (s := S3x64x1024) ![1, 0, 0] S1x64x1024.size inb_S3x64x1024_S1x64x1024_1_0_0).set | 2 => (Rect.unit (s := S3x64x1024) ![2, 0, 0] S1x64x1024.size inb_S3x64x1024_S1x64x1024_2_0_0).set
theorem mem_B3 (k : Fin 3) (y : S3x64x1024.Idx) : y ∈ B3 k ↔ (y 0).val = k.val := by
  have h1 : (y 1).val < 64 := (y 1).isLt
  have h2 : (y 2).val < 1024 := (y 2).isLt
  fin_cases k
  · show y ∈ (Rect.unit (s := S3x64x1024) ![0, 0, 0] S1x64x1024.size inb_S3x64x1024_S1x64x1024_0_0_0).set ↔ (y 0).val = 0
    rw [Rect.mem_set_unit]
    exact ⟨fun h => by have h0 : 0 ≤ (y 0).val ∧ (y 0).val < 0 + 1 := h 0; omega, fun h a => by
      fin_cases a
      · show 0 ≤ (y 0).val ∧ (y 0).val < 0 + 1; omega
      · show 0 ≤ (y 1).val ∧ (y 1).val < 0 + 64; omega
      · show 0 ≤ (y 2).val ∧ (y 2).val < 0 + 1024; omega⟩
  · show y ∈ (Rect.unit (s := S3x64x1024) ![1, 0, 0] S1x64x1024.size inb_S3x64x1024_S1x64x1024_1_0_0).set ↔ (y 0).val = 1
    rw [Rect.mem_set_unit]
    exact ⟨fun h => by have h0 : 1 ≤ (y 0).val ∧ (y 0).val < 1 + 1 := h 0; omega, fun h a => by
      fin_cases a
      · show 1 ≤ (y 0).val ∧ (y 0).val < 1 + 1; omega
      · show 0 ≤ (y 1).val ∧ (y 1).val < 0 + 64; omega
      · show 0 ≤ (y 2).val ∧ (y 2).val < 0 + 1024; omega⟩
  · show y ∈ (Rect.unit (s := S3x64x1024) ![2, 0, 0] S1x64x1024.size inb_S3x64x1024_S1x64x1024_2_0_0).set ↔ (y 0).val = 2
    rw [Rect.mem_set_unit]
    exact ⟨fun h => by have h0 : 2 ≤ (y 0).val ∧ (y 0).val < 2 + 1 := h 0; omega, fun h a => by
      fin_cases a
      · show 2 ≤ (y 0).val ∧ (y 0).val < 2 + 1; omega
      · show 0 ≤ (y 1).val ∧ (y 1).val < 0 + 64; omega
      · show 0 ≤ (y 2).val ∧ (y 2).val < 0 + 1024; omega⟩
theorem B3_disjoint : ∀ s s' : Fin 3, s ≠ s' → Disjoint (B3 s) (B3 s') := by
  intro s s' hne; rw [Finset.disjoint_left]; intro y hy hy'; rw [mem_B3] at hy hy'; exact hne (Fin.ext (hy.symm.trans hy'))
theorem B3_cover : (Finset.univ : Finset (Fin 3)).biUnion B3 = Finset.univ := by
  ext y; simp only [Finset.mem_biUnion, Finset.mem_univ, true_and, iff_true]; exact ⟨(y 0).cast (by decide), by rw [mem_B3]; rfl⟩

/-- The slots of a buffer of shape `S2x64x1024`. -/
def B2 (k : Fin 2) : Finset S2x64x1024.Idx := match k with
  | 0 => (Rect.unit (s := S2x64x1024) ![0, 0, 0] S1x64x1024.size inb_S2x64x1024_S1x64x1024_0_0_0).set | 1 => (Rect.unit (s := S2x64x1024) ![1, 0, 0] S1x64x1024.size inb_S2x64x1024_S1x64x1024_1_0_0).set
theorem mem_B2 (k : Fin 2) (y : S2x64x1024.Idx) : y ∈ B2 k ↔ (y 0).val = k.val := by
  have h1 : (y 1).val < 64 := (y 1).isLt
  have h2 : (y 2).val < 1024 := (y 2).isLt
  fin_cases k
  · show y ∈ (Rect.unit (s := S2x64x1024) ![0, 0, 0] S1x64x1024.size inb_S2x64x1024_S1x64x1024_0_0_0).set ↔ (y 0).val = 0
    rw [Rect.mem_set_unit]
    exact ⟨fun h => by have h0 : 0 ≤ (y 0).val ∧ (y 0).val < 0 + 1 := h 0; omega, fun h a => by
      fin_cases a
      · show 0 ≤ (y 0).val ∧ (y 0).val < 0 + 1; omega
      · show 0 ≤ (y 1).val ∧ (y 1).val < 0 + 64; omega
      · show 0 ≤ (y 2).val ∧ (y 2).val < 0 + 1024; omega⟩
  · show y ∈ (Rect.unit (s := S2x64x1024) ![1, 0, 0] S1x64x1024.size inb_S2x64x1024_S1x64x1024_1_0_0).set ↔ (y 0).val = 1
    rw [Rect.mem_set_unit]
    exact ⟨fun h => by have h0 : 1 ≤ (y 0).val ∧ (y 0).val < 1 + 1 := h 0; omega, fun h a => by
      fin_cases a
      · show 1 ≤ (y 0).val ∧ (y 0).val < 1 + 1; omega
      · show 0 ≤ (y 1).val ∧ (y 1).val < 0 + 64; omega
      · show 0 ≤ (y 2).val ∧ (y 2).val < 0 + 1024; omega⟩
theorem B2_disjoint : ∀ s s' : Fin 2, s ≠ s' → Disjoint (B2 s) (B2 s') := by
  intro s s' hne; rw [Finset.disjoint_left]; intro y hy hy'; rw [mem_B2] at hy hy'; exact hne (Fin.ext (hy.symm.trans hy'))
theorem B2_cover : (Finset.univ : Finset (Fin 2)).biUnion B2 = Finset.univ := by
  ext y; simp only [Finset.mem_biUnion, Finset.mem_univ, true_and, iff_true]; exact ⟨(y 0).cast (by decide), by rw [mem_B2]; rfl⟩

omit [FloatOps F] in
theorem sep_fin2 (Φ : Fin 2 → sProp 𝕄) : bigSep Finset.univ Φ = iprop(Φ 0 ∗ Φ 1) :=
  bigSep_univ_eq_bigSepL [(0 : Fin 2), (1 : Fin 2)] (by decide) (by decide) Φ
omit [FloatOps F] in
theorem sep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- A whole buffer at whatever contents. -/
abbrev anyBuf (c : Dev nD) (b : Ref sig .tc) : sProp 𝕄 := iprop(∃ f : Buf (Elt F) ((c : Thread nD τ).loc b), ((c : Thread nD τ).loc b) ↦{fullShare} f)

omit [FloatOps F] in
/-- A slot at known contents is a slot. -/
theorem landAt_some {s s' : Shape} (hc : s'.ShapeCasts s) (M : Memref sig .tc .vmem s .bf16) (c : Dev nD) (w : FVec F s' .bf16) :
    landAt (F := F) hc M c w ⊢ someAt M c := by
  unfold landAt someAt
  iintro ⟨%f, -, H⟩
  iexists f; iexact H

omit [FloatOps F] in
theorem arC0_eq (c : Dev nD) : (someAt arC0 c : sProp 𝕄) = iprop(∃ f : Buf (Elt F) ((c : Thread nD τ).loc cc0_scratch2), ((c : Thread nD τ).loc cc0_scratch2) ↦[A3 0]{fullShare} f) :=
  congrArg (fun S => (iprop(∃ f : Buf (Elt F) ((c : Thread nD τ).loc cc0_scratch2), ((c : Thread nD τ).loc cc0_scratch2) ↦[S]{fullShare} f) : sProp 𝕄))
    (show (arC0 : Memref sig .tc .vmem _ .bf16).view.set = A3 0 from (View.set_reshape _ _).trans (View.set_slice_whole _ _))
omit [FloatOps F] in
theorem arC1_eq (c : Dev nD) : (someAt arC1 c : sProp 𝕄) = iprop(∃ f : Buf (Elt F) ((c : Thread nD τ).loc cc0_scratch2), ((c : Thread nD τ).loc cc0_scratch2) ↦[A3 1]{fullShare} f) :=
  congrArg (fun S => (iprop(∃ f : Buf (Elt F) ((c : Thread nD τ).loc cc0_scratch2), ((c : Thread nD τ).loc cc0_scratch2) ↦[S]{fullShare} f) : sProp 𝕄))
    (show (arC1 : Memref sig .tc .vmem _ .bf16).view.set = A3 1 from (View.set_reshape _ _).trans (View.set_slice_whole _ _))
omit [FloatOps F] in
theorem arC2_eq (c : Dev nD) : (someAt arC2 c : sProp 𝕄) = iprop(∃ f : Buf (Elt F) ((c : Thread nD τ).loc cc0_scratch2), ((c : Thread nD τ).loc cc0_scratch2) ↦[A3 2]{fullShare} f) :=
  congrArg (fun S => (iprop(∃ f : Buf (Elt F) ((c : Thread nD τ).loc cc0_scratch2), ((c : Thread nD τ).loc cc0_scratch2) ↦[S]{fullShare} f) : sProp 𝕄))
    (show (arC2 : Memref sig .tc .vmem _ .bf16).view.set = A3 2 from (View.set_reshape _ _).trans (View.set_slice_whole _ _))
omit [FloatOps F] in
theorem arC_split (c : Dev nD) : (anyBuf c cc0_scratch2 : sProp 𝕄) ⊢ iprop(someAt arC0 c ∗ someAt arC1 c ∗ someAt arC2 c) := by
  rw [arC0_eq, arC1_eq, arC2_eq]
  iintro ⟨%f, H⟩
  ihave H2 := (Entails.of_eq ((Ring.pointsTo_blocks (Ix := Unit) (Name := ℕ) (U := UU) (Lvl := ℕ) (q := fullShare) (ℓ := (c : Thread nD τ).loc cc0_scratch2) A3 A3_disjoint A3_cover f).trans (sep_fin3 _))) $$ H
  icases H2 with ⟨H0, H1, H2⟩
  isplitl [H0]; · iexists f; iexact H0
  isplitl [H1]; · iexists f; iexact H1
  iexists f; iexact H2
omit [FloatOps F] in
theorem arC_join (c : Dev nD) : (iprop(someAt arC0 c ∗ someAt arC1 c ∗ someAt arC2 c) : sProp 𝕄) ⊢ anyBuf c cc0_scratch2 := by
  rw [arC0_eq, arC1_eq, arC2_eq]
  iintro ⟨⟨%f0, H0⟩, ⟨%f1, H1⟩, ⟨%f2, H2⟩⟩
  iapply (Ring.pointsTo_blocks_join_exists (ℓ := (c : Thread nD τ).loc cc0_scratch2) A3 A3_disjoint A3_cover f0)
  irw [sep_fin3]
  isplitl [H0]; · iexists f0; iexact H0
  isplitl [H1]; · iexists f1; iexact H1
  iexists f2; iexact H2

omit [FloatOps F] in
theorem alC0_eq (c : Dev nD) : (someAt alC0 c : sProp 𝕄) = iprop(∃ f : Buf (Elt F) ((c : Thread nD τ).loc cc0_scratch3), ((c : Thread nD τ).loc cc0_scratch3) ↦[A3 0]{fullShare} f) :=
  congrArg (fun S => (iprop(∃ f : Buf (Elt F) ((c : Thread nD τ).loc cc0_scratch3), ((c : Thread nD τ).loc cc0_scratch3) ↦[S]{fullShare} f) : sProp 𝕄))
    (show (alC0 : Memref sig .tc .vmem _ .bf16).view.set = A3 0 from (View.set_reshape _ _).trans (View.set_slice_whole _ _))
omit [FloatOps F] in
theorem alC1_eq (c : Dev nD) : (someAt alC1 c : sProp 𝕄) = iprop(∃ f : Buf (Elt F) ((c : Thread nD τ).loc cc0_scratch3), ((c : Thread nD τ).loc cc0_scratch3) ↦[A3 1]{fullShare} f) :=
  congrArg (fun S => (iprop(∃ f : Buf (Elt F) ((c : Thread nD τ).loc cc0_scratch3), ((c : Thread nD τ).loc cc0_scratch3) ↦[S]{fullShare} f) : sProp 𝕄))
    (show (alC1 : Memref sig .tc .vmem _ .bf16).view.set = A3 1 from (View.set_reshape _ _).trans (View.set_slice_whole _ _))
omit [FloatOps F] in
theorem alC2_eq (c : Dev nD) : (someAt alC2 c : sProp 𝕄) = iprop(∃ f : Buf (Elt F) ((c : Thread nD τ).loc cc0_scratch3), ((c : Thread nD τ).loc cc0_scratch3) ↦[A3 2]{fullShare} f) :=
  congrArg (fun S => (iprop(∃ f : Buf (Elt F) ((c : Thread nD τ).loc cc0_scratch3), ((c : Thread nD τ).loc cc0_scratch3) ↦[S]{fullShare} f) : sProp 𝕄))
    (show (alC2 : Memref sig .tc .vmem _ .bf16).view.set = A3 2 from (View.set_reshape _ _).trans (View.set_slice_whole _ _))
omit [FloatOps F] in
theorem alC_split (c : Dev nD) : (anyBuf c cc0_scratch3 : sProp 𝕄) ⊢ iprop(someAt alC0 c ∗ someAt alC1 c ∗ someAt alC2 c) := by
  rw [alC0_eq, alC1_eq, alC2_eq]
  iintro ⟨%f, H⟩
  ihave H2 := (Entails.of_eq ((Ring.pointsTo_blocks (Ix := Unit) (Name := ℕ) (U := UU) (Lvl := ℕ) (q := fullShare) (ℓ := (c : Thread nD τ).loc cc0_scratch3) A3 A3_disjoint A3_cover f).trans (sep_fin3 _))) $$ H
  icases H2 with ⟨H0, H1, H2⟩
  isplitl [H0]; · iexists f; iexact H0
  isplitl [H1]; · iexists f; iexact H1
  iexists f; iexact H2
omit [FloatOps F] in
theorem alC_join (c : Dev nD) : (iprop(someAt alC0 c ∗ someAt alC1 c ∗ someAt alC2 c) : sProp 𝕄) ⊢ anyBuf c cc0_scratch3 := by
  rw [alC0_eq, alC1_eq, alC2_eq]
  iintro ⟨⟨%f0, H0⟩, ⟨%f1, H1⟩, ⟨%f2, H2⟩⟩
  iapply (Ring.pointsTo_blocks_join_exists (ℓ := (c : Thread nD τ).loc cc0_scratch3) A3 A3_disjoint A3_cover f0)
  irw [sep_fin3]
  isplitl [H0]; · iexists f0; iexact H0
  isplitl [H1]; · iexists f1; iexact H1
  iexists f2; iexact H2

omit [FloatOps F] in
theorem arS0_eq (c : Dev nD) : (someAt arS0 c : sProp 𝕄) = iprop(∃ f : Buf (Elt F) ((c : Thread nD τ).loc cc0_scratch4), ((c : Thread nD τ).loc cc0_scratch4) ↦[A2 0]{fullShare} f) :=
  congrArg (fun S => (iprop(∃ f : Buf (Elt F) ((c : Thread nD τ).loc cc0_scratch4), ((c : Thread nD τ).loc cc0_scratch4) ↦[S]{fullShare} f) : sProp 𝕄))
    (show (arS0 : Memref sig .tc .vmem _ .bf16).view.set = A2 0 from (View.set_reshape _ _).trans (View.set_slice_whole _ _))
omit [FloatOps F] in
theorem arS1_eq (c : Dev nD) : (someAt arS1 c : sProp 𝕄) = iprop(∃ f : Buf (Elt F) ((c : Thread nD τ).loc cc0_scratch4), ((c : Thread nD τ).loc cc0_scratch4) ↦[A2 1]{fullShare} f) :=
  congrArg (fun S => (iprop(∃ f : Buf (Elt F) ((c : Thread nD τ).loc cc0_scratch4), ((c : Thread nD τ).loc cc0_scratch4) ↦[S]{fullShare} f) : sProp 𝕄))
    (show (arS1 : Memref sig .tc .vmem _ .bf16).view.set = A2 1 from (View.set_reshape _ _).trans (View.set_slice_whole _ _))
omit [FloatOps F] in
theorem arS_split (c : Dev nD) : (anyBuf c cc0_scratch4 : sProp 𝕄) ⊢ iprop(someAt arS0 c ∗ someAt arS1 c) := by
  rw [arS0_eq, arS1_eq]
  iintro ⟨%f, H⟩
  ihave H2 := (Entails.of_eq ((Ring.pointsTo_blocks (Ix := Unit) (Name := ℕ) (U := UU) (Lvl := ℕ) (q := fullShare) (ℓ := (c : Thread nD τ).loc cc0_scratch4) A2 A2_disjoint A2_cover f).trans (sep_fin2 _))) $$ H
  icases H2 with ⟨H0, H1⟩
  isplitl [H0]; · iexists f; iexact H0
  iexists f; iexact H1
omit [FloatOps F] in
theorem arS_join (c : Dev nD) : (iprop(someAt arS0 c ∗ someAt arS1 c) : sProp 𝕄) ⊢ anyBuf c cc0_scratch4 := by
  rw [arS0_eq, arS1_eq]
  iintro ⟨⟨%f0, H0⟩, ⟨%f1, H1⟩⟩
  iapply (Ring.pointsTo_blocks_join_exists (ℓ := (c : Thread nD τ).loc cc0_scratch4) A2 A2_disjoint A2_cover f0)
  irw [sep_fin2]
  isplitl [H0]; · iexists f0; iexact H0
  iexists f1; iexact H1

omit [FloatOps F] in
theorem alS0_eq (c : Dev nD) : (someAt alS0 c : sProp 𝕄) = iprop(∃ f : Buf (Elt F) ((c : Thread nD τ).loc cc0_scratch5), ((c : Thread nD τ).loc cc0_scratch5) ↦[A2 0]{fullShare} f) :=
  congrArg (fun S => (iprop(∃ f : Buf (Elt F) ((c : Thread nD τ).loc cc0_scratch5), ((c : Thread nD τ).loc cc0_scratch5) ↦[S]{fullShare} f) : sProp 𝕄))
    (show (alS0 : Memref sig .tc .vmem _ .bf16).view.set = A2 0 from (View.set_reshape _ _).trans (View.set_slice_whole _ _))
omit [FloatOps F] in
theorem alS1_eq (c : Dev nD) : (someAt alS1 c : sProp 𝕄) = iprop(∃ f : Buf (Elt F) ((c : Thread nD τ).loc cc0_scratch5), ((c : Thread nD τ).loc cc0_scratch5) ↦[A2 1]{fullShare} f) :=
  congrArg (fun S => (iprop(∃ f : Buf (Elt F) ((c : Thread nD τ).loc cc0_scratch5), ((c : Thread nD τ).loc cc0_scratch5) ↦[S]{fullShare} f) : sProp 𝕄))
    (show (alS1 : Memref sig .tc .vmem _ .bf16).view.set = A2 1 from (View.set_reshape _ _).trans (View.set_slice_whole _ _))
omit [FloatOps F] in
theorem alS_split (c : Dev nD) : (anyBuf c cc0_scratch5 : sProp 𝕄) ⊢ iprop(someAt alS0 c ∗ someAt alS1 c) := by
  rw [alS0_eq, alS1_eq]
  iintro ⟨%f, H⟩
  ihave H2 := (Entails.of_eq ((Ring.pointsTo_blocks (Ix := Unit) (Name := ℕ) (U := UU) (Lvl := ℕ) (q := fullShare) (ℓ := (c : Thread nD τ).loc cc0_scratch5) A2 A2_disjoint A2_cover f).trans (sep_fin2 _))) $$ H
  icases H2 with ⟨H0, H1⟩
  isplitl [H0]; · iexists f; iexact H0
  iexists f; iexact H1
omit [FloatOps F] in
theorem alS_join (c : Dev nD) : (iprop(someAt alS0 c ∗ someAt alS1 c) : sProp 𝕄) ⊢ anyBuf c cc0_scratch5 := by
  rw [alS0_eq, alS1_eq]
  iintro ⟨⟨%f0, H0⟩, ⟨%f1, H1⟩⟩
  iapply (Ring.pointsTo_blocks_join_exists (ℓ := (c : Thread nD τ).loc cc0_scratch5) A2 A2_disjoint A2_cover f0)
  irw [sep_fin2]
  isplitl [H0]; · iexists f0; iexact H0
  iexists f1; iexact H1

omit [FloatOps F] in
theorem brC0_eq (c : Dev nD) : (someAt brC0 c : sProp 𝕄) = iprop(∃ f : Buf (Elt F) ((c : Thread nD τ).loc cc0_scratch6), ((c : Thread nD τ).loc cc0_scratch6) ↦[B3 0]{fullShare} f) :=
  congrArg (fun S => (iprop(∃ f : Buf (Elt F) ((c : Thread nD τ).loc cc0_scratch6), ((c : Thread nD τ).loc cc0_scratch6) ↦[S]{fullShare} f) : sProp 𝕄))
    (show (brC0 : Memref sig .tc .vmem _ .bf16).view.set = B3 0 from (View.set_reshape _ _).trans (View.set_slice_whole _ _))
omit [FloatOps F] in
theorem brC1_eq (c : Dev nD) : (someAt brC1 c : sProp 𝕄) = iprop(∃ f : Buf (Elt F) ((c : Thread nD τ).loc cc0_scratch6), ((c : Thread nD τ).loc cc0_scratch6) ↦[B3 1]{fullShare} f) :=
  congrArg (fun S => (iprop(∃ f : Buf (Elt F) ((c : Thread nD τ).loc cc0_scratch6), ((c : Thread nD τ).loc cc0_scratch6) ↦[S]{fullShare} f) : sProp 𝕄))
    (show (brC1 : Memref sig .tc .vmem _ .bf16).view.set = B3 1 from (View.set_reshape _ _).trans (View.set_slice_whole _ _))
omit [FloatOps F] in
theorem brC2_eq (c : Dev nD) : (someAt brC2 c : sProp 𝕄) = iprop(∃ f : Buf (Elt F) ((c : Thread nD τ).loc cc0_scratch6), ((c : Thread nD τ).loc cc0_scratch6) ↦[B3 2]{fullShare} f) :=
  congrArg (fun S => (iprop(∃ f : Buf (Elt F) ((c : Thread nD τ).loc cc0_scratch6), ((c : Thread nD τ).loc cc0_scratch6) ↦[S]{fullShare} f) : sProp 𝕄))
    (show (brC2 : Memref sig .tc .vmem _ .bf16).view.set = B3 2 from (View.set_reshape _ _).trans (View.set_slice_whole _ _))
omit [FloatOps F] in
theorem brC_split (c : Dev nD) : (anyBuf c cc0_scratch6 : sProp 𝕄) ⊢ iprop(someAt brC0 c ∗ someAt brC1 c ∗ someAt brC2 c) := by
  rw [brC0_eq, brC1_eq, brC2_eq]
  iintro ⟨%f, H⟩
  ihave H2 := (Entails.of_eq ((Ring.pointsTo_blocks (Ix := Unit) (Name := ℕ) (U := UU) (Lvl := ℕ) (q := fullShare) (ℓ := (c : Thread nD τ).loc cc0_scratch6) B3 B3_disjoint B3_cover f).trans (sep_fin3 _))) $$ H
  icases H2 with ⟨H0, H1, H2⟩
  isplitl [H0]; · iexists f; iexact H0
  isplitl [H1]; · iexists f; iexact H1
  iexists f; iexact H2
omit [FloatOps F] in
theorem brC_join (c : Dev nD) : (iprop(someAt brC0 c ∗ someAt brC1 c ∗ someAt brC2 c) : sProp 𝕄) ⊢ anyBuf c cc0_scratch6 := by
  rw [brC0_eq, brC1_eq, brC2_eq]
  iintro ⟨⟨%f0, H0⟩, ⟨%f1, H1⟩, ⟨%f2, H2⟩⟩
  iapply (Ring.pointsTo_blocks_join_exists (ℓ := (c : Thread nD τ).loc cc0_scratch6) B3 B3_disjoint B3_cover f0)
  irw [sep_fin3]
  isplitl [H0]; · iexists f0; iexact H0
  isplitl [H1]; · iexists f1; iexact H1
  iexists f2; iexact H2

omit [FloatOps F] in
theorem blC0_eq (c : Dev nD) : (someAt blC0 c : sProp 𝕄) = iprop(∃ f : Buf (Elt F) ((c : Thread nD τ).loc cc0_scratch7), ((c : Thread nD τ).loc cc0_scratch7) ↦[B3 0]{fullShare} f) :=
  congrArg (fun S => (iprop(∃ f : Buf (Elt F) ((c : Thread nD τ).loc cc0_scratch7), ((c : Thread nD τ).loc cc0_scratch7) ↦[S]{fullShare} f) : sProp 𝕄))
    (show (blC0 : Memref sig .tc .vmem _ .bf16).view.set = B3 0 from (View.set_reshape _ _).trans (View.set_slice_whole _ _))
omit [FloatOps F] in
theorem blC1_eq (c : Dev nD) : (someAt blC1 c : sProp 𝕄) = iprop(∃ f : Buf (Elt F) ((c : Thread nD τ).loc cc0_scratch7), ((c : Thread nD τ).loc cc0_scratch7) ↦[B3 1]{fullShare} f) :=
  congrArg (fun S => (iprop(∃ f : Buf (Elt F) ((c : Thread nD τ).loc cc0_scratch7), ((c : Thread nD τ).loc cc0_scratch7) ↦[S]{fullShare} f) : sProp 𝕄))
    (show (blC1 : Memref sig .tc .vmem _ .bf16).view.set = B3 1 from (View.set_reshape _ _).trans (View.set_slice_whole _ _))
omit [FloatOps F] in
theorem blC2_eq (c : Dev nD) : (someAt blC2 c : sProp 𝕄) = iprop(∃ f : Buf (Elt F) ((c : Thread nD τ).loc cc0_scratch7), ((c : Thread nD τ).loc cc0_scratch7) ↦[B3 2]{fullShare} f) :=
  congrArg (fun S => (iprop(∃ f : Buf (Elt F) ((c : Thread nD τ).loc cc0_scratch7), ((c : Thread nD τ).loc cc0_scratch7) ↦[S]{fullShare} f) : sProp 𝕄))
    (show (blC2 : Memref sig .tc .vmem _ .bf16).view.set = B3 2 from (View.set_reshape _ _).trans (View.set_slice_whole _ _))
omit [FloatOps F] in
theorem blC_split (c : Dev nD) : (anyBuf c cc0_scratch7 : sProp 𝕄) ⊢ iprop(someAt blC0 c ∗ someAt blC1 c ∗ someAt blC2 c) := by
  rw [blC0_eq, blC1_eq, blC2_eq]
  iintro ⟨%f, H⟩
  ihave H2 := (Entails.of_eq ((Ring.pointsTo_blocks (Ix := Unit) (Name := ℕ) (U := UU) (Lvl := ℕ) (q := fullShare) (ℓ := (c : Thread nD τ).loc cc0_scratch7) B3 B3_disjoint B3_cover f).trans (sep_fin3 _))) $$ H
  icases H2 with ⟨H0, H1, H2⟩
  isplitl [H0]; · iexists f; iexact H0
  isplitl [H1]; · iexists f; iexact H1
  iexists f; iexact H2
omit [FloatOps F] in
theorem blC_join (c : Dev nD) : (iprop(someAt blC0 c ∗ someAt blC1 c ∗ someAt blC2 c) : sProp 𝕄) ⊢ anyBuf c cc0_scratch7 := by
  rw [blC0_eq, blC1_eq, blC2_eq]
  iintro ⟨⟨%f0, H0⟩, ⟨%f1, H1⟩, ⟨%f2, H2⟩⟩
  iapply (Ring.pointsTo_blocks_join_exists (ℓ := (c : Thread nD τ).loc cc0_scratch7) B3 B3_disjoint B3_cover f0)
  irw [sep_fin3]
  isplitl [H0]; · iexists f0; iexact H0
  isplitl [H1]; · iexists f1; iexact H1
  iexists f2; iexact H2

omit [FloatOps F] in
theorem brS0_eq (c : Dev nD) : (someAt brS0 c : sProp 𝕄) = iprop(∃ f : Buf (Elt F) ((c : Thread nD τ).loc cc0_scratch8), ((c : Thread nD τ).loc cc0_scratch8) ↦[B2 0]{fullShare} f) :=
  congrArg (fun S => (iprop(∃ f : Buf (Elt F) ((c : Thread nD τ).loc cc0_scratch8), ((c : Thread nD τ).loc cc0_scratch8) ↦[S]{fullShare} f) : sProp 𝕄))
    (show (brS0 : Memref sig .tc .vmem _ .bf16).view.set = B2 0 from (View.set_reshape _ _).trans (View.set_slice_whole _ _))
omit [FloatOps F] in
theorem brS1_eq (c : Dev nD) : (someAt brS1 c : sProp 𝕄) = iprop(∃ f : Buf (Elt F) ((c : Thread nD τ).loc cc0_scratch8), ((c : Thread nD τ).loc cc0_scratch8) ↦[B2 1]{fullShare} f) :=
  congrArg (fun S => (iprop(∃ f : Buf (Elt F) ((c : Thread nD τ).loc cc0_scratch8), ((c : Thread nD τ).loc cc0_scratch8) ↦[S]{fullShare} f) : sProp 𝕄))
    (show (brS1 : Memref sig .tc .vmem _ .bf16).view.set = B2 1 from (View.set_reshape _ _).trans (View.set_slice_whole _ _))
omit [FloatOps F] in
theorem brS_split (c : Dev nD) : (anyBuf c cc0_scratch8 : sProp 𝕄) ⊢ iprop(someAt brS0 c ∗ someAt brS1 c) := by
  rw [brS0_eq, brS1_eq]
  iintro ⟨%f, H⟩
  ihave H2 := (Entails.of_eq ((Ring.pointsTo_blocks (Ix := Unit) (Name := ℕ) (U := UU) (Lvl := ℕ) (q := fullShare) (ℓ := (c : Thread nD τ).loc cc0_scratch8) B2 B2_disjoint B2_cover f).trans (sep_fin2 _))) $$ H
  icases H2 with ⟨H0, H1⟩
  isplitl [H0]; · iexists f; iexact H0
  iexists f; iexact H1
omit [FloatOps F] in
theorem brS_join (c : Dev nD) : (iprop(someAt brS0 c ∗ someAt brS1 c) : sProp 𝕄) ⊢ anyBuf c cc0_scratch8 := by
  rw [brS0_eq, brS1_eq]
  iintro ⟨⟨%f0, H0⟩, ⟨%f1, H1⟩⟩
  iapply (Ring.pointsTo_blocks_join_exists (ℓ := (c : Thread nD τ).loc cc0_scratch8) B2 B2_disjoint B2_cover f0)
  irw [sep_fin2]
  isplitl [H0]; · iexists f0; iexact H0
  iexists f1; iexact H1

omit [FloatOps F] in
theorem blS0_eq (c : Dev nD) : (someAt blS0 c : sProp 𝕄) = iprop(∃ f : Buf (Elt F) ((c : Thread nD τ).loc cc0_scratch9), ((c : Thread nD τ).loc cc0_scratch9) ↦[B2 0]{fullShare} f) :=
  congrArg (fun S => (iprop(∃ f : Buf (Elt F) ((c : Thread nD τ).loc cc0_scratch9), ((c : Thread nD τ).loc cc0_scratch9) ↦[S]{fullShare} f) : sProp 𝕄))
    (show (blS0 : Memref sig .tc .vmem _ .bf16).view.set = B2 0 from (View.set_reshape _ _).trans (View.set_slice_whole _ _))
omit [FloatOps F] in
theorem blS1_eq (c : Dev nD) : (someAt blS1 c : sProp 𝕄) = iprop(∃ f : Buf (Elt F) ((c : Thread nD τ).loc cc0_scratch9), ((c : Thread nD τ).loc cc0_scratch9) ↦[B2 1]{fullShare} f) :=
  congrArg (fun S => (iprop(∃ f : Buf (Elt F) ((c : Thread nD τ).loc cc0_scratch9), ((c : Thread nD τ).loc cc0_scratch9) ↦[S]{fullShare} f) : sProp 𝕄))
    (show (blS1 : Memref sig .tc .vmem _ .bf16).view.set = B2 1 from (View.set_reshape _ _).trans (View.set_slice_whole _ _))
omit [FloatOps F] in
theorem blS_split (c : Dev nD) : (anyBuf c cc0_scratch9 : sProp 𝕄) ⊢ iprop(someAt blS0 c ∗ someAt blS1 c) := by
  rw [blS0_eq, blS1_eq]
  iintro ⟨%f, H⟩
  ihave H2 := (Entails.of_eq ((Ring.pointsTo_blocks (Ix := Unit) (Name := ℕ) (U := UU) (Lvl := ℕ) (q := fullShare) (ℓ := (c : Thread nD τ).loc cc0_scratch9) B2 B2_disjoint B2_cover f).trans (sep_fin2 _))) $$ H
  icases H2 with ⟨H0, H1⟩
  isplitl [H0]; · iexists f; iexact H0
  iexists f; iexact H1
omit [FloatOps F] in
theorem blS_join (c : Dev nD) : (iprop(someAt blS0 c ∗ someAt blS1 c) : sProp 𝕄) ⊢ anyBuf c cc0_scratch9 := by
  rw [blS0_eq, blS1_eq]
  iintro ⟨⟨%f0, H0⟩, ⟨%f1, H1⟩⟩
  iapply (Ring.pointsTo_blocks_join_exists (ℓ := (c : Thread nD τ).loc cc0_scratch9) B2 B2_disjoint B2_cover f0)
  irw [sep_fin2]
  isplitl [H0]; · iexists f0; iexact H0
  iexists f1; iexact H1

end Cert.AllReduce
-- ==== Proof.Launch.lean ====
/-
# From the launch to the body and back

Cells and tokens minted at launch and dealt to the devices that pay with them, the credit every device starts with, the
body's obligation, and the run: every fair execution ends, every device's result array holds `out`, the inputs are
unchanged and every semaphore is at zero.
-/
module

public import proofs.«01_k».proof.Proof.Body
public import proofs.«01_k».proof.Proof.Slots
public import Idealize.ShloMosaic.Lib.Pipeline.CollectiveSegs

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-- What the devices are given, read off the launch memory. -/
def given : Inputs F where
  x c := (win0_0.blk (0 : Fin 1)).view.read (Elt F) (m ((c : Thread nD τ).loc main_arg0))
  rw c := (win0_1.blk (0 : Fin 1)).view.read (Elt F) (m ((c : Thread nD τ).loc main_arg1))
  idx c := (win0_2.blk (0 : Fin 1)).view.read (Elt F) (m ((c : Thread nD τ).loc main_arg2))
  W c := (win0_3.blk (0 : Fin 1)).view.read (Elt F) (m ((c : Thread nD τ).loc main_arg3))

/-! ## Cells and tokens -/

theorem csem_injective : Function.Injective csem := by decide

theorem kcell_injective : Function.Injective (kcell : Dev nD × Fin 21 → GSem nD τ sig) := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

/-- The twenty-eight duties of a device's cells: semaphore, round, duty. -/
def duty (j : Fin 28) : SemLoc sig × ℕ × Fin 4 :=
  if h : j.val < 4 then (.reg barS, 0, ⟨j.val, h⟩)
  else if h : j.val < 24 then (.dma ⟨j.val + 1, by show _ < 25; omega⟩, 0, 0)
  else (.dma ⟨2 * j.val - 43, by have := j.isLt; show _ < 25; omega⟩, 1, 0)
theorem duty_injective : Function.Injective duty := by decide

abbrev tokOf (cj : Dev nD × Fin 28) : GSem nD τ sig × ℕ × Fin 4 := (cell cj.1 (duty cj.2).1, (duty cj.2).2)
theorem tokOf_injective : Function.Injective (tokOf : Dev nD × Fin 28 → GSem nD τ sig × ℕ × Fin 4) := by
  rintro ⟨c, j⟩ ⟨c', j'⟩ h
  have h1 : c = c' := congrArg (fun g : GSem nD τ sig × ℕ × Fin 4 => g.1.1.1) h
  have h2 : j = j' := duty_injective (Prod.ext (congrArg (fun g : GSem nD τ sig × ℕ × Fin 4 => g.1.2) h) (congrArg (fun g : GSem nD τ sig × ℕ × Fin 4 => g.2) h))
  rw [h1, h2]
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The token of duty `j` of device `c`. -/
def tok (c : Dev nD) (j : Fin 28) : sProp 𝕄 := dutyTok ER (cell c (duty j).1) (duty j).2.1 (duty j).2.2

/-- Whose duty `j` a device pays: its neighbour's, or its own. -/
def whose (j : Fin 28) : Dev nD ≃ Dev nD :=
  if j.val = 0 then ringA.symm else if j.val = 1 then ringA else if j.val = 2 then ringB.symm else if j.val = 3 then ringB
  else if j.val < 12 then Equiv.refl _ else if j.val < 15 then ringA else if j.val < 18 then ringA.symm
  else if j.val < 21 then ringB else if j.val < 24 then ringB.symm else Equiv.refl _

/-- Devices and duties, renamed from payee to payer. -/
def deal : Dev nD × Fin 28 ≃ Dev nD × Fin 28 :=
  ⟨fun p => (whose p.2 p.1, p.2), fun p => ((whose p.2).symm p.1, p.2), fun p => by simp, fun p => by simp⟩

variable (X : Sent F)

/-- What the launch deals device `c`. -/
def G (c : Dev nD) : sProp 𝕄 :=
  iprop((bigSep Finset.univ fun k : Fin 21 => roundState ER (rd X) (kcell (c, k)) 0)
    ∗ (bigSep Finset.univ fun k : Fin 21 => iprop(atPos ER (kcell (c, k)) 0 ∅ 0 ∗ reached ER (kcell (c, k)) 0)) ∗ bigSep Finset.univ fun j : Fin 28 => tok c j)

/-- What stays with device `c`: its positions, and the tokens of the duties it pays. -/
def linear (c : Dev nD) : sProp 𝕄 :=
  iprop((bigSep Finset.univ fun k : Fin 21 => atPos ER (kcell (c, k)) 0 ∅ 0) ∗ bigSep Finset.univ fun j : Fin 28 => tok (whose j c) j)

/-- What the global step makes of it. -/
def G' (c : Dev nD) : sProp 𝕄 := iprop(records X ∗ linear c)

omit [FloatOps F] in
theorem fund_ring : BI.own (ER (initOf ringCells ringToks)) ⊢ (|==> bigSep Finset.univ (G X) : sProp 𝕄) := by
  have hX (Φ : GSem nD τ sig → sProp 𝕄) : bigSep ringCells Φ = bigSep Finset.univ fun c : Dev nD => bigSep Finset.univ fun k : Fin 21 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun j : Fin 28 => tok c j := by
    unfold ringToks; rw [bigSep_map, bigSep_univ_prod]; rfl
  iintro HX
  imod (Rounds.fund ER (rd X) ringCells ringToks) $$ HX with ⟨Hst, Hr, Hat, Htok⟩
  imodintro
  ihave Hst' := (Entails.of_eq (hX fun g => roundState ER (rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSemFacts : Pipeline.OwnSemFacts cfg0.spec osem := by decide

/-- The twenty scoped semaphores at zero, in order. -/
def zeros (c : Dev nD) : sProp 𝕄 :=
  iprop(semVal (dcell c (dq 5 (Nat.le_of_ble_eq_true rfl))) 0
    ∗ semVal (dcell c (dq 6 (Nat.le_of_ble_eq_true rfl))) 0
    ∗ semVal (dcell c (dq 7 (Nat.le_of_ble_eq_true rfl))) 0
    ∗ semVal (dcell c (dq 8 (Nat.le_of_ble_eq_true rfl))) 0
    ∗ semVal (dcell c (dq 9 (Nat.le_of_ble_eq_true rfl))) 0
    ∗ semVal (dcell c (dq 10 (Nat.le_of_ble_eq_true rfl))) 0
    ∗ semVal (dcell c (dq 11 (Nat.le_of_ble_eq_true rfl))) 0
    ∗ semVal (dcell c (dq 12 (Nat.le_of_ble_eq_true rfl))) 0
    ∗ semVal (dcell c (dq 13 (Nat.le_of_ble_eq_true rfl))) 0
    ∗ semVal (dcell c (dq 14 (Nat.le_of_ble_eq_true rfl))) 0
    ∗ semVal (dcell c (dq 15 (Nat.le_of_ble_eq_true rfl))) 0
    ∗ semVal (dcell c (dq 16 (Nat.le_of_ble_eq_true rfl))) 0
    ∗ semVal (dcell c (dq 17 (Nat.le_of_ble_eq_true rfl))) 0
    ∗ semVal (dcell c (dq 18 (Nat.le_of_ble_eq_true rfl))) 0
    ∗ semVal (dcell c (dq 19 (Nat.le_of_ble_eq_true rfl))) 0
    ∗ semVal (dcell c (dq 20 (Nat.le_of_ble_eq_true rfl))) 0
    ∗ semVal (dcell c (dq 21 (Nat.le_of_ble_eq_true rfl))) 0
    ∗ semVal (dcell c (dq 22 (Nat.le_of_ble_eq_true rfl))) 0
    ∗ semVal (dcell c (dq 23 (Nat.le_of_ble_eq_true rfl))) 0
    ∗ semVal (dcell c (dq 24 (Nat.le_of_ble_eq_true rfl))) 0)

omit [FloatOps F] in
theorem ownSems0_eq (c : Dev nD) : (Pipeline.ownSems0 (Ix := Unit) (Name := ℕ) (U := UU) (Lvl := ℕ) (Val := Elt F) (τ := τ) osem c : sProp 𝕄) = zeros c := by
  rw [Pipeline.ownSems0_eq_of_list c osem [0, 1, 2, 3, 4, 5, 6, 7, 8, 9, 10, 11, 12, 13, 14, 15, 16, 17, 18, 19] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sep_fin21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ
omit [FloatOps F] in
theorem sep_fin28 (Φ : Fin 28 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) :=
  bigSep_univ_eq_bigSepL [0, 1, 2, 3, 4, 5, 6, 7, 8, 9, 10, 11, 12, 13, 14, 15, 16, 17, 18, 19, 20, 21, 22, 23, 24, 25, 26, 27] (by decide) (by decide) Φ

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 21 => semVal (kcell (c, k)) 0 : sProp 𝕄) := by
  rw [ownSems0_eq, unscopedSems0_eq, sep_fin21]
  rw [show (iprop(semVal (kcell (c, 0)) 0 ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0 ∗ semVal (kcell (c, 13)) 0 ∗ semVal (kcell (c, 14)) 0 ∗ semVal (kcell (c, 15)) 0 ∗ semVal (kcell (c, 16)) 0 ∗ semVal (kcell (c, 17)) 0 ∗ semVal (kcell (c, 18)) 0 ∗ semVal (kcell (c, 19)) 0 ∗ semVal (kcell (c, 20)) 0) : sProp 𝕄) = iprop(semVal (barCell c) 0 ∗ zeros c) from rfl]
  exact BI.sep_comm

omit [FloatOps F] in
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (rd X) κ (kcell (c, k))))
          ∗ (bigSep Finset.univ fun k => iprop(atPos ER (kcell (c, k)) 0 ∅ 0 ∗ reached ER (kcell (c, k)) 0)) ∗ bigSep Finset.univ fun j : Fin 28 => tok c j) := by
  unfold G
  iintro ⟨Hos, Hus, Hst, Hat, Htok⟩
  ihave Hv := (sems0_eq (F := F) c) $$ [Hos Hus]
  · isplitl [Hos] <;> iassumption
  imod (show iprop((bigSep Finset.univ fun k : Fin 21 => semVal (kcell (c, k)) 0) ∗ bigSep Finset.univ fun k : Fin 21 => roundState ER (rd X) (kcell (c, k)) 0)
      ⊢ (|={Set.univ}=> bigSep Finset.univ fun k => iprop(∃ κ : ℕ, cellInv ER (rd X) κ (kcell (c, k))) : sProp 𝕄) from by
        rw [← bigSep_sep']
        exact (bigSep_mono fun k _ => (Rounds.body_intro ER (rd X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens, dealt from the devices they belong to to the devices that pay with them. -/
theorem toks_around : (bigSep Finset.univ fun c : Dev nD => bigSep Finset.univ fun j : Fin 28 => (tok c j : sProp 𝕄))
    ⊢ bigSep Finset.univ fun c : Dev nD => bigSep Finset.univ fun j : Fin 28 => tok (whose j c) j := by
  rw [← bigSep_univ_prod (fun p : Dev nD × Fin 28 => (tok p.1 p.2 : sProp 𝕄)), ← bigSep_univ_prod (fun p : Dev nD × Fin 28 => (tok (whose p.2 p.1) p.2 : sProp 𝕄)),
    bigSep_univ_equiv deal (fun p : Dev nD × Fin 28 => (tok p.1 p.2 : sProp 𝕄))]
  exact Entails.of_eq rfl

omit [FloatOps F] in
theorem bigSep_with {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (rd X) κ (kcell (c, k))))
          ∗ (bigSep Finset.univ fun k => iprop(atPos ER (kcell (c, k)) 0 ∅ 0 ∗ reached ER (kcell (c, k)) 0)) ∗ bigSep Finset.univ fun j : Fin 28 => tok c j) : sProp 𝕄)
      ⊢ bigSep Finset.univ (G' X) := by
  rw [bigSep_sep', bigSep_sep', ← bigSep_univ_prod (fun ck : Dev nD × Fin 21 => iprop(∃ κ : ℕ, cellInv ER (rd X) κ (kcell ck))),
    bigSep_congr (s := Finset.univ) (fun (c : Dev nD) _ => bigSep_sep' Finset.univ (fun k : Fin 21 => (atPos ER (kcell (c, k)) 0 ∅ 0 : sProp 𝕄)) (fun k => reached ER (kcell (c, k)) 0)),
    bigSep_sep', ← bigSep_univ_prod (fun ck : Dev nD × Fin 21 => (reached ER (kcell ck) 0 : sProp 𝕄))]
  iintro ⟨HI, ⟨Hat, #HR⟩, Htok⟩
  ihave HK := (BI.bigSep_exists_pi Finset.univ (fun (ck : Dev nD × Fin 21) (κ : ℕ) => (cellInv ER (rd X) κ (kcell ck) : sProp 𝕄))) $$ HI
  icases HK with ⟨%K, #HI⟩
  ihave Htk := (toks_around (F := F)) $$ Htok
  iapply (bigSep_with (R := records X) (Φ := linear) fun c _ => Entails.of_eq rfl)
  isplitr
  · unfold records; iexists K
    isplitl; · iexact HI
    iexact HR
  · iapply (Entails.of_eq (bigSep_sep' Finset.univ (fun c : Dev nD => bigSep Finset.univ fun k : Fin 21 => (atPos ER (kcell (c, k)) 0 ∅ 0 : sProp 𝕄))
      (fun c : Dev nD => bigSep Finset.univ fun j : Fin 28 => tok (whose j c) j)).symm)
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-- The positions and the tokens of `linear`, one by one. -/
def linearL (c : Dev nD) : sProp 𝕄 :=
  iprop((atPos ER (barCell c) 0 ∅ 0
    ∗ atPos ER (dcell c (dq 5 (Nat.le_of_ble_eq_true rfl))) 0 ∅ 0
    ∗ atPos ER (dcell c (dq 6 (Nat.le_of_ble_eq_true rfl))) 0 ∅ 0
    ∗ atPos ER (dcell c (dq 7 (Nat.le_of_ble_eq_true rfl))) 0 ∅ 0
    ∗ atPos ER (dcell c (dq 8 (Nat.le_of_ble_eq_true rfl))) 0 ∅ 0
    ∗ atPos ER (dcell c (dq 9 (Nat.le_of_ble_eq_true rfl))) 0 ∅ 0
    ∗ atPos ER (dcell c (dq 10 (Nat.le_of_ble_eq_true rfl))) 0 ∅ 0
    ∗ atPos ER (dcell c (dq 11 (Nat.le_of_ble_eq_true rfl))) 0 ∅ 0
    ∗ atPos ER (dcell c (dq 12 (Nat.le_of_ble_eq_true rfl))) 0 ∅ 0
    ∗ atPos ER (dcell c (dq 13 (Nat.le_of_ble_eq_true rfl))) 0 ∅ 0
    ∗ atPos ER (dcell c (dq 14 (Nat.le_of_ble_eq_true rfl))) 0 ∅ 0
    ∗ atPos ER (dcell c (dq 15 (Nat.le_of_ble_eq_true rfl))) 0 ∅ 0
    ∗ atPos ER (dcell c (dq 16 (Nat.le_of_ble_eq_true rfl))) 0 ∅ 0
    ∗ atPos ER (dcell c (dq 17 (Nat.le_of_ble_eq_true rfl))) 0 ∅ 0
    ∗ atPos ER (dcell c (dq 18 (Nat.le_of_ble_eq_true rfl))) 0 ∅ 0
    ∗ atPos ER (dcell c (dq 19 (Nat.le_of_ble_eq_true rfl))) 0 ∅ 0
    ∗ atPos ER (dcell c (dq 20 (Nat.le_of_ble_eq_true rfl))) 0 ∅ 0
    ∗ atPos ER (dcell c (dq 21 (Nat.le_of_ble_eq_true rfl))) 0 ∅ 0
    ∗ atPos ER (dcell c (dq 22 (Nat.le_of_ble_eq_true rfl))) 0 ∅ 0
    ∗ atPos ER (dcell c (dq 23 (Nat.le_of_ble_eq_true rfl))) 0 ∅ 0
    ∗ atPos ER (dcell c (dq 24 (Nat.le_of_ble_eq_true rfl))) 0 ∅ 0)
    ∗ dutyTok ER (barCell (aL c)) 0 0
    ∗ dutyTok ER (barCell (aR c)) 0 1
    ∗ dutyTok ER (barCell (bL c)) 0 2
    ∗ dutyTok ER (barCell (bR c)) 0 3
    ∗ dutyTok ER (dcell c (dq 5 (Nat.le_of_ble_eq_true rfl))) 0 0
    ∗ dutyTok ER (dcell c (dq 6 (Nat.le_of_ble_eq_true rfl))) 0 0
    ∗ dutyTok ER (dcell c (dq 7 (Nat.le_of_ble_eq_true rfl))) 0 0
    ∗ dutyTok ER (dcell c (dq 8 (Nat.le_of_ble_eq_true rfl))) 0 0
    ∗ dutyTok ER (dcell c (dq 9 (Nat.le_of_ble_eq_true rfl))) 0 0
    ∗ dutyTok ER (dcell c (dq 10 (Nat.le_of_ble_eq_true rfl))) 0 0
    ∗ dutyTok ER (dcell c (dq 11 (Nat.le_of_ble_eq_true rfl))) 0 0
    ∗ dutyTok ER (dcell c (dq 12 (Nat.le_of_ble_eq_true rfl))) 0 0
    ∗ dutyTok ER (dcell (aR c) (dq 13 (Nat.le_of_ble_eq_true rfl))) 0 0
    ∗ dutyTok ER (dcell (aR c) (dq 14 (Nat.le_of_ble_eq_true rfl))) 0 0
    ∗ dutyTok ER (dcell (aR c) (dq 15 (Nat.le_of_ble_eq_true rfl))) 0 0
    ∗ dutyTok ER (dcell (aL c) (dq 16 (Nat.le_of_ble_eq_true rfl))) 0 0
    ∗ dutyTok ER (dcell (aL c) (dq 17 (Nat.le_of_ble_eq_true rfl))) 0 0
    ∗ dutyTok ER (dcell (aL c) (dq 18 (Nat.le_of_ble_eq_true rfl))) 0 0
    ∗ dutyTok ER (dcell (bR c) (dq 19 (Nat.le_of_ble_eq_true rfl))) 0 0
    ∗ dutyTok ER (dcell (bR c) (dq 20 (Nat.le_of_ble_eq_true rfl))) 0 0
    ∗ dutyTok ER (dcell (bR c) (dq 21 (Nat.le_of_ble_eq_true rfl))) 0 0
    ∗ dutyTok ER (dcell (bL c) (dq 22 (Nat.le_of_ble_eq_true rfl))) 0 0
    ∗ dutyTok ER (dcell (bL c) (dq 23 (Nat.le_of_ble_eq_true rfl))) 0 0
    ∗ dutyTok ER (dcell (bL c) (dq 24 (Nat.le_of_ble_eq_true rfl))) 0 0
    ∗ dutyTok ER (dcell c (dq 5 (Nat.le_of_ble_eq_true rfl))) 1 0
    ∗ dutyTok ER (dcell c (dq 7 (Nat.le_of_ble_eq_true rfl))) 1 0
    ∗ dutyTok ER (dcell c (dq 9 (Nat.le_of_ble_eq_true rfl))) 1 0
    ∗ dutyTok ER (dcell c (dq 11 (Nat.le_of_ble_eq_true rfl))) 1 0)
omit [FloatOps F] in
theorem linear_eq (c : Dev nD) : (linear c : sProp 𝕄) = linearL c := by
  unfold linear; rw [sep_fin21, sep_fin28]; rfl

/-! ## The launch credit -/

/-- What a list of debts puts on one semaphore of device `c`. -/
theorem OL_at (c : Dev nD) (s : SemLoc sig) : ∀ l : Debts,
    OL l (cell c s) () = ((l.filter fun d => decide (d.2.1 = s)).map fun d => if d.1 = c then d.2.2 else 0).sum
  | [] => rfl
  | d :: l => by
    unfold OL
    rw [Pi.add_apply, Finsupp.add_apply, tallyAt_apply, OL_at c s l, List.filter_cons]
    by_cases h : d.2.1 = s
    · rw [if_pos (decide_eq_true h), List.map_cons, List.sum_cons, Nat.add_comm]
      congr 1
      by_cases h1 : d.1 = c
      · rw [if_pos h1, if_pos ⟨by rw [h1, h], rfl⟩]
      · rw [if_neg h1, if_neg fun h2 => h1 (congrArg (fun g : GSem nD τ sig => g.1.1) h2.1).symm]
    · rw [if_neg (show ¬ (cell c s = cell d.1 d.2.1 ∧ () = ()) from fun h2 => h (congrArg Prod.snd h2.1).symm), Nat.add_zero, if_neg (by simpa using h)]

/-- What the devices together owe a semaphore of device `c` that each of them owes along one ring. -/
theorem owed_one (s : SemLoc sig) (e : Dev nD ≃ Dev nD) (n : ℕ) (h : ∀ d, (debts d).filter (fun x => decide (x.2.1 = s)) = [(e d, s, n)]) (c : Dev nD) :
    (tallyOn (cell c s) (launchCredit (Pipeline.owing fun d => owing d 0) 0 (cell c s)) : CellTallies nD τ sig Unit) = tallyAt (cell c s) () n := by
  unfold tallyAt; refine congrArg _ (Finsupp.ext fun u => ?_); cases u
  rw [Pipeline.launchCredit_owing, Finsupp.single_eq_same, Finset.sum_congr rfl fun d _ => (show owing d 0 (cell c s) () = if d = e.symm c then n else 0 from by
    unfold owing; rw [OL_at, List.drop_zero, h d, List.map_cons, List.map_nil, List.sum_cons, List.sum_nil, Nat.add_zero]
    exact if_congr e.apply_eq_iff_eq_symm_apply rfl rfl),
    Finset.sum_ite_eq' Finset.univ (e.symm c) fun _ => n, if_pos (Finset.mem_univ _)]

theorem owed_bar (c : Dev nD) :
    (tallyOn (barCell c) (launchCredit (Pipeline.owing fun d => owing d 0) 0 (barCell c)) : CellTallies nD τ sig Unit) = tallyAt (barCell c) () 4 := by
  unfold tallyAt; refine congrArg _ (Finsupp.ext fun u => ?_); cases u
  rw [Pipeline.launchCredit_owing, Finsupp.single_eq_same, Finset.sum_congr rfl fun d _ => (show owing d 0 (barCell c) () =
      (if d = aR c then 1 else 0) + ((if d = aL c then 1 else 0) + ((if d = bR c then 1 else 0) + (if d = bL c then 1 else 0))) from by
    unfold owing; rw [OL_at, List.drop_zero, show (debts d).filter (fun x => decide (x.2.1 = .reg barS)) = [(aL d, .reg barS, 1), (aR d, .reg barS, 1), (bL d, .reg barS, 1), (bR d, .reg barS, 1)] from rfl]
    simp only [List.map_cons, List.map_nil, List.sum_cons, List.sum_nil, Nat.add_zero]
    rw [if_congr (show aL d = c ↔ d = aR c from ringA.symm.apply_eq_iff_eq_symm_apply) rfl rfl, if_congr (show aR d = c ↔ d = aL c from ringA.apply_eq_iff_eq_symm_apply) rfl rfl,
      if_congr (show bL d = c ↔ d = bR c from ringB.symm.apply_eq_iff_eq_symm_apply) rfl rfl, if_congr (show bR d = c ↔ d = bL c from ringB.apply_eq_iff_eq_symm_apply) rfl rfl]),
    Finset.sum_add_distrib, Finset.sum_add_distrib, Finset.sum_add_distrib]
  simp only [Finset.sum_ite_eq', Finset.mem_univ, if_true]
  rfl

/-- The credit a device starts with. -/
def credL (c : Dev nD) : sProp 𝕄 :=
  iprop(cred (tallyAt (barCell c) () 4)
    ∗ cred (tallyAt (dcell c (dq 13 (Nat.le_of_ble_eq_true rfl))) () NA)
    ∗ cred (tallyAt (dcell c (dq 14 (Nat.le_of_ble_eq_true rfl))) () NA)
    ∗ cred (tallyAt (dcell c (dq 15 (Nat.le_of_ble_eq_true rfl))) () NA)
    ∗ cred (tallyAt (dcell c (dq 16 (Nat.le_of_ble_eq_true rfl))) () NA)
    ∗ cred (tallyAt (dcell c (dq 17 (Nat.le_of_ble_eq_true rfl))) () NA)
    ∗ cred (tallyAt (dcell c (dq 18 (Nat.le_of_ble_eq_true rfl))) () NA)
    ∗ cred (tallyAt (dcell c (dq 19 (Nat.le_of_ble_eq_true rfl))) () NB)
    ∗ cred (tallyAt (dcell c (dq 20 (Nat.le_of_ble_eq_true rfl))) () NB)
    ∗ cred (tallyAt (dcell c (dq 21 (Nat.le_of_ble_eq_true rfl))) () NB)
    ∗ cred (tallyAt (dcell c (dq 22 (Nat.le_of_ble_eq_true rfl))) () NB)
    ∗ cred (tallyAt (dcell c (dq 23 (Nat.le_of_ble_eq_true rfl))) () NB)
    ∗ cred (tallyAt (dcell c (dq 24 (Nat.le_of_ble_eq_true rfl))) () NB))

/-- The semaphores it has credit on. -/
def credSems : List (SemLoc sig) := [SemLoc.reg barS, .dma (dq 13 (by decide)), .dma (dq 14 (by decide)), .dma (dq 15 (by decide)), .dma (dq 16 (by decide)), .dma (dq 17 (by decide)), .dma (dq 18 (by decide)), .dma (dq 19 (by decide)), .dma (dq 20 (by decide)), .dma (dq 21 (by decide)), .dma (dq 22 (by decide)), .dma (dq 23 (by decide)), .dma (dq 24 (by decide))]
theorem credSems_nodup : credSems.Nodup := by decide

omit [FloatOps F] in
theorem univ_list {J : Type} [Fintype J] [DecidableEq J] (l : List J) (hl : l.Nodup) (Φ : J → sProp 𝕄) : bigSep Finset.univ Φ ⊢ bigSepL l Φ := by
  rw [← bigSep_eq_bigSepL l hl Φ]; exact bigSep_subset (Finset.subset_univ _)

omit [FloatOps F] in
theorem creds (c : Dev nD) : (Pipeline.launchCred (fun d => owing d 0) c : sProp 𝕄) ⊢ credL c := by
  unfold Pipeline.launchCred
  refine (univ_list credSems credSems_nodup _).trans ?_
  unfold credSems
  simp only [bigSepL_cons_cons, bigSepL_singleton]
  rw [owed_bar c]
  rw [owed_one (.dma (dq 13 (Nat.le_of_ble_eq_true rfl))) ringA NA (fun _ => rfl) c]
  rw [owed_one (.dma (dq 14 (Nat.le_of_ble_eq_true rfl))) ringA NA (fun _ => rfl) c]
  rw [owed_one (.dma (dq 15 (Nat.le_of_ble_eq_true rfl))) ringA NA (fun _ => rfl) c]
  rw [owed_one (.dma (dq 16 (Nat.le_of_ble_eq_true rfl))) ringA.symm NA (fun _ => rfl) c]
  rw [owed_one (.dma (dq 17 (Nat.le_of_ble_eq_true rfl))) ringA.symm NA (fun _ => rfl) c]
  rw [owed_one (.dma (dq 18 (Nat.le_of_ble_eq_true rfl))) ringA.symm NA (fun _ => rfl) c]
  rw [owed_one (.dma (dq 19 (Nat.le_of_ble_eq_true rfl))) ringB NB (fun _ => rfl) c]
  rw [owed_one (.dma (dq 20 (Nat.le_of_ble_eq_true rfl))) ringB NB (fun _ => rfl) c]
  rw [owed_one (.dma (dq 21 (Nat.le_of_ble_eq_true rfl))) ringB NB (fun _ => rfl) c]
  rw [owed_one (.dma (dq 22 (Nat.le_of_ble_eq_true rfl))) ringB.symm NB (fun _ => rfl) c]
  rw [owed_one (.dma (dq 23 (Nat.le_of_ble_eq_true rfl))) ringB.symm NB (fun _ => rfl) c]
  rw [owed_one (.dma (dq 24 (Nat.le_of_ble_eq_true rfl))) ringB.symm NB (fun _ => rfl) c]
  exact Entails.of_eq rfl

/-! ## The pipeline's proof data -/

/-- What device `c`'s body starts from, besides its buffers. -/
def start (c : Dev nD) : sProp 𝕄 := iprop(records (sent (given m)) ∗ levAts L lv ∗ linear c ∗ credL c)
/-- The scratch buffers. -/
def scratch (c : Dev nD) : sProp 𝕄 :=
  iprop(anyBuf c cc0_scratch0
    ∗ anyBuf c cc0_scratch1
    ∗ anyBuf c cc0_scratch2
    ∗ anyBuf c cc0_scratch3
    ∗ anyBuf c cc0_scratch4
    ∗ anyBuf c cc0_scratch5
    ∗ anyBuf c cc0_scratch6
    ∗ anyBuf c cc0_scratch7
    ∗ anyBuf c cc0_scratch8
    ∗ anyBuf c cc0_scratch9)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => (given m).x c
    | ⟨1, _⟩ => (given m).rw c
    | ⟨2, _⟩ => (given m).idx c
    | ⟨3, _⟩ => (given m).W c
    | ⟨4, _⟩ => out (given m) c
  Φ t := match t with
    | ⟨0, _⟩ => iprop(start m c ∗ scratch c)
    | ⟨_ + 1, _⟩ => iprop(scratch c ∗ semVal (barCell c) 0 ∗ zeros c)
  q _ := fullShare
  owed t := match t with
    | ⟨0, _⟩ => owing c 0
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem owns_whole_eq (c : Dev nD) (b : Ref sig .tc) (V : b.ty.Contents (Elt F)) :
    (owns (Ix := Unit) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

abbrev stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

def bodyPre (c : Dev nD) : sProp 𝕄 :=
  iprop((start m c ∗ scratch c) ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop((scratch c ∗ semVal (barCell c) 0 ∗ zeros c) ∗ (dats m ρ 0 c).owesAt () t₀.succ
    ∗ stg c cc0_stg0_0 ((given m).x c) ∗ stg c cc0_stg1_0 ((given m).rw c) ∗ stg c cc0_stg2_0 ((given m).idx c) ∗ stg c cc0_stg3_0 ((given m).W c)
    ∗ stg c cc0_stg4_0 (out (given m) c))

set_option maxHeartbeats 1600000 in
theorem pre_start (c : Dev nD) : bodyPre m ρ c ⊢ iprop(∃ fo fg fa, records (sent (given m)) ∗ levAts L lv ∗ bodyStart (given m) c fo fg fa) := by
  unfold bodyPre start scratch bodyStart
  rw [linear_eq]; unfold linearL credL
  iintro ⟨⟨⟨#HR, #HL, ⟨⟨Hpb, Hp5, Hp6, Hp7, Hp8, Hp9, Hp10, Hp11, Hp12, Hp13, Hp14, Hp15, Hp16, Hp17, Hp18, Hp19, Hp20, Hp21, Hp22, Hp23, Hp24⟩, Htb0, Htb1, Htb2, Htb3, Hts5r0, Hts6r0, Hts7r0, Hts8r0, Hts9r0, Hts10r0, Hts11r0, Hts12r0, Htr13, Htr14, Htr15, Htr16, Htr17, Htr18, Htr19, Htr20, Htr21, Htr22, Htr23, Htr24, Hts5r1, Hts7r1, Hts9r1, Hts11r1⟩, Hcb, Hc13, Hc14, Hc15, Hc16, Hc17, Hc18, Hc19, Hc20, Hc21, Hc22, Hc23, Hc24⟩, ⟨%fg, Hg⟩, ⟨%fa, Hacc⟩, Hb2, Hb3, Hb4, Hb5, Hb6, Hb7, Hb8, Hb9⟩, HO,
    ⟨%d0, %g0, %hg0, Hx⟩, ⟨%d1, %g1, %hg1, Hrw⟩, ⟨%d2, %g2, %hg2, Hidx⟩, ⟨%d3, %g3, %hg3, HW⟩, ⟨%d4, %g4, %hg4, Hout⟩⟩
  have hx : g0 = (given m).x c := by rw [hg0]; unfold Pipeline.Dat.before; rw [if_pos (fetch0_0 t₀)]; rfl
  have hr : g1 = (given m).rw c := by rw [hg1]; unfold Pipeline.Dat.before; rw [if_pos (fetch0_1 t₀)]; rfl
  have hi : g2 = (given m).idx c := by rw [hg2]; unfold Pipeline.Dat.before; rw [if_pos (fetch0_2 t₀)]; rfl
  have hw : g3 = (given m).W c := by rw [hg3]; unfold Pipeline.Dat.before; rw [if_pos (fetch0_3 t₀)]; rfl
  subst hx hr hi hw
  unfold Pipeline.Dat.owesAt Pipeline.owesWithin
  icases HO with ⟨%W, %hW, HO⟩
  rw [show (dats m ρ 0 c).owed t₀.castSucc = owing c 0 from rfl]
  ihave Hb2 := (arC_split c) $$ Hb2
  icases Hb2 with Hmyar
  ihave Hb3 := (alC_split c) $$ Hb3
  icases Hb3 with Hmyal
  ihave Hb4 := (arS_split c) $$ Hb4
  icases Hb4 with ⟨Hsar0, Hsar1⟩
  ihave Hb5 := (alS_split c) $$ Hb5
  icases Hb5 with ⟨Hsal0, Hsal1⟩
  ihave Hb6 := (brC_split c) $$ Hb6
  icases Hb6 with Hmybr
  ihave Hb7 := (blC_split c) $$ Hb7
  icases Hb7 with Hmybl
  ihave Hb8 := (brS_split c) $$ Hb8
  icases Hb8 with ⟨Hsbr0, Hsbr1⟩
  ihave Hb9 := (blS_split c) $$ Hb9
  icases Hb9 with ⟨Hsbl0, Hsbl1⟩
  iexists g4; iexists fg; iexists fa
  isplitr; · iexact HR
  isplitr; · iexact HL
  isplitl [Hx]; · iexact Hx
  isplitl [Hrw]; · iexact Hrw
  isplitl [Hidx]; · iexact Hidx
  isplitl [HW]; · iexact HW
  isplitl [Hout]; · iexact Hout
  isplitl [Hg]; · iexact Hg
  isplitl [Hacc]; · iexact Hacc
  isplitl [HO]; · unfold owesAny; iexists W; iexact HO
  isplitl [Hsar0]; · iexact Hsar0
  isplitl [Hsar1]; · iexact Hsar1
  isplitl [Hsal0]; · iexact Hsal0
  isplitl [Hsal1]; · iexact Hsal1
  isplitl [Hsbr0]; · iexact Hsbr0
  isplitl [Hsbr1]; · iexact Hsbr1
  isplitl [Hsbl0]; · iexact Hsbl0
  isplitl [Hsbl1]; · iexact Hsbl1
  isplitl [Htb0]; · iexact Htb0
  isplitl [Hmyar]; · iexact Hmyar
  isplitl [Htb1]; · iexact Htb1
  isplitl [Hmyal]; · iexact Hmyal
  isplitl [Htb2]; · iexact Htb2
  isplitl [Hmybr]; · iexact Hmybr
  isplitl [Htb3]; · iexact Htb3
  isplitl [Hmybl]; · iexact Hmybl
  isplitl [Hcb]; · iexact Hcb
  isplitl [Hpb]; · iexact Hpb
  isplitl [Htr13]; · iexact Htr13
  isplitl [Hc13]; · iexact Hc13
  isplitl [Hp13]; · iexact Hp13
  isplitl [Htr14]; · iexact Htr14
  isplitl [Hc14]; · iexact Hc14
  isplitl [Hp14]; · iexact Hp14
  isplitl [Htr15]; · iexact Htr15
  isplitl [Hc15]; · iexact Hc15
  isplitl [Hp15]; · iexact Hp15
  isplitl [Hts5r0]; · iexact Hts5r0
  isplitl [Hts5r1]; · iexact Hts5r1
  isplitl [Hp5]; · iexact Hp5
  isplitl [Hts6r0]; · iexact Hts6r0
  isplitl [Hp6]; · iexact Hp6
  isplitl [Htr16]; · iexact Htr16
  isplitl [Hc16]; · iexact Hc16
  isplitl [Hp16]; · iexact Hp16
  isplitl [Htr17]; · iexact Htr17
  isplitl [Hc17]; · iexact Hc17
  isplitl [Hp17]; · iexact Hp17
  isplitl [Htr18]; · iexact Htr18
  isplitl [Hc18]; · iexact Hc18
  isplitl [Hp18]; · iexact Hp18
  isplitl [Hts7r0]; · iexact Hts7r0
  isplitl [Hts7r1]; · iexact Hts7r1
  isplitl [Hp7]; · iexact Hp7
  isplitl [Hts8r0]; · iexact Hts8r0
  isplitl [Hp8]; · iexact Hp8
  isplitl [Htr19]; · iexact Htr19
  isplitl [Hc19]; · iexact Hc19
  isplitl [Hp19]; · iexact Hp19
  isplitl [Htr20]; · iexact Htr20
  isplitl [Hc20]; · iexact Hc20
  isplitl [Hp20]; · iexact Hp20
  isplitl [Htr21]; · iexact Htr21
  isplitl [Hc21]; · iexact Hc21
  isplitl [Hp21]; · iexact Hp21
  isplitl [Hts9r0]; · iexact Hts9r0
  isplitl [Hts9r1]; · iexact Hts9r1
  isplitl [Hp9]; · iexact Hp9
  isplitl [Hts10r0]; · iexact Hts10r0
  isplitl [Hp10]; · iexact Hp10
  isplitl [Htr22]; · iexact Htr22
  isplitl [Hc22]; · iexact Hc22
  isplitl [Hp22]; · iexact Hp22
  isplitl [Htr23]; · iexact Htr23
  isplitl [Hc23]; · iexact Hc23
  isplitl [Hp23]; · iexact Hp23
  isplitl [Htr24]; · iexact Htr24
  isplitl [Hc24]; · iexact Hc24
  isplitl [Hp24]; · iexact Hp24
  isplitl [Hts11r0]; · iexact Hts11r0
  isplitl [Hts11r1]; · iexact Hts11r1
  isplitl [Hp11]; · iexact Hp11
  isplitl [Hts12r0]; · iexact Hts12r0
  iexact Hp12

set_option maxHeartbeats 1600000 in
theorem end_post (c : Dev nD) : bodyEnd (given m) c ⊢ bodyPost m ρ c := by
  unfold bodyEnd bodyPost scratch zeros
  iintro ⟨Hst0, Hst1, Hst2, Hst3, Hst4, Hb0, Hb1, HO, HlarC0, HlalC0, HlarC1, HlalC1, HlarC2, HlalC2, HlbrC0, HlblC0, HlbrC1, HlblC1, HlbrC2, HlblC2, HlarS1, HlarS0, HlalS1, HlalS0, HlbrS1, HlbrS0, HlblS1, HlblS0, Hz0, Hz13, Hz14, Hz15, Hz5, Hz6, Hz16, Hz17, Hz18, Hz7, Hz8, Hz19, Hz20, Hz21, Hz9, Hz10, Hz22, Hz23, Hz24, Hz11, Hz12⟩
  unfold Pipeline.Dat.owesAt Pipeline.owesWithin owesAny
  icases HO with ⟨%W, HO⟩
  ihave HlarC0 := (landAt_some _ _ c _) $$ HlarC0
  ihave HlalC0 := (landAt_some _ _ c _) $$ HlalC0
  ihave HlarC1 := (landAt_some _ _ c _) $$ HlarC1
  ihave HlalC1 := (landAt_some _ _ c _) $$ HlalC1
  ihave HlarC2 := (landAt_some _ _ c _) $$ HlarC2
  ihave HlalC2 := (landAt_some _ _ c _) $$ HlalC2
  ihave HlbrC0 := (landAt_some _ _ c _) $$ HlbrC0
  ihave HlblC0 := (landAt_some _ _ c _) $$ HlblC0
  ihave HlbrC1 := (landAt_some _ _ c _) $$ HlbrC1
  ihave HlblC1 := (landAt_some _ _ c _) $$ HlblC1
  ihave HlbrC2 := (landAt_some _ _ c _) $$ HlbrC2
  ihave HlblC2 := (landAt_some _ _ c _) $$ HlblC2
  ihave Hb2 := (arC_join c) $$ [HlarC0 HlarC1 HlarC2]
  · isplitl [HlarC0]; · iexact HlarC0
    isplitl [HlarC1]; · iexact HlarC1
    iexact HlarC2
  ihave Hb3 := (alC_join c) $$ [HlalC0 HlalC1 HlalC2]
  · isplitl [HlalC0]; · iexact HlalC0
    isplitl [HlalC1]; · iexact HlalC1
    iexact HlalC2
  ihave Hb4 := (arS_join c) $$ [HlarS0 HlarS1]
  · isplitl [HlarS0]; · iexact HlarS0
    iexact HlarS1
  ihave Hb5 := (alS_join c) $$ [HlalS0 HlalS1]
  · isplitl [HlalS0]; · iexact HlalS0
    iexact HlalS1
  ihave Hb6 := (brC_join c) $$ [HlbrC0 HlbrC1 HlbrC2]
  · isplitl [HlbrC0]; · iexact HlbrC0
    isplitl [HlbrC1]; · iexact HlbrC1
    iexact HlbrC2
  ihave Hb7 := (blC_join c) $$ [HlblC0 HlblC1 HlblC2]
  · isplitl [HlblC0]; · iexact HlblC0
    isplitl [HlblC1]; · iexact HlblC1
    iexact HlblC2
  ihave Hb8 := (brS_join c) $$ [HlbrS0 HlbrS1]
  · isplitl [HlbrS0]; · iexact HlbrS0
    iexact HlbrS1
  ihave Hb9 := (blS_join c) $$ [HlblS0 HlblS1]
  · isplitl [HlblS0]; · iexact HlblS0
    iexact HlblS1
  isplitl [Hb0 Hb1 Hb2 Hb3 Hb4 Hb5 Hb6 Hb7 Hb8 Hb9 Hz0 Hz5 Hz6 Hz7 Hz8 Hz9 Hz10 Hz11 Hz12 Hz13 Hz14 Hz15 Hz16 Hz17 Hz18 Hz19 Hz20 Hz21 Hz22 Hz23 Hz24]
  · isplitl [Hb0 Hb1 Hb2 Hb3 Hb4 Hb5 Hb6 Hb7 Hb8 Hb9]
    · isplitl [Hb0]; · iexists _; iexact Hb0
      isplitl [Hb1]; · iexists _; iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      isplitl [Hb8]; · iexact Hb8
      iexact Hb9
    isplitl [Hz0]; · iexact Hz0
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    isplitl [Hz18]; · iexact Hz18
    isplitl [Hz19]; · iexact Hz19
    isplitl [Hz20]; · iexact Hz20
    isplitl [Hz21]; · iexact Hz21
    isplitl [Hz22]; · iexact Hz22
    isplitl [Hz23]; · iexact Hz23
    iexact Hz24
  isplitl [HO]
  · iexists W; isplitr; · ipureintro; exact fun _ _ => Or.inl trivial
    iexact HO
  isplitl [Hst0]
  · iexists _; isplitr; · (ipureintro; rfl)
    iexact Hst0
  isplitl [Hst1]
  · iexists _; isplitr; · (ipureintro; rfl)
    iexact Hst1
  isplitl [Hst2]
  · iexists _; isplitr; · (ipureintro; rfl)
    iexact Hst2
  isplitl [Hst3]
  · iexists _; isplitr; · (ipureintro; rfl)
    iexact Hst3
  iexists _; isplitr; · (ipureintro; rfl)
  iexact Hst4

set_option maxRecDepth 30000 in
/-- The library's obligation for the body on device `c`. -/
theorem body_obligation (c : Dev nD) : Pipeline.BodyObligation (dats (F := F) m ρ 0 c) (defs₀ (F := F)) 𝒱₀ () Set.univ := fun t => by
  rw [fin_N t]
  rw [bigSep_W0, bigSep_W0]
  simp only [owns_whole_eq]
  show bodyPre m ρ c ⊢ runs c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17) (fun _ => bodyPost m ρ c)
  iintro H
  ihave H := (pre_start m ρ c) $$ H
  icases H with ⟨%fo, %fg, %fa, HR, HL, Hs⟩
  iapply (sound_body (given m) c fo fg fa fun _ => bodyPost m ρ c)
  isplitl [HR]; · iexact HR
  isplitl [HL]; · iexact HL
  isplitl [Hs]; · iexact Hs
  iintro H
  iapply (end_post m ρ c); iexact H

/-! ## The side conditions of the launch -/

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owing d 0) c ∗ prngReg c (ρ c) ∗ G' (sent (given m)) c)
      ⊢ |={Set.univ}=> iprop(start m c ∗ emp) := by
  iintro ⟨-, Hlev, Hcr, -, HG⟩
  ihave Hc := (creds (F := F) c) $$ Hcr
  imodintro
  unfold start G'
  icases HG with ⟨HR, Hlin⟩
  isplitl
  · isplitl [HR]; · iexact HR
    isplitl [Hlev]; · iexact Hlev
    isplitl [Hlin]; · iexact Hlin
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scopedRest0_eq]
  unfold scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratch c ∗ semVal (barCell c) 0 ∗ zeros c) from rfl, scopedRest0_eq, ownSems0_eq, unscopedSems0_eq]
  unfold scratch
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_owing c _ 0 (by
        fin_cases w <;> fin_cases s <;> (intro d hd; exact of_decide_eq_true (List.all_eq_true.mp (show ((debts c).drop 0).all (fun d => decide (semLv _ < semLv d.2.1)) = true from rfl) d hd)))
    · show levAts L lv ⊢ MayWait (c : Thread nD τ) _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, over any float values: every weakly fair execution terminates, every device's
    arrays end at the computed contents, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owing d 0) (howed₀ := fun _ => rfl) (howedN := fun _ => rfl)
    (L := L) (lv := lv) (hL := L_of_ne) (hwaits := waits m ρ)
    (G := G (sent (given m))) (G' := G' (sent (given m))) (u₀ := u₀)
    (hu₀ := by
      unfold u₀
      iintro Hu
      ihave H := (ownU_pair _ _) $$ Hu
      icases H with ⟨HP, HX⟩
      imod (fund_ring (sent (given m))) $$ HX with HG
      imodintro
      isplitl [HP] <;> iassumption)
    (hglob := glob (sent (given m)))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input arrays end as they started. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.AllReduce
-- ==== Proof.Group.lean ====
/-
# One device's share of a row, step by step

At each of the four steps of the first phase a device gathers 512 rows of the tokens and of its gates and sums the products
with its eight experts. This module reads each step's gathered rows and its sum at an index.
-/
module

public import proofs.«01_k».proof.Proof.Values
public import Idealize.ShloMosaic.Lib.Pipeline.ValueKit
public import Idealize.ShloMosaic.Lib.Pointwise

@[expose] public section

set_option maxRecDepth 16384

noncomputable section

namespace Cert.AllReduce

open Cert.KernelIdeal Cert.KernelIdeal.Gen
open Idealize.ShloMosaic
open Idealize.ShloMosaic.TcCoe

/-- A load of 64 rows of the tokens, read at an index. -/
theorem load_x {off : Fin 2 → ℕ} (inb : ∀ a, off a + S64x512.size a ≤ S2048x512.size a) (f : FVec Ideal S2048x512 .f32) (a : ℕ)
    (h : off = ![a, 0]) (r : Fin 64) (k : Fin 512) (hb : a + r.val < 2048) :
    (Memref.whole cc0_stg0_0).view.readAt (Elt Ideal) (Rect.unit (s := S2048x512) off S64x512.size inb).toLoadRect f (ix2 r k)
      = f (ix2 ⟨a + r.val, hb⟩ k) := by
  subst h
  exact congrArg f (funext fun
    | ⟨0, _⟩ => Fin.ext (show a + 1 * r.val = a + r.val by omega)
    | ⟨1, _⟩ => Fin.ext (show 0 + 1 * k.val = k.val by omega))

/-- A load of 64 rows of the gates, read at an index. -/
theorem load_g {off : Fin 2 → ℕ} (inb : ∀ a, off a + S64x8.size a ≤ S2048x8.size a) (f : FVec Ideal S2048x8 .f32) (a : ℕ)
    (h : off = ![a, 0]) (r : Fin 64) (k : Fin 8) (hb : a + r.val < 2048) :
    (Memref.whole cc0_scratch0).view.readAt (Elt Ideal) (Rect.unit (s := S2048x8) off S64x8.size inb).toLoadRect f (ix2 r k)
      = f (ix2 ⟨a + r.val, hb⟩ k) := by
  subst h
  exact congrArg f (funext fun
    | ⟨0, _⟩ => Fin.ext (show a + 1 * r.val = a + r.val by omega)
    | ⟨1, _⟩ => Fin.ext (show 0 + 1 * k.val = k.val by omega))

/-- A load of one expert's matrix, read at an index. -/
theorem load_w (j : Fin 8) (inb : ∀ a, (![j.val, 0, 0] : Fin 3 → ℕ) a + S1x512x1024.size a ≤ S8x512x1024.size a) (f : FVec Ideal S8x512x1024 .f32)
    (k : Fin 512) (o : Fin 1024) :
    (Memref.whole cc0_stg3_0).view.readAt (Elt Ideal) (Rect.unit (s := S8x512x1024) ![j.val, 0, 0] S1x512x1024.size inb).toLoadRect f (ix3 0 k o)
      = f (ix3 j k o) :=
  congrArg f (funext fun
    | ⟨0, _⟩ => Fin.ext (show j.val + 1 * 0 = j.val by omega)
    | ⟨1, _⟩ => Fin.ext (show 0 + 1 * k.val = k.val by omega) | ⟨2, _⟩ => Fin.ext (show 0 + 1 * o.val = o.val by omega))

/-- A load of 64 rows of the accumulator, read at an index. -/
theorem load_acc {off : Fin 2 → ℕ} (inb : ∀ a, off a + S64x1024.size a ≤ S512x1024.size a) (f : FVec Ideal S512x1024 .f32) (a : ℕ)
    (h : off = ![a, 0]) (r : Fin 64) (o : Fin 1024) (hb : a + r.val < 512) :
    (Memref.whole cc0_scratch1).view.readAt (Elt Ideal) (Rect.unit (s := S512x1024) off S64x1024.size inb).toLoadRect f (ix2 r o)
      = f (ix2 ⟨a + r.val, hb⟩ o) := by
  subst h
  exact congrArg f (funext fun
    | ⟨0, _⟩ => Fin.ext (show a + 1 * r.val = a + r.val by omega)
    | ⟨1, _⟩ => Fin.ext (show 0 + 1 * o.val = o.val by omega))

/-- The row of the token table that step `s` of device `c` puts at row `r` of its piece `b`: the pieces 0 to 3 are the upper
    half of the block on its way to the right neighbour, one per plane, the pieces 4 to 7 the lower half of the block on its way
    to the left neighbour. -/
def pieceRow (c : Dev nD) (s : Fin 4) (b : Fin 8) (r : Fin 64) : Fin 2048 :=
  ⟨(if b.val < 4 then 512 * b.val + 128 * ((c.val % 4 + 7 - s.val) % 4) else 512 * (b.val - 4) + 128 * ((c.val % 4 + s.val + 1) % 4) + 64) + r.val,
    by have := r.isLt; have := b.isLt; split <;> omega⟩

/-- The row of the token table at row `ρ` of the 512 rows of step `s`. -/
def stepRow (c : Dev nD) (s : Fin 4) (ρ : Fin 512) : Fin 2048 :=
  pieceRow c s ⟨ρ.val / 64, by have := ρ.isLt; omega⟩ ⟨ρ.val % 64, by omega⟩

/-- Eight pieces of 64 rows of tokens, one below the other, read at a row: row `ρ mod 64` of piece `ρ / 64`. -/
theorem stack_tokens {p0 p1 p2 p3 p4 p5 p6 p7 : FVec Ideal S64x512 .f32} (f : Fin 8 → Fin 64 → Fin 512 → EReal)
    (h0 : ∀ r k, p0 (ix2 r k) = f 0 r k)
    (h1 : ∀ r k, p1 (ix2 r k) = f 1 r k)
    (h2 : ∀ r k, p2 (ix2 r k) = f 2 r k)
    (h3 : ∀ r k, p3 (ix2 r k) = f 3 r k)
    (h4 : ∀ r k, p4 (ix2 r k) = f 4 r k)
    (h5 : ∀ r k, p5 (ix2 r k) = f 5 r k)
    (h6 : ∀ r k, p6 (ix2 r k) = f 6 r k)
    (h7 : ∀ r k, p7 (ix2 r k) = f 7 r k)
    (ρ : Fin 512) (k : Fin 512) :
    concatenate S512x512 0 [⟨S64x512, p0⟩, ⟨S64x512, p1⟩, ⟨S64x512, p2⟩, ⟨S64x512, p3⟩, ⟨S64x512, p4⟩, ⟨S64x512, p5⟩, ⟨S64x512, p6⟩, ⟨S64x512, p7⟩] Facts₀.concatenates_S64x512_S64x512_S64x512_S64x512_S64x512_S64x512_S64x512_S64x512_S512x512_d0 (ix2 ρ k)
      = f ⟨ρ.val / 64, by have := ρ.isLt; omega⟩ ⟨ρ.val % 64, by omega⟩ k := by
  have hρ := ρ.isLt
  pointwise [h0, h1, h2, h3, h4, h5, h6, h7]
  split_ifs <;> exact congrArg₂ (fun b r => f b r k) (Fin.ext (by simp only [Fin.isValue, Fin.val_ofNat]; omega)) (Fin.ext (by dsimp only; omega))

/-- Eight pieces of 64 rows of gates, one below the other, read at a row: row `ρ mod 64` of piece `ρ / 64`. -/
theorem stack_gates {p0 p1 p2 p3 p4 p5 p6 p7 : FVec Ideal S64x8 .f32} (f : Fin 8 → Fin 64 → Fin 8 → EReal)
    (h0 : ∀ r k, p0 (ix2 r k) = f 0 r k)
    (h1 : ∀ r k, p1 (ix2 r k) = f 1 r k)
    (h2 : ∀ r k, p2 (ix2 r k) = f 2 r k)
    (h3 : ∀ r k, p3 (ix2 r k) = f 3 r k)
    (h4 : ∀ r k, p4 (ix2 r k) = f 4 r k)
    (h5 : ∀ r k, p5 (ix2 r k) = f 5 r k)
    (h6 : ∀ r k, p6 (ix2 r k) = f 6 r k)
    (h7 : ∀ r k, p7 (ix2 r k) = f 7 r k)
    (ρ : Fin 512) (k : Fin 8) :
    concatenate S512x8 0 [⟨S64x8, p0⟩, ⟨S64x8, p1⟩, ⟨S64x8, p2⟩, ⟨S64x8, p3⟩, ⟨S64x8, p4⟩, ⟨S64x8, p5⟩, ⟨S64x8, p6⟩, ⟨S64x8, p7⟩] Facts₀.concatenates_S64x8_S64x8_S64x8_S64x8_S64x8_S64x8_S64x8_S64x8_S512x8_d0 (ix2 ρ k)
      = f ⟨ρ.val / 64, by have := ρ.isLt; omega⟩ ⟨ρ.val % 64, by omega⟩ k := by
  have hρ := ρ.isLt
  pointwise [h0, h1, h2, h3, h4, h5, h6, h7]
  split_ifs <;> exact congrArg₂ (fun b r => f b r k) (Fin.ext (by simp only [Fin.isValue, Fin.val_ofNat]; omega)) (Fin.ext (by dsimp only; omega))

variable (I : Inputs Ideal)

/-- What device `c`'s own experts add to row `i` of the result, at column `o`. -/
def share (c : Dev nD) (i : Fin 2048) (o : Fin 1024) : EReal :=
  ∑ j : Fin 8, ∑ k : Fin 512, I.x c (ix2 i k) * gates I c (ix2 i j) * I.W c (ix3 j k o)

theorem v96_at (c : Dev nD) (r : Fin 64) (k : Fin 512) : v96 I c (ix2 r k) = I.x c (ix2 (pieceRow c 0 0 r) k) := by
  unfold v96 k0_pay4 v95
  pointwise
  exact load_x _ _ _ (k0_off1_eq c 0 0) r k (pieceRow c 0 0 r).isLt
theorem v103_at (c : Dev nD) (r : Fin 64) (k : Fin 512) : v103 I c (ix2 r k) = I.x c (ix2 (pieceRow c 0 1 r) k) := by
  unfold v103 k0_pay5 v102
  pointwise
  exact load_x _ _ _ (k0_off1_eq c 1 0) r k (pieceRow c 0 1 r).isLt
theorem v110_at (c : Dev nD) (r : Fin 64) (k : Fin 512) : v110 I c (ix2 r k) = I.x c (ix2 (pieceRow c 0 2 r) k) := by
  unfold v110 k0_pay6 v109
  pointwise
  exact load_x _ _ _ (k0_off1_eq c 2 0) r k (pieceRow c 0 2 r).isLt
theorem v117_at (c : Dev nD) (r : Fin 64) (k : Fin 512) : v117 I c (ix2 r k) = I.x c (ix2 (pieceRow c 0 3 r) k) := by
  unfold v117 k0_pay7 v116
  pointwise
  exact load_x _ _ _ (k0_off1_eq c 3 0) r k (pieceRow c 0 3 r).isLt
theorem v125_at (c : Dev nD) (r : Fin 64) (k : Fin 512) : v125 I c (ix2 r k) = I.x c (ix2 (pieceRow c 0 4 r) k) := by
  unfold v125 k0_pay8 v124
  pointwise
  exact load_x _ _ _ (k0_off3_eq c 0 0) r k (pieceRow c 0 4 r).isLt
theorem v133_at (c : Dev nD) (r : Fin 64) (k : Fin 512) : v133 I c (ix2 r k) = I.x c (ix2 (pieceRow c 0 5 r) k) := by
  unfold v133 k0_pay9 v132
  pointwise
  exact load_x _ _ _ (k0_off3_eq c 1 0) r k (pieceRow c 0 5 r).isLt
theorem v141_at (c : Dev nD) (r : Fin 64) (k : Fin 512) : v141 I c (ix2 r k) = I.x c (ix2 (pieceRow c 0 6 r) k) := by
  unfold v141 k0_pay10 v140
  pointwise
  exact load_x _ _ _ (k0_off3_eq c 2 0) r k (pieceRow c 0 6 r).isLt
theorem v148_at (c : Dev nD) (r : Fin 64) (k : Fin 512) : v148 I c (ix2 r k) = I.x c (ix2 (pieceRow c 0 7 r) k) := by
  unfold v148
  exact load_x _ _ _ (k0_off3_eq c 3 0) r k (pieceRow c 0 7 r).isLt
/-- The tokens of step 0, read at a row. -/
theorem v152_at (c : Dev nD) (ρ : Fin 512) (k : Fin 512) : v152 I c (ix2 ρ k) = I.x c (ix2 (stepRow c 0 ρ) k) := by
  unfold v152 k0_pay11
  refine stack_tokens (fun b r k => I.x c (ix2 (pieceRow c 0 b r) k)) ?_ ?_ ?_ ?_ ?_ ?_ ?_ ?_ ρ k
  · intro r k; first | exact v96_at I c r k | (pointwise; exact v96_at I c r k)
  · intro r k; first | exact v103_at I c r k | (pointwise; exact v103_at I c r k)
  · intro r k; first | exact v110_at I c r k | (pointwise; exact v110_at I c r k)
  · intro r k; first | exact v117_at I c r k | (pointwise; exact v117_at I c r k)
  · intro r k; first | exact v125_at I c r k | (pointwise; exact v125_at I c r k)
  · intro r k; first | exact v133_at I c r k | (pointwise; exact v133_at I c r k)
  · intro r k; first | exact v141_at I c r k | (pointwise; exact v141_at I c r k)
  · intro r k; first | exact v148_at I c r k | (pointwise; exact v148_at I c r k)

theorem v98_at (c : Dev nD) (r : Fin 64) (k : Fin 8) : v98 I c (ix2 r k) = gates I c (ix2 (pieceRow c 0 0 r) k) := by
  unfold v98
  exact load_g _ _ _ (k0_off2_eq c 0 0) r k (pieceRow c 0 0 r).isLt
theorem v105_at (c : Dev nD) (r : Fin 64) (k : Fin 8) : v105 I c (ix2 r k) = gates I c (ix2 (pieceRow c 0 1 r) k) := by
  unfold v105
  exact load_g _ _ _ (k0_off2_eq c 1 0) r k (pieceRow c 0 1 r).isLt
theorem v112_at (c : Dev nD) (r : Fin 64) (k : Fin 8) : v112 I c (ix2 r k) = gates I c (ix2 (pieceRow c 0 2 r) k) := by
  unfold v112
  exact load_g _ _ _ (k0_off2_eq c 2 0) r k (pieceRow c 0 2 r).isLt
theorem v119_at (c : Dev nD) (r : Fin 64) (k : Fin 8) : v119 I c (ix2 r k) = gates I c (ix2 (pieceRow c 0 3 r) k) := by
  unfold v119
  exact load_g _ _ _ (k0_off2_eq c 3 0) r k (pieceRow c 0 3 r).isLt
theorem v127_at (c : Dev nD) (r : Fin 64) (k : Fin 8) : v127 I c (ix2 r k) = gates I c (ix2 (pieceRow c 0 4 r) k) := by
  unfold v127
  exact load_g _ _ _ (k0_off4_eq c 0 0) r k (pieceRow c 0 4 r).isLt
theorem v135_at (c : Dev nD) (r : Fin 64) (k : Fin 8) : v135 I c (ix2 r k) = gates I c (ix2 (pieceRow c 0 5 r) k) := by
  unfold v135
  exact load_g _ _ _ (k0_off4_eq c 1 0) r k (pieceRow c 0 5 r).isLt
theorem v143_at (c : Dev nD) (r : Fin 64) (k : Fin 8) : v143 I c (ix2 r k) = gates I c (ix2 (pieceRow c 0 6 r) k) := by
  unfold v143
  exact load_g _ _ _ (k0_off4_eq c 2 0) r k (pieceRow c 0 6 r).isLt
theorem v151_at (c : Dev nD) (r : Fin 64) (k : Fin 8) : v151 I c (ix2 r k) = gates I c (ix2 (pieceRow c 0 7 r) k) := by
  unfold v151
  exact load_g _ _ _ (k0_off4_eq c 3 0) r k (pieceRow c 0 7 r).isLt
/-- The gates of step 0, read at a row. -/
theorem v153_at (c : Dev nD) (ρ : Fin 512) (k : Fin 8) : v153 I c (ix2 ρ k) = gates I c (ix2 (stepRow c 0 ρ) k) := by
  unfold v153 k0_pay12
  refine stack_gates (fun b r k => gates I c (ix2 (pieceRow c 0 b r) k)) ?_ ?_ ?_ ?_ ?_ ?_ ?_ ?_ ρ k
  · intro r k; first | exact v98_at I c r k | (pointwise; exact v98_at I c r k)
  · intro r k; first | exact v105_at I c r k | (pointwise; exact v105_at I c r k)
  · intro r k; first | exact v112_at I c r k | (pointwise; exact v112_at I c r k)
  · intro r k; first | exact v119_at I c r k | (pointwise; exact v119_at I c r k)
  · intro r k; first | exact v127_at I c r k | (pointwise; exact v127_at I c r k)
  · intro r k; first | exact v135_at I c r k | (pointwise; exact v135_at I c r k)
  · intro r k; first | exact v143_at I c r k | (pointwise; exact v143_at I c r k)
  · intro r k; first | exact v151_at I c r k | (pointwise; exact v151_at I c r k)

theorem v158_at (c : Dev nD) (k : Fin 512) (o : Fin 1024) : v158 I c (ix3 0 k o) = I.W c (ix3 0 k o) := load_w 0 _ _ k o
theorem v165_at (c : Dev nD) (k : Fin 512) (o : Fin 1024) : v165 I c (ix3 0 k o) = I.W c (ix3 1 k o) := load_w 1 _ _ k o
theorem v172_at (c : Dev nD) (k : Fin 512) (o : Fin 1024) : v172 I c (ix3 0 k o) = I.W c (ix3 2 k o) := load_w 2 _ _ k o
theorem v179_at (c : Dev nD) (k : Fin 512) (o : Fin 1024) : v179 I c (ix3 0 k o) = I.W c (ix3 3 k o) := load_w 3 _ _ k o
theorem v186_at (c : Dev nD) (k : Fin 512) (o : Fin 1024) : v186 I c (ix3 0 k o) = I.W c (ix3 4 k o) := load_w 4 _ _ k o
theorem v193_at (c : Dev nD) (k : Fin 512) (o : Fin 1024) : v193 I c (ix3 0 k o) = I.W c (ix3 5 k o) := load_w 5 _ _ k o
theorem v200_at (c : Dev nD) (k : Fin 512) (o : Fin 1024) : v200 I c (ix3 0 k o) = I.W c (ix3 6 k o) := load_w 6 _ _ k o
theorem v207_at (c : Dev nD) (k : Fin 512) (o : Fin 1024) : v207 I c (ix3 0 k o) = I.W c (ix3 7 k o) := load_w 7 _ _ k o

theorem v252_at (c : Dev nD) (r : Fin 64) (k : Fin 512) : v252 I c (ix2 r k) = I.x c (ix2 (pieceRow c 1 0 r) k) := by
  unfold v252 k0_pay20 v251
  pointwise
  exact load_x _ _ _ (k0_off1_eq c 0 1) r k (pieceRow c 1 0 r).isLt
theorem v259_at (c : Dev nD) (r : Fin 64) (k : Fin 512) : v259 I c (ix2 r k) = I.x c (ix2 (pieceRow c 1 1 r) k) := by
  unfold v259 k0_pay21 v258
  pointwise
  exact load_x _ _ _ (k0_off1_eq c 1 1) r k (pieceRow c 1 1 r).isLt
theorem v266_at (c : Dev nD) (r : Fin 64) (k : Fin 512) : v266 I c (ix2 r k) = I.x c (ix2 (pieceRow c 1 2 r) k) := by
  unfold v266 k0_pay22 v265
  pointwise
  exact load_x _ _ _ (k0_off1_eq c 2 1) r k (pieceRow c 1 2 r).isLt
theorem v273_at (c : Dev nD) (r : Fin 64) (k : Fin 512) : v273 I c (ix2 r k) = I.x c (ix2 (pieceRow c 1 3 r) k) := by
  unfold v273 k0_pay23 v272
  pointwise
  exact load_x _ _ _ (k0_off1_eq c 3 1) r k (pieceRow c 1 3 r).isLt
theorem v281_at (c : Dev nD) (r : Fin 64) (k : Fin 512) : v281 I c (ix2 r k) = I.x c (ix2 (pieceRow c 1 4 r) k) := by
  unfold v281 k0_pay24 v280
  pointwise
  exact load_x _ _ _ (k0_off3_eq c 0 1) r k (pieceRow c 1 4 r).isLt
theorem v288_at (c : Dev nD) (r : Fin 64) (k : Fin 512) : v288 I c (ix2 r k) = I.x c (ix2 (pieceRow c 1 5 r) k) := by
  unfold v288
  exact load_x _ _ _ (k0_off3_eq c 1 1) r k (pieceRow c 1 5 r).isLt
theorem v296_at (c : Dev nD) (r : Fin 64) (k : Fin 512) : v296 I c (ix2 r k) = I.x c (ix2 (pieceRow c 1 6 r) k) := by
  unfold v296
  exact load_x _ _ _ (k0_off3_eq c 2 1) r k (pieceRow c 1 6 r).isLt
theorem v304_at (c : Dev nD) (r : Fin 64) (k : Fin 512) : v304 I c (ix2 r k) = I.x c (ix2 (pieceRow c 1 7 r) k) := by
  unfold v304
  exact load_x _ _ _ (k0_off3_eq c 3 1) r k (pieceRow c 1 7 r).isLt
/-- The tokens of step 1, read at a row. -/
theorem v308_at (c : Dev nD) (ρ : Fin 512) (k : Fin 512) : v308 I c (ix2 ρ k) = I.x c (ix2 (stepRow c 1 ρ) k) := by
  unfold v308 k0_pay25
  refine stack_tokens (fun b r k => I.x c (ix2 (pieceRow c 1 b r) k)) ?_ ?_ ?_ ?_ ?_ ?_ ?_ ?_ ρ k
  · intro r k; first | exact v252_at I c r k | (pointwise; exact v252_at I c r k)
  · intro r k; first | exact v259_at I c r k | (pointwise; exact v259_at I c r k)
  · intro r k; first | exact v266_at I c r k | (pointwise; exact v266_at I c r k)
  · intro r k; first | exact v273_at I c r k | (pointwise; exact v273_at I c r k)
  · intro r k; first | exact v281_at I c r k | (pointwise; exact v281_at I c r k)
  · intro r k; first | exact v288_at I c r k | (pointwise; exact v288_at I c r k)
  · intro r k; first | exact v296_at I c r k | (pointwise; exact v296_at I c r k)
  · intro r k; first | exact v304_at I c r k | (pointwise; exact v304_at I c r k)

theorem v254_at (c : Dev nD) (r : Fin 64) (k : Fin 8) : v254 I c (ix2 r k) = gates I c (ix2 (pieceRow c 1 0 r) k) := by
  unfold v254
  exact load_g _ _ _ (k0_off2_eq c 0 1) r k (pieceRow c 1 0 r).isLt
theorem v261_at (c : Dev nD) (r : Fin 64) (k : Fin 8) : v261 I c (ix2 r k) = gates I c (ix2 (pieceRow c 1 1 r) k) := by
  unfold v261
  exact load_g _ _ _ (k0_off2_eq c 1 1) r k (pieceRow c 1 1 r).isLt
theorem v268_at (c : Dev nD) (r : Fin 64) (k : Fin 8) : v268 I c (ix2 r k) = gates I c (ix2 (pieceRow c 1 2 r) k) := by
  unfold v268
  exact load_g _ _ _ (k0_off2_eq c 2 1) r k (pieceRow c 1 2 r).isLt
theorem v275_at (c : Dev nD) (r : Fin 64) (k : Fin 8) : v275 I c (ix2 r k) = gates I c (ix2 (pieceRow c 1 3 r) k) := by
  unfold v275
  exact load_g _ _ _ (k0_off2_eq c 3 1) r k (pieceRow c 1 3 r).isLt
theorem v283_at (c : Dev nD) (r : Fin 64) (k : Fin 8) : v283 I c (ix2 r k) = gates I c (ix2 (pieceRow c 1 4 r) k) := by
  unfold v283
  exact load_g _ _ _ (k0_off4_eq c 0 1) r k (pieceRow c 1 4 r).isLt
theorem v291_at (c : Dev nD) (r : Fin 64) (k : Fin 8) : v291 I c (ix2 r k) = gates I c (ix2 (pieceRow c 1 5 r) k) := by
  unfold v291
  exact load_g _ _ _ (k0_off4_eq c 1 1) r k (pieceRow c 1 5 r).isLt
theorem v299_at (c : Dev nD) (r : Fin 64) (k : Fin 8) : v299 I c (ix2 r k) = gates I c (ix2 (pieceRow c 1 6 r) k) := by
  unfold v299
  exact load_g _ _ _ (k0_off4_eq c 2 1) r k (pieceRow c 1 6 r).isLt
theorem v307_at (c : Dev nD) (r : Fin 64) (k : Fin 8) : v307 I c (ix2 r k) = gates I c (ix2 (pieceRow c 1 7 r) k) := by
  unfold v307
  exact load_g _ _ _ (k0_off4_eq c 3 1) r k (pieceRow c 1 7 r).isLt
/-- The gates of step 1, read at a row. -/
theorem v309_at (c : Dev nD) (ρ : Fin 512) (k : Fin 8) : v309 I c (ix2 ρ k) = gates I c (ix2 (stepRow c 1 ρ) k) := by
  unfold v309 k0_pay26
  refine stack_gates (fun b r k => gates I c (ix2 (pieceRow c 1 b r) k)) ?_ ?_ ?_ ?_ ?_ ?_ ?_ ?_ ρ k
  · intro r k; first | exact v254_at I c r k | (pointwise; exact v254_at I c r k)
  · intro r k; first | exact v261_at I c r k | (pointwise; exact v261_at I c r k)
  · intro r k; first | exact v268_at I c r k | (pointwise; exact v268_at I c r k)
  · intro r k; first | exact v275_at I c r k | (pointwise; exact v275_at I c r k)
  · intro r k; first | exact v283_at I c r k | (pointwise; exact v283_at I c r k)
  · intro r k; first | exact v291_at I c r k | (pointwise; exact v291_at I c r k)
  · intro r k; first | exact v299_at I c r k | (pointwise; exact v299_at I c r k)
  · intro r k; first | exact v307_at I c r k | (pointwise; exact v307_at I c r k)

theorem v314_at (c : Dev nD) (k : Fin 512) (o : Fin 1024) : v314 I c (ix3 0 k o) = I.W c (ix3 0 k o) := load_w 0 _ _ k o
theorem v321_at (c : Dev nD) (k : Fin 512) (o : Fin 1024) : v321 I c (ix3 0 k o) = I.W c (ix3 1 k o) := load_w 1 _ _ k o
theorem v328_at (c : Dev nD) (k : Fin 512) (o : Fin 1024) : v328 I c (ix3 0 k o) = I.W c (ix3 2 k o) := load_w 2 _ _ k o
theorem v335_at (c : Dev nD) (k : Fin 512) (o : Fin 1024) : v335 I c (ix3 0 k o) = I.W c (ix3 3 k o) := load_w 3 _ _ k o
theorem v342_at (c : Dev nD) (k : Fin 512) (o : Fin 1024) : v342 I c (ix3 0 k o) = I.W c (ix3 4 k o) := load_w 4 _ _ k o
theorem v349_at (c : Dev nD) (k : Fin 512) (o : Fin 1024) : v349 I c (ix3 0 k o) = I.W c (ix3 5 k o) := load_w 5 _ _ k o
theorem v356_at (c : Dev nD) (k : Fin 512) (o : Fin 1024) : v356 I c (ix3 0 k o) = I.W c (ix3 6 k o) := load_w 6 _ _ k o
theorem v363_at (c : Dev nD) (k : Fin 512) (o : Fin 1024) : v363 I c (ix3 0 k o) = I.W c (ix3 7 k o) := load_w 7 _ _ k o

theorem v432_at (c : Dev nD) (r : Fin 64) (k : Fin 512) : v432 I c (ix2 r k) = I.x c (ix2 (pieceRow c 2 0 r) k) := by
  unfold v432 k0_pay38 v431
  pointwise
  exact load_x _ _ _ (k0_off1_eq c 0 2) r k (pieceRow c 2 0 r).isLt
theorem v439_at (c : Dev nD) (r : Fin 64) (k : Fin 512) : v439 I c (ix2 r k) = I.x c (ix2 (pieceRow c 2 1 r) k) := by
  unfold v439 k0_pay39 v438
  pointwise
  exact load_x _ _ _ (k0_off1_eq c 1 2) r k (pieceRow c 2 1 r).isLt
theorem v446_at (c : Dev nD) (r : Fin 64) (k : Fin 512) : v446 I c (ix2 r k) = I.x c (ix2 (pieceRow c 2 2 r) k) := by
  unfold v446 k0_pay40 v445
  pointwise
  exact load_x _ _ _ (k0_off1_eq c 2 2) r k (pieceRow c 2 2 r).isLt
theorem v453_at (c : Dev nD) (r : Fin 64) (k : Fin 512) : v453 I c (ix2 r k) = I.x c (ix2 (pieceRow c 2 3 r) k) := by
  unfold v453 k0_pay41 v452
  pointwise
  exact load_x _ _ _ (k0_off1_eq c 3 2) r k (pieceRow c 2 3 r).isLt
theorem v460_at (c : Dev nD) (r : Fin 64) (k : Fin 512) : v460 I c (ix2 r k) = I.x c (ix2 (pieceRow c 2 4 r) k) := by
  unfold v460
  exact load_x _ _ _ (k0_off3_eq c 0 2) r k (pieceRow c 2 4 r).isLt
theorem v468_at (c : Dev nD) (r : Fin 64) (k : Fin 512) : v468 I c (ix2 r k) = I.x c (ix2 (pieceRow c 2 5 r) k) := by
  unfold v468
  exact load_x _ _ _ (k0_off3_eq c 1 2) r k (pieceRow c 2 5 r).isLt
theorem v476_at (c : Dev nD) (r : Fin 64) (k : Fin 512) : v476 I c (ix2 r k) = I.x c (ix2 (pieceRow c 2 6 r) k) := by
  unfold v476
  exact load_x _ _ _ (k0_off3_eq c 2 2) r k (pieceRow c 2 6 r).isLt
theorem v484_at (c : Dev nD) (r : Fin 64) (k : Fin 512) : v484 I c (ix2 r k) = I.x c (ix2 (pieceRow c 2 7 r) k) := by
  unfold v484
  exact load_x _ _ _ (k0_off3_eq c 3 2) r k (pieceRow c 2 7 r).isLt
/-- The tokens of step 2, read at a row. -/
theorem v488_at (c : Dev nD) (ρ : Fin 512) (k : Fin 512) : v488 I c (ix2 ρ k) = I.x c (ix2 (stepRow c 2 ρ) k) := by
  unfold v488 k0_pay42
  refine stack_tokens (fun b r k => I.x c (ix2 (pieceRow c 2 b r) k)) ?_ ?_ ?_ ?_ ?_ ?_ ?_ ?_ ρ k
  · intro r k; first | exact v432_at I c r k | (pointwise; exact v432_at I c r k)
  · intro r k; first | exact v439_at I c r k | (pointwise; exact v439_at I c r k)
  · intro r k; first | exact v446_at I c r k | (pointwise; exact v446_at I c r k)
  · intro r k; first | exact v453_at I c r k | (pointwise; exact v453_at I c r k)
  · intro r k; first | exact v460_at I c r k | (pointwise; exact v460_at I c r k)
  · intro r k; first | exact v468_at I c r k | (pointwise; exact v468_at I c r k)
  · intro r k; first | exact v476_at I c r k | (pointwise; exact v476_at I c r k)
  · intro r k; first | exact v484_at I c r k | (pointwise; exact v484_at I c r k)

theorem v434_at (c : Dev nD) (r : Fin 64) (k : Fin 8) : v434 I c (ix2 r k) = gates I c (ix2 (pieceRow c 2 0 r) k) := by
  unfold v434
  exact load_g _ _ _ (k0_off2_eq c 0 2) r k (pieceRow c 2 0 r).isLt
theorem v441_at (c : Dev nD) (r : Fin 64) (k : Fin 8) : v441 I c (ix2 r k) = gates I c (ix2 (pieceRow c 2 1 r) k) := by
  unfold v441
  exact load_g _ _ _ (k0_off2_eq c 1 2) r k (pieceRow c 2 1 r).isLt
theorem v448_at (c : Dev nD) (r : Fin 64) (k : Fin 8) : v448 I c (ix2 r k) = gates I c (ix2 (pieceRow c 2 2 r) k) := by
  unfold v448
  exact load_g _ _ _ (k0_off2_eq c 2 2) r k (pieceRow c 2 2 r).isLt
theorem v455_at (c : Dev nD) (r : Fin 64) (k : Fin 8) : v455 I c (ix2 r k) = gates I c (ix2 (pieceRow c 2 3 r) k) := by
  unfold v455
  exact load_g _ _ _ (k0_off2_eq c 3 2) r k (pieceRow c 2 3 r).isLt
theorem v463_at (c : Dev nD) (r : Fin 64) (k : Fin 8) : v463 I c (ix2 r k) = gates I c (ix2 (pieceRow c 2 4 r) k) := by
  unfold v463
  exact load_g _ _ _ (k0_off4_eq c 0 2) r k (pieceRow c 2 4 r).isLt
theorem v471_at (c : Dev nD) (r : Fin 64) (k : Fin 8) : v471 I c (ix2 r k) = gates I c (ix2 (pieceRow c 2 5 r) k) := by
  unfold v471
  exact load_g _ _ _ (k0_off4_eq c 1 2) r k (pieceRow c 2 5 r).isLt
theorem v479_at (c : Dev nD) (r : Fin 64) (k : Fin 8) : v479 I c (ix2 r k) = gates I c (ix2 (pieceRow c 2 6 r) k) := by
  unfold v479
  exact load_g _ _ _ (k0_off4_eq c 2 2) r k (pieceRow c 2 6 r).isLt
theorem v487_at (c : Dev nD) (r : Fin 64) (k : Fin 8) : v487 I c (ix2 r k) = gates I c (ix2 (pieceRow c 2 7 r) k) := by
  unfold v487
  exact load_g _ _ _ (k0_off4_eq c 3 2) r k (pieceRow c 2 7 r).isLt
/-- The gates of step 2, read at a row. -/
theorem v489_at (c : Dev nD) (ρ : Fin 512) (k : Fin 8) : v489 I c (ix2 ρ k) = gates I c (ix2 (stepRow c 2 ρ) k) := by
  unfold v489 k0_pay43
  refine stack_gates (fun b r k => gates I c (ix2 (pieceRow c 2 b r) k)) ?_ ?_ ?_ ?_ ?_ ?_ ?_ ?_ ρ k
  · intro r k; first | exact v434_at I c r k | (pointwise; exact v434_at I c r k)
  · intro r k; first | exact v441_at I c r k | (pointwise; exact v441_at I c r k)
  · intro r k; first | exact v448_at I c r k | (pointwise; exact v448_at I c r k)
  · intro r k; first | exact v455_at I c r k | (pointwise; exact v455_at I c r k)
  · intro r k; first | exact v463_at I c r k | (pointwise; exact v463_at I c r k)
  · intro r k; first | exact v471_at I c r k | (pointwise; exact v471_at I c r k)
  · intro r k; first | exact v479_at I c r k | (pointwise; exact v479_at I c r k)
  · intro r k; first | exact v487_at I c r k | (pointwise; exact v487_at I c r k)

theorem v494_at (c : Dev nD) (k : Fin 512) (o : Fin 1024) : v494 I c (ix3 0 k o) = I.W c (ix3 0 k o) := load_w 0 _ _ k o
theorem v501_at (c : Dev nD) (k : Fin 512) (o : Fin 1024) : v501 I c (ix3 0 k o) = I.W c (ix3 1 k o) := load_w 1 _ _ k o
theorem v508_at (c : Dev nD) (k : Fin 512) (o : Fin 1024) : v508 I c (ix3 0 k o) = I.W c (ix3 2 k o) := load_w 2 _ _ k o
theorem v515_at (c : Dev nD) (k : Fin 512) (o : Fin 1024) : v515 I c (ix3 0 k o) = I.W c (ix3 3 k o) := load_w 3 _ _ k o
theorem v522_at (c : Dev nD) (k : Fin 512) (o : Fin 1024) : v522 I c (ix3 0 k o) = I.W c (ix3 4 k o) := load_w 4 _ _ k o
theorem v529_at (c : Dev nD) (k : Fin 512) (o : Fin 1024) : v529 I c (ix3 0 k o) = I.W c (ix3 5 k o) := load_w 5 _ _ k o
theorem v536_at (c : Dev nD) (k : Fin 512) (o : Fin 1024) : v536 I c (ix3 0 k o) = I.W c (ix3 6 k o) := load_w 6 _ _ k o
theorem v543_at (c : Dev nD) (k : Fin 512) (o : Fin 1024) : v543 I c (ix3 0 k o) = I.W c (ix3 7 k o) := load_w 7 _ _ k o

theorem v624_at (c : Dev nD) (r : Fin 64) (k : Fin 512) : v624 I c (ix2 r k) = I.x c (ix2 (pieceRow c 3 0 r) k) := by
  unfold v624 k0_pay53 v623
  pointwise
  exact load_x _ _ _ (k0_off1_eq c 0 3) r k (pieceRow c 3 0 r).isLt
theorem v631_at (c : Dev nD) (r : Fin 64) (k : Fin 512) : v631 I c (ix2 r k) = I.x c (ix2 (pieceRow c 3 1 r) k) := by
  unfold v631 k0_pay54 v630
  pointwise
  exact load_x _ _ _ (k0_off1_eq c 1 3) r k (pieceRow c 3 1 r).isLt
theorem v638_at (c : Dev nD) (r : Fin 64) (k : Fin 512) : v638 I c (ix2 r k) = I.x c (ix2 (pieceRow c 3 2 r) k) := by
  unfold v638 k0_pay55 v637
  pointwise
  exact load_x _ _ _ (k0_off1_eq c 2 3) r k (pieceRow c 3 2 r).isLt
theorem v645_at (c : Dev nD) (r : Fin 64) (k : Fin 512) : v645 I c (ix2 r k) = I.x c (ix2 (pieceRow c 3 3 r) k) := by
  unfold v645 k0_pay56 v644
  pointwise
  exact load_x _ _ _ (k0_off1_eq c 3 3) r k (pieceRow c 3 3 r).isLt
theorem v653_at (c : Dev nD) (r : Fin 64) (k : Fin 512) : v653 I c (ix2 r k) = I.x c (ix2 (pieceRow c 3 4 r) k) := by
  unfold v653 k0_pay57 v652
  pointwise
  exact load_x _ _ _ (k0_off3_eq c 0 3) r k (pieceRow c 3 4 r).isLt
theorem v660_at (c : Dev nD) (r : Fin 64) (k : Fin 512) : v660 I c (ix2 r k) = I.x c (ix2 (pieceRow c 3 5 r) k) := by
  unfold v660
  exact load_x _ _ _ (k0_off3_eq c 1 3) r k (pieceRow c 3 5 r).isLt
theorem v668_at (c : Dev nD) (r : Fin 64) (k : Fin 512) : v668 I c (ix2 r k) = I.x c (ix2 (pieceRow c 3 6 r) k) := by
  unfold v668
  exact load_x _ _ _ (k0_off3_eq c 2 3) r k (pieceRow c 3 6 r).isLt
theorem v676_at (c : Dev nD) (r : Fin 64) (k : Fin 512) : v676 I c (ix2 r k) = I.x c (ix2 (pieceRow c 3 7 r) k) := by
  unfold v676
  exact load_x _ _ _ (k0_off3_eq c 3 3) r k (pieceRow c 3 7 r).isLt
/-- The tokens of step 3, read at a row. -/
theorem v680_at (c : Dev nD) (ρ : Fin 512) (k : Fin 512) : v680 I c (ix2 ρ k) = I.x c (ix2 (stepRow c 3 ρ) k) := by
  unfold v680 k0_pay58
  refine stack_tokens (fun b r k => I.x c (ix2 (pieceRow c 3 b r) k)) ?_ ?_ ?_ ?_ ?_ ?_ ?_ ?_ ρ k
  · intro r k; first | exact v624_at I c r k | (pointwise; exact v624_at I c r k)
  · intro r k; first | exact v631_at I c r k | (pointwise; exact v631_at I c r k)
  · intro r k; first | exact v638_at I c r k | (pointwise; exact v638_at I c r k)
  · intro r k; first | exact v645_at I c r k | (pointwise; exact v645_at I c r k)
  · intro r k; first | exact v653_at I c r k | (pointwise; exact v653_at I c r k)
  · intro r k; first | exact v660_at I c r k | (pointwise; exact v660_at I c r k)
  · intro r k; first | exact v668_at I c r k | (pointwise; exact v668_at I c r k)
  · intro r k; first | exact v676_at I c r k | (pointwise; exact v676_at I c r k)

theorem v626_at (c : Dev nD) (r : Fin 64) (k : Fin 8) : v626 I c (ix2 r k) = gates I c (ix2 (pieceRow c 3 0 r) k) := by
  unfold v626
  exact load_g _ _ _ (k0_off2_eq c 0 3) r k (pieceRow c 3 0 r).isLt
theorem v633_at (c : Dev nD) (r : Fin 64) (k : Fin 8) : v633 I c (ix2 r k) = gates I c (ix2 (pieceRow c 3 1 r) k) := by
  unfold v633
  exact load_g _ _ _ (k0_off2_eq c 1 3) r k (pieceRow c 3 1 r).isLt
theorem v640_at (c : Dev nD) (r : Fin 64) (k : Fin 8) : v640 I c (ix2 r k) = gates I c (ix2 (pieceRow c 3 2 r) k) := by
  unfold v640
  exact load_g _ _ _ (k0_off2_eq c 2 3) r k (pieceRow c 3 2 r).isLt
theorem v647_at (c : Dev nD) (r : Fin 64) (k : Fin 8) : v647 I c (ix2 r k) = gates I c (ix2 (pieceRow c 3 3 r) k) := by
  unfold v647
  exact load_g _ _ _ (k0_off2_eq c 3 3) r k (pieceRow c 3 3 r).isLt
theorem v655_at (c : Dev nD) (r : Fin 64) (k : Fin 8) : v655 I c (ix2 r k) = gates I c (ix2 (pieceRow c 3 4 r) k) := by
  unfold v655
  exact load_g _ _ _ (k0_off4_eq c 0 3) r k (pieceRow c 3 4 r).isLt
theorem v663_at (c : Dev nD) (r : Fin 64) (k : Fin 8) : v663 I c (ix2 r k) = gates I c (ix2 (pieceRow c 3 5 r) k) := by
  unfold v663
  exact load_g _ _ _ (k0_off4_eq c 1 3) r k (pieceRow c 3 5 r).isLt
theorem v671_at (c : Dev nD) (r : Fin 64) (k : Fin 8) : v671 I c (ix2 r k) = gates I c (ix2 (pieceRow c 3 6 r) k) := by
  unfold v671
  exact load_g _ _ _ (k0_off4_eq c 2 3) r k (pieceRow c 3 6 r).isLt
theorem v679_at (c : Dev nD) (r : Fin 64) (k : Fin 8) : v679 I c (ix2 r k) = gates I c (ix2 (pieceRow c 3 7 r) k) := by
  unfold v679
  exact load_g _ _ _ (k0_off4_eq c 3 3) r k (pieceRow c 3 7 r).isLt
/-- The gates of step 3, read at a row. -/
theorem v681_at (c : Dev nD) (ρ : Fin 512) (k : Fin 8) : v681 I c (ix2 ρ k) = gates I c (ix2 (stepRow c 3 ρ) k) := by
  unfold v681 k0_pay59
  refine stack_gates (fun b r k => gates I c (ix2 (pieceRow c 3 b r) k)) ?_ ?_ ?_ ?_ ?_ ?_ ?_ ?_ ρ k
  · intro r k; first | exact v626_at I c r k | (pointwise; exact v626_at I c r k)
  · intro r k; first | exact v633_at I c r k | (pointwise; exact v633_at I c r k)
  · intro r k; first | exact v640_at I c r k | (pointwise; exact v640_at I c r k)
  · intro r k; first | exact v647_at I c r k | (pointwise; exact v647_at I c r k)
  · intro r k; first | exact v655_at I c r k | (pointwise; exact v655_at I c r k)
  · intro r k; first | exact v663_at I c r k | (pointwise; exact v663_at I c r k)
  · intro r k; first | exact v671_at I c r k | (pointwise; exact v671_at I c r k)
  · intro r k; first | exact v679_at I c r k | (pointwise; exact v679_at I c r k)

theorem v686_at (c : Dev nD) (k : Fin 512) (o : Fin 1024) : v686 I c (ix3 0 k o) = I.W c (ix3 0 k o) := load_w 0 _ _ k o
theorem v693_at (c : Dev nD) (k : Fin 512) (o : Fin 1024) : v693 I c (ix3 0 k o) = I.W c (ix3 1 k o) := load_w 1 _ _ k o
theorem v700_at (c : Dev nD) (k : Fin 512) (o : Fin 1024) : v700 I c (ix3 0 k o) = I.W c (ix3 2 k o) := load_w 2 _ _ k o
theorem v707_at (c : Dev nD) (k : Fin 512) (o : Fin 1024) : v707 I c (ix3 0 k o) = I.W c (ix3 3 k o) := load_w 3 _ _ k o
theorem v714_at (c : Dev nD) (k : Fin 512) (o : Fin 1024) : v714 I c (ix3 0 k o) = I.W c (ix3 4 k o) := load_w 4 _ _ k o
theorem v721_at (c : Dev nD) (k : Fin 512) (o : Fin 1024) : v721 I c (ix3 0 k o) = I.W c (ix3 5 k o) := load_w 5 _ _ k o
theorem v728_at (c : Dev nD) (k : Fin 512) (o : Fin 1024) : v728 I c (ix3 0 k o) = I.W c (ix3 6 k o) := load_w 6 _ _ k o
theorem v735_at (c : Dev nD) (k : Fin 512) (o : Fin 1024) : v735 I c (ix3 0 k o) = I.W c (ix3 7 k o) := load_w 7 _ _ k o

set_option maxHeartbeats 4000000 in
/-- The 512 sums of step 0, read at an index. -/
theorem sum0 (c : Dev nD) (ρ : Fin 512) (o : Fin 1024) :
    k0_pay16 (v152 I c) (v153 I c) (v175 I c) (v178 I c) (v180 I c) (cst_94 (F := Ideal)) (v186 I c) (v193 I c) (v200 I c) (v207 I c) (ix2 ρ o) = share I c (stepRow c 0 ρ) o := by
  have hX : k0_pay11 (v96 I c) (v103 I c) (v110 I c) (v117 I c) (v125 I c) (v133 I c) (v141 I c) (v148 I c) = v152 I c := rfl
  have hG : k0_pay12 (v98 I c) (v105 I c) (v112 I c) (v119 I c) (v127 I c) (v135 I c) (v143 I c) (v151 I c) = v153 I c := rfl
  unfold v175 v178 v180 cst_94
  simp only [k0_pay16, k0_pay15, k0_pay14, k0_pay13, hX, hG]
  pointwise
  simp only [v152_at, v153_at, v158_at, v165_at, v172_at, v179_at, v186_at, v193_at, v200_at, v207_at, share, Fin.sum_univ_eight]

set_option maxHeartbeats 4000000 in
/-- The 512 sums of step 1, read at an index. -/
theorem sum1 (c : Dev nD) (ρ : Fin 512) (o : Fin 1024) :
    k0_pay32 (v359 I c) (v362 I c) (v363 I c) (ix2 ρ o) = share I c (stepRow c 1 ρ) o := by
  have hX : k0_pay25 (v252 I c) (v259 I c) (v266 I c) (v273 I c) (v281 I c) (v288 I c) (v296 I c) (v304 I c) = v308 I c := rfl
  have hG : k0_pay26 (v254 I c) (v261 I c) (v268 I c) (v275 I c) (v283 I c) (v291 I c) (v299 I c) (v307 I c) = v309 I c := rfl
  unfold v359 v362 v317 v320 v322 cst_184
  simp only [k0_pay32, k0_pay31, k0_pay30, k0_pay29, k0_pay28, k0_pay27, hX, hG]
  pointwise
  simp only [v308_at, v309_at, v314_at, v321_at, v328_at, v335_at, v342_at, v349_at, v356_at, v363_at, share, Fin.sum_univ_eight]

set_option maxHeartbeats 4000000 in
/-- The 512 sums of step 2, read at an index. -/
theorem sum2 (c : Dev nD) (ρ : Fin 512) (o : Fin 1024) :
    k0_pay47 (v488 I c) (v489 I c) (v532 I c) (v536 I c) (v543 I c) (ix2 ρ o) = share I c (stepRow c 2 ρ) o := by
  have hX : k0_pay42 (v432 I c) (v439 I c) (v446 I c) (v453 I c) (v460 I c) (v468 I c) (v476 I c) (v484 I c) = v488 I c := rfl
  have hG : k0_pay43 (v434 I c) (v441 I c) (v448 I c) (v455 I c) (v463 I c) (v471 I c) (v479 I c) (v487 I c) = v489 I c := rfl
  unfold v532 v490 v493
  simp only [k0_pay47, k0_pay46, k0_pay45, k0_pay44, hX, hG]
  pointwise
  simp only [v488_at, v489_at, v494_at, v501_at, v508_at, v515_at, v522_at, v529_at, v536_at, v543_at, share, Fin.sum_univ_eight]

set_option maxHeartbeats 4000000 in
/-- The 512 sums of step 3, read at an index. -/
theorem sum3 (c : Dev nD) (ρ : Fin 512) (o : Fin 1024) :
    k0_pay65 (v731 I c) (v734 I c) (v735 I c) (ix2 ρ o) = share I c (stepRow c 3 ρ) o := by
  have hX : k0_pay58 (v624 I c) (v631 I c) (v638 I c) (v645 I c) (v653 I c) (v660 I c) (v668 I c) (v676 I c) = v680 I c := rfl
  have hG : k0_pay59 (v626 I c) (v633 I c) (v640 I c) (v647 I c) (v655 I c) (v663 I c) (v671 I c) (v679 I c) = v681 I c := rfl
  unfold v731 v734 v689 v692 v694 cst_457
  simp only [k0_pay65, k0_pay64, k0_pay63, k0_pay62, k0_pay61, k0_pay60, hX, hG]
  pointwise
  simp only [v680_at, v681_at, v686_at, v693_at, v700_at, v707_at, v714_at, v721_at, v728_at, v735_at, share, Fin.sum_univ_eight]

end Cert.AllReduce
-- ==== Proof.RingSum.lean ====
/-
# What the two phases add up

The first phase adds the shares of the four devices of a plane, the second adds the four planes: row `r` of the result block
of device `c` is the sum of all sixteen shares of row `128 * c + r`.
-/
module

public import proofs.«01_k».proof.Proof.Group

@[expose] public section

set_option maxRecDepth 16384

noncomputable section

namespace Cert.AllReduce

open Cert.KernelIdeal Cert.KernelIdeal.Gen
open Idealize.ShloMosaic
open Idealize.ShloMosaic.TcCoe

variable (I : Inputs Ideal)

/-- Row `ρ` of the upper half of step `s`. -/
def upRow (c : Dev nD) (s : Fin 4) (ρ : Fin 256) : Fin 2048 :=
  ⟨512 * (ρ.val / 64) + 128 * ((c.val % 4 + 7 - s.val) % 4) + ρ.val % 64, by have := ρ.isLt; omega⟩

/-- Row `ρ` of the lower half of step `s`. -/
def downRow (c : Dev nD) (s : Fin 4) (ρ : Fin 256) : Fin 2048 :=
  ⟨512 * (ρ.val / 64) + 128 * ((c.val % 4 + s.val + 1) % 4) + 64 + ρ.val % 64, by have := ρ.isLt; omega⟩

theorem stepRow_up (c : Dev nD) (s : Fin 4) (ρ : Fin 256) (h : ρ.val < 512) : stepRow c s ⟨ρ.val, h⟩ = upRow c s ρ := by
  have := ρ.isLt
  refine Fin.ext ?_
  unfold stepRow pieceRow upRow
  dsimp only
  rw [if_pos (by omega)]

theorem stepRow_down (c : Dev nD) (s : Fin 4) (ρ : Fin 256) (h : 256 + ρ.val < 512) : stepRow c s ⟨256 + ρ.val, h⟩ = downRow c s ρ := by
  have := ρ.isLt
  refine Fin.ext ?_
  unfold stepRow pieceRow downRow
  dsimp only
  rw [if_neg (by omega)]
  omega

theorem aL_val (c : Dev nD) : (aL c).val = 4 * (c.val / 4) + (c.val + 3) % 4 := rfl
theorem aR_val (c : Dev nD) : (aR c).val = 4 * (c.val / 4) + (c.val + 1) % 4 := rfl

theorem upRow_aL (c : Dev nD) (s s' : Fin 4) (h : s'.val = s.val + 1) (ρ : Fin 256) : upRow (aL c) s ρ = upRow c s' ρ := by
  refine Fin.ext ?_
  unfold upRow
  have := s.isLt; have := s'.isLt
  dsimp only
  rw [aL_val]
  omega

theorem downRow_aR (c : Dev nD) (s s' : Fin 4) (h : s'.val = s.val + 1) (ρ : Fin 256) : downRow (aR c) s ρ = downRow c s' ρ := by
  refine Fin.ext ?_
  unfold downRow
  have := s.isLt; have := s'.isLt
  dsimp only
  rw [aR_val]
  omega

theorem sar0_at (c : Dev nD) (ρ : Fin 256) (o : Fin 1024) : sar0 I c (ix3 0 ρ o) = share I c (upRow c 0 ρ) o := by
  unfold sar0 k0_pay17
  pointwise
  rw [sum0]
  exact congrArg (share I c · o) (stepRow_up c 0 ρ _)

theorem sal0_at (c : Dev nD) (ρ : Fin 256) (o : Fin 1024) : sal0 I c (ix3 0 ρ o) = share I c (downRow c 0 ρ) o := by
  unfold sal0 v217 k0_pay19 k0_pay18
  pointwise
  rw [sum0]
  exact congrArg (share I c · o) (stepRow_down c 0 ρ _)

theorem sar1_at (c : Dev nD) (ρ : Fin 256) (o : Fin 1024) :
    sar1 I c (ix3 0 ρ o) = share I c (upRow c 1 ρ) o + share I (aL c) (upRow c 1 ρ) o := by
  unfold sar1 v380 v377 k0_pay36 k0_pay34
  pointwise
  rw [sum1, sar0_at, upRow_aL c 0 1 rfl, stepRow_up]

theorem sal1_at (c : Dev nD) (ρ : Fin 256) (o : Fin 1024) :
    sal1 I c (ix3 0 ρ o) = share I c (downRow c 1 ρ) o + share I (aR c) (downRow c 1 ρ) o := by
  unfold sal1 v368 v390 v389 k0_pay37 k0_pay35 k0_pay33
  pointwise
  rw [sum1, sal0_at, downRow_aR c 0 1 rfl, stepRow_down]

theorem sar2_at (c : Dev nD) (ρ : Fin 256) (o : Fin 1024) :
    sar2 I c (ix3 0 ρ o) = share I c (upRow c 2 ρ) o + (share I (aL c) (upRow c 2 ρ) o + share I (aL (aL c)) (upRow c 2 ρ) o) := by
  unfold sar2 v560 v557 k0_pay50 k0_pay49
  pointwise
  rw [sum2, sar1_at, upRow_aL c 1 2 rfl, stepRow_up]

theorem sal2_at (c : Dev nD) (ρ : Fin 256) (o : Fin 1024) :
    sal2 I c (ix3 0 ρ o) = share I c (downRow c 2 ρ) o + (share I (aR c) (downRow c 2 ρ) o + share I (aR (aR c)) (downRow c 2 ρ) o) := by
  unfold sal2 v589 v548 v569 k0_pay52 k0_pay51 k0_pay48
  pointwise
  rw [sum2, sal1_at, downRow_aR c 1 2 rfl, stepRow_down]

/-- The sum of the four shares of the plane of device `c`. -/
def planeSum (c : Dev nD) (i : Fin 2048) (o : Fin 1024) : EReal :=
  share I c i o + (share I (aL c) i o + (share I (aL (aL c)) i o + share I (aL (aL (aL c))) i o))

/-- Going round a plane to the right meets the same devices. -/
theorem planeSum_right (c : Dev nD) (i : Fin 2048) (o : Fin 1024) :
    share I c i o + (share I (aR c) i o + (share I (aR (aR c)) i o + share I (aR (aR (aR c))) i o)) = planeSum I c i o := by
  have h1 : aR c = aL (aL (aL c)) := Fin.ext (by simp only [aL_val, aR_val]; omega)
  have h2 : aR (aR c) = aL (aL c) := Fin.ext (by simp only [aL_val, aR_val]; omega)
  have h3 : aR (aR (aR c)) = aL c := Fin.ext (by simp only [aL_val, aR_val]; omega)
  rw [h3, h2, h1, planeSum]
  ac_rfl

theorem v752_at (c : Dev nD) (ρ : Fin 256) (o : Fin 1024) : v752 I c (ix2 ρ o) = planeSum I c (upRow c 3 ρ) o := by
  unfold v752 v749 k0_pay67
  pointwise
  rw [sum3, sar2_at, upRow_aL c 2 3 rfl, stepRow_up, planeSum]

theorem pay69_at (c : Dev nD) (ρ : Fin 256) (o : Fin 1024) :
    k0_pay69 (v740 I c) (v762 I c) (ix2 ρ o) = planeSum I c (downRow c 3 ρ) o := by
  unfold v762 v761 v740 k0_pay69 k0_pay68 k0_pay66
  pointwise
  rw [sum3, sal2_at, downRow_aR c 2 3 rfl, stepRow_down]
  exact planeSum_right I c _ o

/-- The row of the table at row `q` of the accumulator. -/
def accRow (c : Dev nD) (q : Fin 512) : Fin 2048 :=
  ⟨512 * (q.val / 128) + 128 * (c.val % 4) + q.val % 128, by have := q.isLt; omega⟩

/-- A vector with 64 rows put over its rows `a` to `a + 63`, read at an index. -/
theorem put_rows {N : ℕ} (x : (⟨2, ![N, 1024]⟩ : Shape).Idx → EReal) (v : EReal) (a : ℕ) (w : FVec Ideal S64x1024 .f32) (q : Fin N) (o : Fin 1024)
    (hin : ∀ h : a ≤ q.val ∧ q.val < a + 64, w (ix2 ⟨q.val - a, by omega⟩ o) = v)
    (hout : ¬(a ≤ q.val ∧ q.val < a + 64) → x (ix2 q o) = v) :
    VecWindow.put (s := ⟨2, ![N, 1024]⟩) x ![a, 0] S64x1024.size w (ix2 q o) = v := by
  unfold VecWindow.put
  by_cases h : a ≤ q.val ∧ q.val < a + 64
  · rw [dif_pos (fun
      | ⟨0, _⟩ => h
      | ⟨1, _⟩ => ⟨Nat.zero_le _, by show o.val < 0 + 1024; have := o.isLt; omega⟩)]
    refine (congrArg w (?_ : _ = ix2 (⟨q.val - a, by omega⟩ : Fin 64) o)).trans (hin h)
    exact funext fun
      | ⟨0, _⟩ => Fin.ext rfl
      | ⟨1, _⟩ => Fin.ext (show o.val - 0 = o.val by omega)
  · rw [dif_neg (fun h' => h (h' 0))]
    exact hout h

/-- The accumulator read at an index. -/
theorem acc_at (c : Dev nD) (q : Fin 512) (o : Fin 1024) : acc I c (ix2 q o) = planeSum I c (accRow c q) o := by
  have hq := q.isLt
  unfold acc k0_pay70 k0_pay71 k0_pay72 k0_pay73 k0_pay74 k0_pay75 k0_pay76 k0_pay77
  have h3 : (3 : Fin 4).val = 3 := rfl
  refine put_rows _ _ _ _ q o (fun h => ?_) (fun h7 => ?_)
  · pointwise
    rw [pay69_at]
    refine congrArg (planeSum I c · o) (Fin.ext ?_)
    simp only [downRow, accRow, h3]
    omega
  refine put_rows _ _ _ _ q o (fun h => ?_) (fun h6 => ?_)
  · pointwise
    rw [v752_at]
    refine congrArg (planeSum I c · o) (Fin.ext ?_)
    simp only [upRow, accRow, h3]
    omega
  refine put_rows _ _ _ _ q o (fun h => ?_) (fun h5 => ?_)
  · pointwise
    rw [pay69_at]
    refine congrArg (planeSum I c · o) (Fin.ext ?_)
    simp only [downRow, accRow, h3]
    omega
  refine put_rows _ _ _ _ q o (fun h => ?_) (fun h4 => ?_)
  · pointwise
    rw [v752_at]
    refine congrArg (planeSum I c · o) (Fin.ext ?_)
    simp only [upRow, accRow, h3]
    omega
  refine put_rows _ _ _ _ q o (fun h => ?_) (fun h3 => ?_)
  · pointwise
    rw [pay69_at]
    refine congrArg (planeSum I c · o) (Fin.ext ?_)
    simp only [downRow, accRow, h3]
    omega
  refine put_rows _ _ _ _ q o (fun h => ?_) (fun h2 => ?_)
  · pointwise
    rw [v752_at]
    refine congrArg (planeSum I c · o) (Fin.ext ?_)
    simp only [upRow, accRow, h3]
    omega
  refine put_rows _ _ _ _ q o (fun h => ?_) (fun h1 => ?_)
  · pointwise
    rw [pay69_at]
    refine congrArg (planeSum I c · o) (Fin.ext ?_)
    simp only [downRow, accRow, h3]
    omega
  refine put_rows _ _ _ _ q o (fun h => ?_) (fun h0 => ?_)
  · pointwise
    rw [v752_at]
    refine congrArg (planeSum I c · o) (Fin.ext ?_)
    simp only [upRow, accRow, h3]
    omega
  exact absurd hq (by omega)

theorem k0_off5_eq : ∀ (d0 : Dev nD) (r : Fin 4), k0_off5 d0 (BitVec.ofNat 32 r.val) = ![128 * ((d0.val / 4 + 7 - r.val) % 4), 0] := by decide +kernel
theorem k0_off6_eq : ∀ (d0 : Dev nD) (r : Fin 4), k0_off6 d0 (BitVec.ofNat 32 r.val) = ![128 * ((d0.val / 4 + r.val + 1) % 4) + 64, 0] := by decide +kernel

/-- The row of the table that hop `s` of the second phase adds at row `r` of the upper half. -/
def lastUp (c : Dev nD) (s : Fin 4) (r : Fin 64) : Fin 2048 :=
  ⟨512 * ((c.val / 4 + 7 - s.val) % 4) + 128 * (c.val % 4) + r.val, by have := r.isLt; omega⟩

/-- The row of the table that hop `s` of the second phase adds at row `r` of the lower half. -/
def lastDown (c : Dev nD) (s : Fin 4) (r : Fin 64) : Fin 2048 :=
  ⟨512 * ((c.val / 4 + s.val + 1) % 4) + 128 * (c.val % 4) + 64 + r.val, by have := r.isLt; omega⟩

theorem bL_val (c : Dev nD) : (bL c).val = (c.val + 12) % 16 := rfl
theorem bR_val (c : Dev nD) : (bR c).val = (c.val + 4) % 16 := rfl

theorem lastUp_bL (c : Dev nD) (s s' : Fin 4) (h : s'.val = s.val + 1) (r : Fin 64) : lastUp (bL c) s r = lastUp c s' r := by
  refine Fin.ext ?_
  unfold lastUp
  have := s.isLt; have := s'.isLt; have hc : c.val < 16 := c.isLt
  dsimp only
  rw [bL_val]
  omega

theorem lastDown_bR (c : Dev nD) (s s' : Fin 4) (h : s'.val = s.val + 1) (r : Fin 64) : lastDown (bR c) s r = lastDown c s' r := by
  refine Fin.ext ?_
  unfold lastDown
  have := s.isLt; have := s'.isLt; have hc : c.val < 16 := c.isLt
  dsimp only
  rw [bR_val]
  omega

/-- A load of the accumulator at hop `s`, upper half. -/
theorem load_up (c : Dev nD) (s : Fin 4) {off : Fin 2 → ℕ} (inb : ∀ a, off a + S64x1024.size a ≤ S512x1024.size a)
    (h : off = ![128 * ((c.val / 4 + 7 - s.val) % 4), 0]) (r : Fin 64) (o : Fin 1024) :
    (Memref.whole cc0_scratch1).view.readAt (Elt Ideal) (Rect.unit (s := S512x1024) off S64x1024.size inb).toLoadRect (acc I c) (ix2 r o)
      = planeSum I c (lastUp c s r) o := by
  have := r.isLt
  rw [load_acc inb (acc I c) _ h r o (by omega), acc_at]
  refine congrArg (planeSum I c · o) (Fin.ext ?_)
  simp only [accRow, lastUp]
  omega

/-- A load of the accumulator at hop `s`, lower half. -/
theorem load_down (c : Dev nD) (s : Fin 4) {off : Fin 2 → ℕ} (inb : ∀ a, off a + S64x1024.size a ≤ S512x1024.size a)
    (h : off = ![128 * ((c.val / 4 + s.val + 1) % 4) + 64, 0]) (r : Fin 64) (o : Fin 1024) :
    (Memref.whole cc0_scratch1).view.readAt (Elt Ideal) (Rect.unit (s := S512x1024) off S64x1024.size inb).toLoadRect (acc I c) (ix2 r o)
      = planeSum I c (lastDown c s r) o := by
  have := r.isLt
  rw [load_acc inb (acc I c) _ h r o (by omega), acc_at]
  refine congrArg (planeSum I c · o) (Fin.ext ?_)
  simp only [accRow, lastDown]
  omega

theorem v806_at (c : Dev nD) (r : Fin 64) (o : Fin 1024) : v806 I c (ix2 r o) = planeSum I c (lastUp c 0 r) o :=
  load_up I c 0 _ (k0_off5_eq c 0) r o
theorem v810_at (c : Dev nD) (r : Fin 64) (o : Fin 1024) : v810 I c (ix2 r o) = planeSum I c (lastDown c 0 r) o :=
  load_down I c 0 _ (k0_off6_eq c 0) r o
theorem v848_at (c : Dev nD) (r : Fin 64) (o : Fin 1024) : v848 I c (ix2 r o) = planeSum I c (lastUp c 1 r) o :=
  load_up I c 1 _ (k0_off5_eq c 1) r o
theorem v852_at (c : Dev nD) (r : Fin 64) (o : Fin 1024) : v852 I c (ix2 r o) = planeSum I c (lastDown c 1 r) o :=
  load_down I c 1 _ (k0_off6_eq c 1) r o
theorem v914_at (c : Dev nD) (r : Fin 64) (o : Fin 1024) : v914 I c (ix2 r o) = planeSum I c (lastUp c 2 r) o :=
  load_up I c 2 _ (k0_off5_eq c 2) r o
theorem v918_at (c : Dev nD) (r : Fin 64) (o : Fin 1024) : v918 I c (ix2 r o) = planeSum I c (lastDown c 2 r) o :=
  load_down I c 2 _ (k0_off6_eq c 2) r o
theorem v992_at (c : Dev nD) (r : Fin 64) (o : Fin 1024) : v992 I c (ix2 r o) = planeSum I c (lastUp c 3 r) o :=
  load_up I c 3 _ (k0_off5_eq c 3) r o
theorem v996_at (c : Dev nD) (r : Fin 64) (o : Fin 1024) : v996 I c (ix2 r o) = planeSum I c (lastDown c 3 r) o :=
  load_down I c 3 _ (k0_off6_eq c 3) r o

theorem sbr0_at (c : Dev nD) (r : Fin 64) (o : Fin 1024) : sbr0 I c (ix3 0 r o) = planeSum I c (lastUp c 0 r) o := by
  unfold sbr0 k0_pay78
  pointwise
  rw [v806_at]

theorem sbl0_at (c : Dev nD) (r : Fin 64) (o : Fin 1024) : sbl0 I c (ix3 0 r o) = planeSum I c (lastDown c 0 r) o := by
  unfold sbl0 k0_pay79
  pointwise
  rw [v810_at]

theorem sbr1_at (c : Dev nD) (r : Fin 64) (o : Fin 1024) :
    sbr1 I c (ix3 0 r o) = planeSum I c (lastUp c 1 r) o + planeSum I (bL c) (lastUp c 1 r) o := by
  unfold sbr1 v861 k0_pay80
  pointwise
  rw [v848_at, sbr0_at, lastUp_bL c 0 1 rfl]

theorem sbl1_at (c : Dev nD) (r : Fin 64) (o : Fin 1024) :
    sbl1 I c (ix3 0 r o) = planeSum I c (lastDown c 1 r) o + planeSum I (bR c) (lastDown c 1 r) o := by
  unfold sbl1 v873 k0_pay81
  pointwise
  rw [v852_at, sbl0_at, lastDown_bR c 0 1 rfl]

theorem sbr2_at (c : Dev nD) (r : Fin 64) (o : Fin 1024) :
    sbr2 I c (ix3 0 r o) = planeSum I c (lastUp c 2 r) o + (planeSum I (bL c) (lastUp c 2 r) o + planeSum I (bL (bL c)) (lastUp c 2 r) o) := by
  unfold sbr2 v930 v927 k0_pay84 k0_pay82
  pointwise
  rw [v914_at, sbr1_at, lastUp_bL c 1 2 rfl]

theorem sbl2_at (c : Dev nD) (r : Fin 64) (o : Fin 1024) :
    sbl2 I c (ix3 0 r o) = planeSum I c (lastDown c 2 r) o + (planeSum I (bR c) (lastDown c 2 r) o + planeSum I (bR (bR c)) (lastDown c 2 r) o) := by
  unfold sbl2 v942 v939 k0_pay85 k0_pay83
  pointwise
  rw [v918_at, sbl1_at, lastDown_bR c 1 2 rfl]

/-- The sum of the shares of all sixteen devices. -/
def total (i : Fin 2048) (o : Fin 1024) : EReal := ∑ d : Dev nD, share I d i o

/-- Round a plane from any of its devices, then round the planes: every device once. -/
theorem around (f : Dev nD → EReal) (c : Dev nD) :
    (f c + (f (aL c) + (f (aL (aL c)) + f (aL (aL (aL c))))))
      + ((f (bL c) + (f (aL (bL c)) + (f (aL (aL (bL c))) + f (aL (aL (aL (bL c)))))))
      + ((f (bL (bL c)) + (f (aL (bL (bL c))) + (f (aL (aL (bL (bL c)))) + f (aL (aL (aL (bL (bL c))))))))
      + (f (bL (bL (bL c))) + (f (aL (bL (bL (bL c)))) + (f (aL (aL (bL (bL (bL c))))) + f (aL (aL (aL (bL (bL (bL c))))))))))) = ∑ d : Dev nD, f d := by
  have l : [c, aL c, aL (aL c), aL (aL (aL c)), bL c, aL (bL c), aL (aL (bL c)), aL (aL (aL (bL c))),
      bL (bL c), aL (bL (bL c)), aL (aL (bL (bL c))), aL (aL (aL (bL (bL c)))),
      bL (bL (bL c)), aL (bL (bL (bL c))), aL (aL (bL (bL (bL c)))), aL (aL (aL (bL (bL (bL c)))))].Perm (List.finRange 16) := by
    revert c; decide
  have e := (l.map f).sum_eq
  rw [Fin.sum_univ_def]
  refine Eq.trans ?_ e
  simp only [List.map_cons, List.map_nil, List.sum_cons, List.sum_nil, add_zero]
  ac_rfl

theorem planes_left (c : Dev nD) (i : Fin 2048) (o : Fin 1024) :
    planeSum I c i o + (planeSum I (bL c) i o + (planeSum I (bL (bL c)) i o + planeSum I (bL (bL (bL c))) i o)) = total I i o :=
  around (share I · i o) c

theorem planes_right (c : Dev nD) (i : Fin 2048) (o : Fin 1024) :
    planeSum I c i o + (planeSum I (bR c) i o + (planeSum I (bR (bR c)) i o + planeSum I (bR (bR (bR c))) i o)) = total I i o := by
  have h1 : bR c = bL (bL (bL c)) := by revert c; decide
  have h2 : bR (bR c) = bL (bL c) := by revert c; decide
  have h3 : bR (bR (bR c)) = bL c := by revert c; decide
  rw [h3, h2, h1, ← planes_left I c]
  ac_rfl

/-- The row of the table at row `r` of the result block of device `c`. -/
def outRow (c : Dev nD) (r : Fin 128) : Fin 2048 := ⟨128 * c.val + r.val, by have := r.isLt; have hc : c.val < 16 := c.isLt; omega⟩

/-- The result block of device `c`: rows `128 * c` to `128 * c + 127` of the sum of all shares. -/
theorem out_at (c : Dev nD) (r : Fin 128) (o : Fin 1024) : out I c (ix2 r o) = total I (outRow c r) o := by
  have hr := r.isLt
  have hc : c.val < 16 := c.isLt
  unfold out k0_pay86 k0_pay87 v1005 v1017
  have h3 : (3 : Fin 4).val = 3 := rfl
  refine put_rows _ _ _ _ r o (fun h => ?_) (fun h1 => ?_)
  · pointwise
    rw [v996_at, sbl2_at, lastDown_bR c 2 3 rfl, planes_right]
    refine congrArg (total I · o) (Fin.ext ?_)
    simp only [lastDown, outRow, h3]
    omega
  refine put_rows _ _ _ _ r o (fun h => ?_) (fun h0 => ?_)
  · pointwise
    rw [v992_at, sbr2_at, lastUp_bL c 2 3 rfl, planes_left]
    refine congrArg (total I · o) (Fin.ext ?_)
    simp only [lastUp, outRow, h3]
    omega
  exact absurd hr (by omega)

end Cert.AllReduce
-- ==== Proof.Routed.lean ====
/-
# The mixture's formula

A token's softmax weights, and the mixture of its two experts with those weights renormalised.
-/
module

public import Idealize.ShloMosaic.Lib.Pipeline.ValueKit
public import Idealize.ShloMosaic.Lib.Pointwise

@[expose] public section

set_option maxRecDepth 16384

noncomputable section

namespace Cert.AllReduce

open Idealize.ShloMosaic

/-- Tables of the sizes this problem uses, over the extended reals. -/
abbrev Tokens := (⟨2, ![2048, 512]⟩ : Shape).Idx → EReal
abbrev Router := (⟨2, ![512, 128]⟩ : Shape).Idx → EReal
abbrev Experts := (⟨3, ![128, 512, 1024]⟩ : Shape).Idx → EReal

/-- Token `i`'s score for expert `e`. -/
def score (x : Tokens) (rw : Router) (i : Fin 2048) (e : Fin 128) : EReal := ∑ k : Fin 512, x (ix2 i k) * rw (ix2 k e)

/-- Token `i`'s greatest score. -/
def top (x : Tokens) (rw : Router) (i : Fin 2048) : EReal :=
  Finset.fold max (Ideal.ofBits FTy.f32 4286578688#32) (fun e => score x rw i e) Finset.univ

/-- Token `i`'s softmax weight for expert `e`. -/
def prob (x : Tokens) (rw : Router) (i : Fin 2048) (e : Fin 128) : EReal :=
  Ideal.div (Ideal.exp (score x rw i e - top x rw i)) (∑ e', Ideal.exp (score x rw i e' - top x rw i))

/-- What expert `e` makes of token `i`, at column `o`. -/
def expertOut (x : Tokens) (W : Experts) (i : Fin 2048) (e : Fin 128) (o : Fin 1024) : EReal :=
  ∑ k : Fin 512, x (ix2 i k) * W (ix3 e k o)

/-- The mixture of experts `e₀` and `e₁` for token `i`, at column `o`. -/
def mixture (x : Tokens) (rw : Router) (W : Experts) (i : Fin 2048) (e₀ e₁ : Fin 128) (o : Fin 1024) : EReal :=
  Ideal.div (prob x rw i e₀) (prob x rw i e₀ + prob x rw i e₁) * expertOut x W i e₀ o
    + Ideal.div (prob x rw i e₁) (prob x rw i e₀ + prob x rw i e₁) * expertOut x W i e₁ o

end Cert.AllReduce
-- ==== Proof.Mixture.lean ====
/-
# Spreading the two experts over all of them

With real tokens and a real router every softmax weight is a positive real, so a token's gate is a real number that is not negative.
Gating every expert, with the gate nought at all but two, is then the mixture of those two.
-/
module

public import proofs.«01_k».proof.Proof.Routed

@[expose] public section

set_option maxRecDepth 16384

noncomputable section

namespace Cert.AllReduce

open Idealize.ShloMosaic

/-- A positive real number among the extended reals. -/
def Positive (a : EReal) : Prop := ∃ r : ℝ, 0 < r ∧ a = (r : EReal)

/-- Neither infinity. -/
def IsReal (a : EReal) : Prop := ∃ r : ℝ, a = (r : EReal)

theorem isReal_of {a : EReal} (hb : a ≠ ⊥) (ht : a ≠ ⊤) : IsReal a := ⟨a.toReal, (EReal.coe_toReal ht hb).symm⟩

theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem isReal_sum {ι : Type} [Fintype ι] (f : ι → EReal) (h : ∀ i, IsReal (f i)) : IsReal (∑ i, f i) := by
  choose g hg using h
  exact ⟨∑ i, g i, by rw [← sum_real]; exact Finset.sum_congr rfl fun i _ => hg i⟩

theorem positive_sum {ι : Type} [Fintype ι] [Nonempty ι] (f : ι → EReal) (h : ∀ i, Positive (f i)) : Positive (∑ i, f i) := by
  choose g hp hg using h
  exact ⟨∑ i, g i, Finset.sum_pos (fun i _ => hp i) Finset.univ_nonempty,
    by rw [← sum_real]; exact Finset.sum_congr rfl fun i _ => hg i⟩

theorem IsReal.mul {a b : EReal} (ha : IsReal a) (hb : IsReal b) : IsReal (a * b) := by
  obtain ⟨r, rfl⟩ := ha; obtain ⟨t, rfl⟩ := hb; exact ⟨r * t, (EReal.coe_mul r t).symm⟩

theorem IsReal.sub {a b : EReal} (ha : IsReal a) (hb : IsReal b) : IsReal (a - b) := by
  obtain ⟨r, rfl⟩ := ha; obtain ⟨t, rfl⟩ := hb; exact ⟨r - t, (EReal.coe_sub r t).symm⟩

theorem Positive.add {a b : EReal} (ha : Positive a) (hb : Positive b) : Positive (a + b) := by
  obtain ⟨r, hr, rfl⟩ := ha; obtain ⟨t, ht, rfl⟩ := hb; exact ⟨r + t, add_pos hr ht, (EReal.coe_add r t).symm⟩

theorem div_real (a b : ℝ) (hb : 0 < b) : Ideal.div (a : EReal) (b : EReal) = ((a / b : ℝ) : EReal) := by
  unfold Ideal.div
  rw [if_neg (by exact_mod_cast hb.ne'), div_eq_mul_inv a b, EReal.coe_mul, EReal.coe_inv]

theorem Positive.div {a b : EReal} (ha : Positive a) (hb : Positive b) : Positive (Ideal.div a b) := by
  obtain ⟨r, hr, rfl⟩ := ha; obtain ⟨t, ht, rfl⟩ := hb; exact ⟨r / t, div_pos hr ht, div_real r t ht⟩

theorem exp_positive {a : EReal} (ha : IsReal a) : Positive (Ideal.exp a) := by
  obtain ⟨r, rfl⟩ := ha; exact ⟨Real.exp r, Real.exp_pos r, rfl⟩

theorem bound_bot : Ideal.ofBits FTy.f32 4286578688#32 = (⊥ : EReal) := by
  show Ideal.ieee 8 23 4286578688#32 = ⊥
  unfold Ideal.ieee
  simp

section Weights

variable (x : Tokens) (rw' : Router) (hx : ∀ i, IsReal (x i)) (hr : ∀ i, IsReal (rw' i))
include hx hr

theorem score_real (i : Fin 2048) (e : Fin 128) : IsReal (score x rw' i e) := isReal_sum _ fun k => (hx _).mul (hr _)

theorem top_real (i : Fin 2048) : IsReal (top x rw' i) := by
  refine isReal_of ?_ ?_
  · refine bot_lt_iff_ne_bot.mp ?_
    unfold top
    rw [Finset.lt_fold_max]
    obtain ⟨r, hs⟩ := score_real x rw' hx hr i 0
    exact Or.inr ⟨0, Finset.mem_univ _, by rw [hs]; exact EReal.bot_lt_coe r⟩
  · refine lt_top_iff_ne_top.mp ?_
    unfold top
    rw [Finset.fold_max_lt]
    refine ⟨by rw [bound_bot]; exact bot_lt_top, fun e _ => ?_⟩
    obtain ⟨r, hs⟩ := score_real x rw' hx hr i e
    rw [hs]; exact EReal.coe_lt_top r

theorem weight_positive (i : Fin 2048) (e : Fin 128) : Positive (Ideal.exp (score x rw' i e - top x rw' i)) :=
  exp_positive ((score_real x rw' hx hr i e).sub (top_real x rw' hx hr i))

theorem prob_positive (i : Fin 2048) (e : Fin 128) : Positive (prob x rw' i e) :=
  (weight_positive x rw' hx hr i e).div (positive_sum _ fun e' => weight_positive x rw' hx hr i e')

end Weights

/-- A real factor that is not negative moves out of a sum, whatever the terms. -/
theorem factor_out {ι : Type} (s : Finset ι) (g : EReal) (h0 : 0 ≤ g) (ht : g ≠ ⊤) (f : ι → EReal) :
    ∑ k ∈ s, g * f k = g * ∑ k ∈ s, f k := by
  classical
  induction s using Finset.induction_on with
  | empty => simp
  | insert a s ha ih => rw [Finset.sum_insert ha, Finset.sum_insert ha, ih, EReal.left_distrib_of_nonneg_of_ne_top h0 ht]

/-- The weight of expert `e` when only `e₀` and `e₁` are kept. -/
def kept (p : Fin 128 → EReal) (e₀ e₁ e : Fin 128) : EReal := if e = e₀ ∨ e = e₁ then p e else 0

/-- The gate of expert `e` : its kept weight over all the kept weights. -/
def gate (p : Fin 128 → EReal) (e₀ e₁ e : Fin 128) : EReal := Ideal.div (kept p e₀ e₁ e) (∑ e', kept p e₀ e₁ e')

theorem kept_same (p : Fin 128 → EReal) (e₀ : Fin 128) : ∑ e, kept p e₀ e₀ e = p e₀ := by
  unfold kept
  simp only [or_self]
  exact Finset.sum_ite_eq' Finset.univ e₀ p |>.trans (if_pos (Finset.mem_univ _))

/-- A sum with terms at two places alone. -/
theorem sum_pair (f : Fin 128 → EReal) (e₀ e₁ : Fin 128) (hne : e₀ ≠ e₁) (h : ∀ e, e ≠ e₀ → e ≠ e₁ → f e = 0) :
    ∑ e, f e = f e₀ + f e₁ := by
  rw [← Finset.sum_pair (f := f) hne]
  refine (Finset.sum_subset (Finset.subset_univ _) fun e _ he => ?_).symm
  simp only [Finset.mem_insert, Finset.mem_singleton, not_or] at he
  exact h e he.1 he.2

theorem kept_two (p : Fin 128 → EReal) (e₀ e₁ : Fin 128) (hne : e₀ ≠ e₁) : ∑ e, kept p e₀ e₁ e = p e₀ + p e₁ := by
  rw [sum_pair (kept p e₀ e₁) e₀ e₁ hne fun e h0 h1 => if_neg (by rintro (h | h) <;> contradiction)]
  unfold kept
  rw [if_pos (Or.inl rfl), if_pos (Or.inr rfl)]

theorem kept_positive (p : Fin 128 → EReal) (hp : ∀ e, Positive (p e)) (e₀ e₁ : Fin 128) : Positive (∑ e, kept p e₀ e₁ e) := by
  by_cases h : e₀ = e₁
  · subst h; rw [kept_same]; exact hp _
  · rw [kept_two p e₀ e₁ h]; exact (hp _).add (hp _)

theorem zero_div {s : EReal} (hs : Positive s) : Ideal.div 0 s = 0 := by
  obtain ⟨r, hr, rfl⟩ := hs
  rw [← EReal.coe_zero, div_real 0 r hr, _root_.zero_div]

/-- A gate is a real number that is not negative. -/
theorem gate_real (p : Fin 128 → EReal) (hp : ∀ e, Positive (p e)) (e₀ e₁ e : Fin 128) : ∃ r : ℝ, 0 ≤ r ∧ gate p e₀ e₁ e = (r : EReal) := by
  unfold gate
  by_cases h : e = e₀ ∨ e = e₁
  · obtain ⟨r, hr, hg⟩ := (hp e).div (kept_positive p hp e₀ e₁)
    exact ⟨r, hr.le, by rw [kept, if_pos h]; exact hg⟩
  · exact ⟨0, le_rfl, by rw [kept, if_neg h, zero_div (kept_positive p hp e₀ e₁), EReal.coe_zero]⟩

theorem gate_other (p : Fin 128 → EReal) (hp : ∀ e, Positive (p e)) (e₀ e₁ e : Fin 128) (h0 : e ≠ e₀) (h1 : e ≠ e₁) : gate p e₀ e₁ e = 0 := by
  unfold gate
  rw [kept, if_neg (by rintro (h | h) <;> contradiction), zero_div (kept_positive p hp e₀ e₁)]

/-- Gating every expert is the renormalised mixture of the two that are kept. -/
theorem gated_sum (p y : Fin 128 → EReal) (hp : ∀ e, Positive (p e)) (e₀ e₁ : Fin 128) :
    ∑ e, gate p e₀ e₁ e * y e = Ideal.div (p e₀) (p e₀ + p e₁) * y e₀ + Ideal.div (p e₁) (p e₀ + p e₁) * y e₁ := by
  by_cases h : e₀ = e₁
  · subst h
    rw [Finset.sum_eq_single e₀ (fun e _ he => by rw [gate_other p hp _ _ _ he he, zero_mul]) (fun hn => absurd (Finset.mem_univ _) hn)]
    unfold gate
    rw [kept_same, kept, if_pos (Or.inl rfl)]
    obtain ⟨r, hr, hg⟩ := hp e₀
    rw [hg, ← EReal.coe_add, div_real r r hr, div_real r (r + r) (add_pos hr hr),
      ← EReal.right_distrib_of_nonneg (by exact_mod_cast (div_pos hr (add_pos hr hr)).le) (by exact_mod_cast (div_pos hr (add_pos hr hr)).le),
      ← EReal.coe_add]
    congr 2
    field_simp
  · rw [sum_pair _ e₀ e₁ h fun e h0 h1 => by rw [gate_other p hp _ _ _ h0 h1, zero_mul]]
    unfold gate
    rw [kept_two p e₀ e₁ h, kept, if_pos (Or.inl rfl), kept, if_pos (Or.inr rfl)]

/-- A gated expert: the gate may stand inside the sum over the hidden columns. -/
theorem gated_expert (x : Tokens) (W : Experts) (p : Fin 128 → EReal) (hp : ∀ e, Positive (p e)) (e₀ e₁ e : Fin 128) (i : Fin 2048) (o : Fin 1024) :
    ∑ k : Fin 512, x (ix2 i k) * gate p e₀ e₁ e * W (ix3 e k o) = gate p e₀ e₁ e * expertOut x W i e o := by
  obtain ⟨r, hr, hg⟩ := gate_real p hp e₀ e₁ e
  unfold expertOut
  rw [← factor_out _ _ (by rw [hg]; exact_mod_cast hr) (by rw [hg]; exact EReal.coe_ne_top r)]
  exact Finset.sum_congr rfl fun k _ => by rw [mul_comm (x _), mul_assoc]

/-- Expert `j` of device `d`. -/
def expertAt (d : Fin 16) (j : Fin 8) : Fin 128 := ⟨8 * d.val + j.val, by have := d.isLt; have := j.isLt; omega⟩

/-- The experts, device by device. -/
theorem sum_devices (f : Fin 128 → EReal) : ∑ d : Fin 16, ∑ j : Fin 8, f (expertAt d j) = ∑ e, f e := by
  rw [← Fintype.sum_prod_type']
  refine Fintype.sum_equiv (finProdFinEquiv (m := 16) (n := 8)) _ _ fun a => congrArg f (Fin.ext ?_)
  show 8 * a.1.val + a.2.val = a.2.val + 8 * a.1.val
  omega

/-- The whole sum over devices, their experts and the hidden columns. -/
theorem all_shares (x : Tokens) (rw' : Router) (W : Experts) (hx : ∀ i, IsReal (x i)) (hr : ∀ i, IsReal (rw' i))
    (e₀ e₁ : Fin 128) (i : Fin 2048) (o : Fin 1024) :
    ∑ d : Fin 16, ∑ j : Fin 8, ∑ k : Fin 512, x (ix2 i k) * gate (prob x rw' i) e₀ e₁ (expertAt d j) * W (ix3 (expertAt d j) k o)
      = mixture x rw' W i e₀ e₁ o := by
  have hp := prob_positive x rw' hx hr i
  rw [sum_devices fun e => ∑ k : Fin 512, x (ix2 i k) * gate (prob x rw' i) e₀ e₁ e * W (ix3 e k o)]
  rw [Finset.sum_congr rfl fun e _ => gated_expert x W (prob x rw' i) hp e₀ e₁ e i o]
  exact gated_sum (prob x rw' i) (fun e => expertOut x W i e o) hp e₀ e₁

end Cert.AllReduce
-- ==== Proof.Router.lean ====
/-
# The kernel's gates

Every device softmaxes the scores, keeps the two experts the token names, renormalises, and picks the columns of its own eight experts.
-/
module

public import proofs.«01_k».proof.Proof.RingSum
public import proofs.«01_k».proof.Proof.Mixture

@[expose] public section

set_option maxRecDepth 16384

noncomputable section

namespace Cert.AllReduce

open Cert.KernelIdeal Cert.KernelIdeal.Gen
open Idealize.ShloMosaic
open Idealize.ShloMosaic.TcCoe

variable (I : Inputs Ideal)

/-- The number of an expert of a device, as the kernel computes it. -/
theorem expert_word (c : Dev nD) (j : Fin 8) :
    IntOp.addi (Scalar.muli (v2 c) 8#32) (BitVec.ofNat 32 j.val) = BitVec.ofNat 32 (expertAt c j).val := by
  revert c j; decide +kernel

theorem same_expert (e e' : Fin 128) : IntOp.cmpi .eq (BitVec.ofNat 32 e.val) (BitVec.ofNat 32 e'.val) = if e = e' then 1#1 else 0#1 := by
  by_cases h : e = e'
  · subst h; rw [if_pos rfl]; revert e; decide +kernel
  · rw [if_neg h]
    have hn : BitVec.ofNat 32 e.val ≠ BitVec.ofNat 32 e'.val := fun h' => h (Fin.ext (by
      have := congrArg BitVec.toNat h'
      rwa [BitVec.toNat_ofNat, BitVec.toNat_ofNat, Nat.mod_eq_of_lt (lt_of_lt_of_le e.isLt (by decide)),
        Nat.mod_eq_of_lt (lt_of_lt_of_le e'.isLt (by decide))] at this))
    show BitVec.ofBool (BitVec.ofNat 32 e.val == BitVec.ofNat 32 e'.val) = 0#1
    rw [beq_false_of_ne hn]; rfl

/-- The column picked: one at the device's own expert and nought elsewhere. -/
theorem pick (c : Dev nD) (e : Fin 128) (j : Fin 8) :
    (FloatOps.sitofp FTy.f32 (BitVec.setWidth 32 (IntOp.cmpi .eq (BitVec.ofNat 32 e.val) (IntOp.addi (Scalar.muli (v2 c) 8#32) (BitVec.ofNat 32 j.val)))) : Ideal .f32)
      = if e = expertAt c j then (1 : EReal) else 0 := by
  rw [expert_word, same_expert]
  by_cases h : e = expertAt c j
  · rw [if_pos h, if_pos h]
    show (((BitVec.setWidth 32 1#1).toInt : ℝ) : EReal) = 1
    rw [show (BitVec.setWidth 32 1#1).toInt = 1 from by decide]; norm_num
  · rw [if_neg h, if_neg h]
    show (((BitVec.setWidth 32 0#1).toInt : ℝ) : EReal) = 0
    rw [show (BitVec.setWidth 32 0#1).toInt = 0 from by decide]; norm_num

theorem v43_x (c : Dev nD) : v43 I c = I.x c :=
  funext fun i => congrArg (I.x c) (funext fun
    | ⟨0, _⟩ => Fin.ext (show 0 + 1 * (i 0).val = (i 0).val by omega)
    | ⟨1, _⟩ => Fin.ext (show 0 + 1 * (i 1).val = (i 1).val by omega))

theorem v45_rw (c : Dev nD) : v45 I c = I.rw c :=
  funext fun i => congrArg (I.rw c) (funext fun
    | ⟨0, _⟩ => Fin.ext (show 0 + 1 * (i 0).val = (i 0).val by omega)
    | ⟨1, _⟩ => Fin.ext (show 0 + 1 * (i 1).val = (i 1).val by omega))

theorem v58_idx (c : Dev nD) (i : Fin 2048) : v58 I c (ix2 i 0) = I.idx c (ix2 i 0) :=
  congrArg (I.idx c) (funext fun
    | ⟨0, _⟩ => Fin.ext (show 0 + 1 * i.val = i.val by omega)
    | ⟨1, _⟩ => rfl)

theorem v62_idx (c : Dev nD) (i : Fin 2048) : v62 I c (ix2 i 0) = I.idx c (ix2 i 1) :=
  congrArg (I.idx c) (funext fun
    | ⟨0, _⟩ => Fin.ext (show 0 + 1 * i.val = i.val by omega)
    | ⟨1, _⟩ => rfl)

/-- The softmax. -/
theorem v56_at (c : Dev nD) (i : Fin 2048) (e : Fin 128) : v56 I c (ix2 i e) = prob (I.x c) (I.rw c) i e := by
  unfold v56
  pointwise [k0_pay1]
  rw [v43_x, v45_rw]
  rfl

section Named

variable (c : Dev nD) (i : Fin 2048) (e₀ e₁ : Fin 128)
  (h₀ : I.idx c (ix2 i 0) = BitVec.ofNat 32 e₀.val) (h₁ : I.idx c (ix2 i 1) = BitVec.ofNat 32 e₁.val)
include h₀ h₁

/-- Whether a token names an expert. -/
theorem v66_at (e : Fin 128) : v66 I c (ix2 i e) = if e = e₀ ∨ e = e₁ then 1#1 else 0#1 := by
  unfold v66
  pointwise [k0_pay2]
  rw [v58_idx, v62_idx, h₀, h₁, same_expert, same_expert]
  by_cases a : e = e₀
  · rw [if_pos a, if_pos (Or.inl a)]
    by_cases b : e = e₁
    · rw [if_pos b]; rfl
    · rw [if_neg b]; rfl
  · by_cases b : e = e₁
    · rw [if_neg a, if_pos b, if_pos (Or.inr b)]; rfl
    · rw [if_neg a, if_neg b, if_neg (by rintro (h | h) <;> contradiction)]; rfl

/-- The weight kept of an expert. -/
theorem kept_at (e : Fin 128) :
    Scalar.select (v66 I c (ix2 i e)) (v56 I c (ix2 i e)) 0 = kept (prob (I.x c) (I.rw c) i) e₀ e₁ e := by
  rw [v66_at I c i e₀ e₁ h₀ h₁ e, v56_at, kept]
  by_cases a : e = e₀ ∨ e = e₁
  · rw [if_pos a, if_pos a]; rfl
  · rw [if_neg a, if_neg a]; rfl

/-- The gates of a device's own experts. -/
theorem gates_at (j : Fin 8) : gates I c (ix2 i j) = gate (prob (I.x c) (I.rw c) i) e₀ e₁ (expertAt c j) := by
  unfold gates cst_37
  pointwise [k0_pay3]
  simp only [kept_at I c i e₀ e₁ h₀ h₁, pick]
  rw [Finset.sum_eq_single (expertAt c j)]
  · rw [if_pos rfl, mul_one]; rfl
  · intro e _ he; rw [if_neg he, mul_zero]
  · intro hn; exact absurd (Finset.mem_univ _) hn

end Named

/-- Where all devices hold the same tokens, router and indices, and each its own experts, the sum of all shares is the mixture. -/
theorem total_mixture (X : Tokens) (R : Router) (W : Experts) (hX : ∀ c, I.x c = X) (hR : ∀ c, I.rw c = R)
    (hW : ∀ (c : Dev nD) (j : Fin 8) (k : Fin 512) (o : Fin 1024), I.W c (ix3 j k o) = W (ix3 (expertAt c j) k o))
    (realX : ∀ i, IsReal (X i)) (realR : ∀ i, IsReal (R i)) (i : Fin 2048) (e₀ e₁ : Fin 128)
    (h₀ : ∀ c, I.idx c (ix2 i 0) = BitVec.ofNat 32 e₀.val) (h₁ : ∀ c, I.idx c (ix2 i 1) = BitVec.ofNat 32 e₁.val) (o : Fin 1024) :
    total I i o = mixture X R W i e₀ e₁ o := by
  rw [← all_shares X R W realX realR e₀ e₁ i o]
  unfold total share
  refine Finset.sum_congr rfl fun c _ => Finset.sum_congr rfl fun j _ => Finset.sum_congr rfl fun k _ => ?_
  rw [gates_at I c i e₀ e₁ (h₀ c) (h₁ c), hX, hR, hW]

end Cert.AllReduce
-- ==== Proof.Lookup.lean ====
/-
# The reference's lookups, read at an index

Two gathers: a token's router weight at a named expert, and an expert's matrix.
-/
module

public import proofs.«01_k».proof.Proof.Gen.ReferenceIdeal.Run
public import proofs.«01_k».proof.Proof.Routed
public import Idealize.ShloMosaic.Lib.Pipeline.ValueKit
public import Idealize.ShloMosaic.Lib.Pointwise

@[expose] public section

set_option maxRecDepth 16384

noncomputable section

namespace Cert.AllReduce.Ref

open Cert.ReferenceIdeal Cert.ReferenceIdeal.Gen
open Idealize.ShloMosaic
open Idealize.ShloMosaic.TcCoe

/-- The expert a word names, read signed and clamped. -/
def expertOf (w : BitVec 32) : Fin 128 := ⟨min w.toInt.toNat 127, by omega⟩

theorem lookup_prob {α : Type} (p : S2048x128.Idx → α) (idx : IVec S2048x1x1 32) (i : Fin 2048) :
    Host.gather gather_S2048x128_S2048x1x1_S2048x1_n_1_0_0_1_2_11 p idx (ix2 i 0) = p (ix2 i (expertOf (idx (ix3 i 0 0)))) := by
  set d := gather_S2048x128_S2048x1x1_S2048x1_n_1_0_0_1_2_11 with hd
  refine congrArg p (funext fun a => Fin.ext ?_)
  show d.start (ix2 i 0) idx a + d.batchCoord (ix2 i 0) a + d.offCoord (ix2 i 0) a = _
  match a with
  | ⟨0, _⟩ =>
    have e1 : d.start (ix2 i 0) idx 0 = 0 := d.start_batching _ _ _ (List.mem_singleton.mpr rfl)
    have e2 : d.offCoord (ix2 i 0) 0 = 0 := d.offCoord_eq_zero _ _ (fun h => ((GatherDims.mem_sKept _ _).mp h).2 (List.mem_singleton.mpr rfl))
    have e3 : d.batchCoord (ix2 i 0) 0 = i.val := by
      unfold GatherDims.batchCoord
      rw [dif_pos (show (0 : Fin 2) ∈ d.operandBatchingDims from List.mem_singleton.mpr rfl)]
      rfl
    show d.start (ix2 i 0) idx 0 + d.batchCoord (ix2 i 0) 0 + d.offCoord (ix2 i 0) 0 = i.val
    rw [e1, e2, e3]; omega
  | ⟨1, _⟩ =>
    have e1 : d.batchCoord (ix2 i 0) 1 = 0 := d.batchCoord_eq_zero _ _ (fun h => absurd (List.mem_singleton.mp h) (by decide))
    have e2 : d.offCoord (ix2 i 0) 1 = 0 := d.offCoord_eq_zero _ _ (fun h => ((GatherDims.mem_sKept _ _).mp h).1 (List.mem_singleton.mpr rfl))
    have e3 : d.start (ix2 i 0) idx 1 = (expertOf (idx (ix3 i 0 0))).val := by
      unfold GatherDims.start
      rw [dif_pos (show (1 : Fin 2) ∈ d.startIndexMap from List.mem_singleton.mpr rfl)]
      have hi : d.siIdx (ix2 i 0) ⟨List.idxOf (1 : Fin 2) d.startIndexMap, List.idxOf_lt_length_iff.2 (List.mem_singleton.mpr rfl)⟩ = ix3 i 0 0 := by
        funext b
        match b with
        | ⟨0, _⟩ => rfl
        | ⟨1, _⟩ => rfl
        | ⟨2, _⟩ => rfl
      rw [hi]
      rfl
    show d.start (ix2 i 0) idx 1 + d.batchCoord (ix2 i 0) 1 + d.offCoord (ix2 i 0) 1 = (expertOf (idx (ix3 i 0 0))).val
    rw [e1, e2, e3]; rfl

theorem lookup_expert {α : Type} (w : S128x512x1024.Idx → α) (idx : IVec S2048x1 32) (i : Fin 2048) (k : Fin 512) (o : Fin 1024) :
    Host.gather gather_S128x512x1024_S2048x1_S2048x512x1024_12_0_n_n_0_1_15121024 w idx (ix3 i k o) = w (ix3 (expertOf (idx (ix2 i 0))) k o) := by
  set d := gather_S128x512x1024_S2048x1_S2048x512x1024_12_0_n_n_0_1_15121024 with hd
  refine congrArg w (funext fun a => Fin.ext ?_)
  have eb : ∀ a, d.batchCoord (ix3 i k o) a = 0 := fun a => d.batchCoord_eq_zero _ _ List.not_mem_nil
  show d.start (ix3 i k o) idx a + d.batchCoord (ix3 i k o) a + d.offCoord (ix3 i k o) a = _
  rw [eb]
  match a with
  | ⟨0, _⟩ =>
    have e2 : d.offCoord (ix3 i k o) 0 = 0 := d.offCoord_eq_zero _ _ (fun h => ((GatherDims.mem_sKept _ _).mp h).1 (List.mem_singleton.mpr rfl))
    have e3 : d.start (ix3 i k o) idx 0 = (expertOf (idx (ix2 i 0))).val := by
      unfold GatherDims.start
      rw [dif_pos (show (0 : Fin 3) ∈ d.startIndexMap from List.mem_singleton.mpr rfl)]
      have hi : d.siIdx (ix3 i k o) ⟨List.idxOf (0 : Fin 3) d.startIndexMap, List.idxOf_lt_length_iff.2 (List.mem_singleton.mpr rfl)⟩ = ix2 i 0 := by
        funext b
        match b with
        | ⟨0, _⟩ => rfl
        | ⟨1, _⟩ => rfl
      rw [hi]
      rfl
    show d.start (ix3 i k o) idx 0 + 0 + d.offCoord (ix3 i k o) 0 = (expertOf (idx (ix2 i 0))).val
    rw [e2, e3]; rfl
  | ⟨1, _⟩ =>
    have e3 : d.start (ix3 i k o) idx 1 = 0 := by
      unfold GatherDims.start
      rw [dif_neg (show (1 : Fin 3) ∉ d.startIndexMap from fun h => absurd (List.mem_singleton.mp h) (by decide))]
    have e2 : d.offCoord (ix3 i k o) 1 = k.val := rfl
    show d.start (ix3 i k o) idx 1 + 0 + d.offCoord (ix3 i k o) 1 = k.val
    rw [e2, e3]; omega
  | ⟨2, _⟩ =>
    have e3 : d.start (ix3 i k o) idx 2 = 0 := by
      unfold GatherDims.start
      rw [dif_neg (show (2 : Fin 3) ∉ d.startIndexMap from fun h => absurd (List.mem_singleton.mp h) (by decide))]
    have e2 : d.offCoord (ix3 i k o) 2 = o.val := rfl
    show d.start (ix3 i k o) idx 2 + 0 + d.offCoord (ix3 i k o) 2 = o.val
    rw [e2, e3]; omega

/-- A word that names an expert is not wrapped. -/
theorem wrap_named (e : Fin 128) :
    Scalar.select (IntOp.cmpi .slt (BitVec.ofNat 32 e.val) 0#32) (IntOp.addi (BitVec.ofNat 32 e.val) 128#32) (BitVec.ofNat 32 e.val)
      = BitVec.ofNat 32 e.val := by
  revert e; decide +kernel

theorem expertOf_named (e : Fin 128) : expertOf (BitVec.ofNat 32 e.val) = e := by revert e; decide +kernel

/-- A word that names an expert is in range. -/
theorem inRange_named (e : Fin 128) :
    Finset.fold IntOp.andi (1#1) (fun _ : Fin 1 => IntOp.andi (IntOp.cmpi .sge (BitVec.ofNat 32 e.val) 0#32) (IntOp.cmpi .sle (BitVec.ofNat 32 e.val) 127#32)) Finset.univ
      = 1#1 := by
  revert e; decide +kernel

theorem select_one {α : Type} (a b : α) : Scalar.select (1#1) a b = a := rfl

set_option maxHeartbeats 8000000 in
/-- The reference's result at an index, where the token's two words name experts. -/
theorem ref_at (m : (ℓ : Loc nD τ sig) → Buf (Elt Ideal) ℓ) (c : Dev nD) (i : Fin 2048) (o : Fin 1024) (e₀ e₁ : Fin 128)
    (h₀ : m (c.tc.loc main_arg2) (ix2 i 0) = BitVec.ofNat 32 e₀.val) (h₁ : m (c.tc.loc main_arg2) (ix2 i 1) = BitVec.ofNat 32 e₁.val) :
    Value.res_main_v41 m c (ix2 i o) = mixture (m (c.tc.loc main_arg0)) (m (c.tc.loc main_arg1)) (m (c.tc.loc main_arg3)) i e₀ e₁ o := by
  unfold Value.res_main_v41
  pointwise [lookup_prob, lookup_expert]
  simp only [h₀, h₁, wrap_named, expertOf_named, inRange_named, select_one]
  rfl

end Cert.AllReduce.Ref
-- ==== Proof.Value.lean ====
/-
# The value

What the precondition says of the launch memory, and the two results: block `c` of the reference's result array is what device `c`
ends with.
-/
module

public import proofs.«01_k».proof.Defs
public import proofs.«01_k».proof.Proof.Gen.Pre_finite_router_routed_tokens_KernelIdeal
public import proofs.«01_k».proof.Proof.Launch
public import proofs.«01_k».proof.Proof.Router
public import proofs.«01_k».proof.Proof.Lookup
public import Idealize.ShloMosaic.Lib.ReduceAll

@[expose] public section

set_option maxRecDepth 16384

noncomputable section

namespace Cert.AllReduce

open Cert.KernelIdeal Cert.KernelIdeal.Gen
open Idealize.ShloMosaic
open Idealize.ShloMosaic.TcCoe

/-- A bitwise and that is one. -/
theorem both_one {a b : BitVec 1} (h : IntOp.andi a b = 1#1) : a = 1#1 ∧ b = 1#1 := by revert a b; decide

theorem infinity_top : Ideal.ofBits FTy.f32 0x7F800000#32 = (⊤ : EReal) := by
  show Ideal.ieee 8 23 0x7F800000#32 = ⊤
  unfold Ideal.ieee
  simp

/-- A number whose absolute value is below the infinity is a real. -/
theorem real_of_below (a : EReal) (h : Ideal.cmp .olt (max a (-a)) (Ideal.ofBits FTy.f32 0x7F800000#32) = 1#1) : IsReal a := by
  rw [infinity_top] at h
  have hl : max a (-a) < ⊤ := by
    by_contra hn
    have : Ideal.cmp .olt (max a (-a)) ⊤ = 0#1 := by
      show BitVec.ofBool (decide (max a (-a) < ⊤)) = 0#1
      rw [decide_eq_false hn]; rfl
    rw [this] at h
    exact absurd h (by decide)
  obtain ⟨h1, h2⟩ := max_lt_iff.mp hl
  refine isReal_of (fun hb => ?_) h1.ne
  rw [hb, EReal.neg_bot] at h2
  exact absurd h2 (lt_irrefl _)

/-- A word in range names an expert. -/
theorem named_of_range (w : BitVec 32) (h : IntOp.andi (IntOp.cmpi .sge w 0#32) (IntOp.cmpi .slt w 128#32) = 1#1) :
    ∃ e : Fin 128, w = BitVec.ofNat 32 e.val := by
  obtain ⟨h1, h2⟩ := both_one h
  have key : w.toNat < 128 := by
    have bit : ∀ p : Bool, BitVec.ofBool p = 1#1 → p = true := by decide
    have e1 := bit _ h1
    have e2 := bit _ h2
    simp only [BitVec.sle_eq_decide, BitVec.slt_eq_decide, decide_eq_true_eq, BitVec.toInt_eq_toNat_cond, BitVec.toNat_ofNat,
      Nat.reducePow, Nat.reduceMod] at e1 e2
    omega
  exact ⟨⟨w.toNat, key⟩, BitVec.eq_of_toNat_eq (by rw [BitVec.toNat_ofNat, Nat.mod_eq_of_lt (by omega)])⟩

/-- What the precondition says of a device's arguments. -/
theorem pre_says (m : (ℓ : Loc nD τ sig) → Buf (Elt Ideal) ℓ)
    (h : Cert.Pre_KernelIdeal_finite_router_routed_tokens_KernelIdeal m) (c : Dev nD) :
    (∀ i, IsReal (m ((c : Thread nD τ).loc main_arg0) i)) ∧ (∀ i, IsReal (m ((c : Thread nD τ).loc main_arg1) i))
      ∧ ∀ i, ∃ e : Fin 128, m ((c : Thread nD τ).loc main_arg2) i = BitVec.ofNat 32 e.val := by
  have e := congrFun (h c) (fun a => a.elim0)
  unfold Pre_finite_router_routed_tokens_KernelIdeal.fn at e
  obtain ⟨e1, e2⟩ := both_one e
  obtain ⟨e3, e4⟩ := both_one e1
  exact ⟨fun i => real_of_below _ (Host.reduce_andi_all _ _ _ _ _ e3 i), fun i => real_of_below _ (Host.reduce_andi_all _ _ _ _ _ e4 i),
    fun i => named_of_range _ (Host.reduce_andi_all _ _ _ _ _ e2 i)⟩

section Given

variable (m : (ℓ : Loc nD τ sig) → Buf (Elt Ideal) ℓ) (ρ : Dev nD → PrngReg) (c : Dev nD)

theorem given_x : (given m).x c = m ((c : Thread nD τ).loc main_arg0) :=
  funext fun i => congrArg (m ((c : Thread nD τ).loc main_arg0)) (funext fun
    | ⟨0, _⟩ => Fin.ext (show 0 + 1 * (i 0).val = (i 0).val by omega)
    | ⟨1, _⟩ => Fin.ext (show 0 + 1 * (i 1).val = (i 1).val by omega))

theorem given_rw : (given m).rw c = m ((c : Thread nD τ).loc main_arg1) :=
  funext fun i => congrArg (m ((c : Thread nD τ).loc main_arg1)) (funext fun
    | ⟨0, _⟩ => Fin.ext (show 0 + 1 * (i 0).val = (i 0).val by omega)
    | ⟨1, _⟩ => Fin.ext (show 0 + 1 * (i 1).val = (i 1).val by omega))

theorem given_idx : (given m).idx c = m ((c : Thread nD τ).loc main_arg2) :=
  funext fun i => congrArg (m ((c : Thread nD τ).loc main_arg2)) (funext fun
    | ⟨0, _⟩ => Fin.ext (show 0 + 1 * (i 0).val = (i 0).val by omega)
    | ⟨1, _⟩ => Fin.ext (show 0 + 1 * (i 1).val = (i 1).val by omega))

theorem given_W : (given m).W c = m ((c : Thread nD τ).loc main_arg3) :=
  funext fun i => congrArg (m ((c : Thread nD τ).loc main_arg3)) (funext fun
    | ⟨0, _⟩ => Fin.ext (show 0 + 1 * (i 0).val = (i 0).val by omega)
    | ⟨1, _⟩ => Fin.ext (show 0 + 1 * (i 1).val = (i 1).val by omega)
    | ⟨2, _⟩ => Fin.ext (show 0 + 1 * (i 2).val = (i 2).val by omega))

/-- The result array ends holding what the body leaves. -/
theorem finalA_out : finalA m ρ c 4 = out (given m) c := by
  refine (dats m ρ 0 c).arrAt_eq_of_after_last 4 t0_0 (by decide +kernel) _ fun j => ?_
  blk_simp
  rfl

end Given

/-- Block `c` of the reference's result is what device `c` ends with. -/
theorem result_block (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (hpre : Cert.Pre_KernelIdeal_finite_router_routed_tokens_KernelIdeal m)
    (h0 : ∀ c : Dev nD, m ((c : Thread nD τ).loc main_arg0) = m' ((0 : Dev Cert.ReferenceIdeal.nD).tc.loc Cert.ReferenceIdeal.main_arg0))
    (h1 : ∀ c : Dev nD, m ((c : Thread nD τ).loc main_arg1) = m' ((0 : Dev Cert.ReferenceIdeal.nD).tc.loc Cert.ReferenceIdeal.main_arg1))
    (h2 : ∀ c : Dev nD, m ((c : Thread nD τ).loc main_arg2) = m' ((0 : Dev Cert.ReferenceIdeal.nD).tc.loc Cert.ReferenceIdeal.main_arg2))
    (h3 : ∀ c : Dev nD, m ((c : Thread nD τ).loc main_arg3)
      = Layout.block ⟨3, ![8, 512, 1024]⟩ ⟨3, ![128, 512, 1024]⟩ 0 16 c (m' ((0 : Dev Cert.ReferenceIdeal.nD).tc.loc Cert.ReferenceIdeal.main_arg3)))
    (c : Dev nD) :
    finalA m ρ c 4 = Layout.block ⟨2, ![128, 1024]⟩ ⟨2, ![2048, 1024]⟩ 0 16 c (Cert.ReferenceIdeal.Value.res_main_v41 m' 0) := by
  rw [finalA_out]
  funext j
  obtain ⟨px, pr, pe⟩ := pre_says m hpre c
  have hj : j = ix2 (j 0) (j 1) := funext fun
    | ⟨0, _⟩ => rfl
    | ⟨1, _⟩ => rfl
  obtain ⟨e₀, he₀⟩ := pe (ix2 (outRow c (j 0)) 0)
  obtain ⟨e₁, he₁⟩ := pe (ix2 (outRow c (j 0)) 1)
  rw [h2 c] at he₀ he₁
  have hb : (Layout.block ⟨2, ![128, 1024]⟩ ⟨2, ![2048, 1024]⟩ 0 16 c (Cert.ReferenceIdeal.Value.res_main_v41 m' 0)) j
      = Cert.ReferenceIdeal.Value.res_main_v41 m' 0 (ix2 (outRow c (j 0)) (j 1)) :=
    congrArg (Cert.ReferenceIdeal.Value.res_main_v41 m' 0) (funext fun
      | ⟨0, _⟩ => Fin.ext (show c.val * 128 + (j 0).val = 128 * c.val + (j 0).val by omega)
      | ⟨1, _⟩ => rfl)
  refine Eq.trans ?_ hb.symm
  refine (congrArg (out (given m) c) hj).trans ?_
  refine (out_at (given m) c (j 0) (j 1)).trans ?_
  refine Eq.trans ?_ (Ref.ref_at m' 0 (outRow c (j 0)) (j 1) e₀ e₁ he₀ he₁).symm
  refine total_mixture (given m) _ _ _ (fun d => (given_x m d).trans (h0 d)) (fun d => (given_rw m d).trans (h1 d)) ?_
    (by rw [← h0 c]; exact px) (by rw [← h1 c]; exact pr) _ e₀ e₁ ?_ ?_ _
  · intro d k a b
    rw [given_W, h3 d]
    exact congrArg (m' ((0 : Dev Cert.ReferenceIdeal.nD).tc.loc Cert.ReferenceIdeal.main_arg3)) (funext fun
      | ⟨0, _⟩ => Fin.ext (show d.val * 8 + k.val = 8 * d.val + k.val by omega)
      | ⟨1, _⟩ => rfl
      | ⟨2, _⟩ => rfl)
  · intro d; rw [given_idx, h2 d]; exact he₀
  · intro d; rw [given_idx, h2 d]; exact he₁

end Cert.AllReduce
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite_router_routed_tokens_KernelIdeal
public import proofs.«01_k».proof.Proof.Gen.Pre_finite_router_routed_tokens_ReferenceIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's run over any float values, read at its four argument arrays: they end as they started, and every
    counter reads zero. -/
theorem args_kept {F : FTy → Type} [FloatOps F] (m : (ℓ : Loc Cert.KernelIdeal.nD Cert.KernelIdeal.τ Cert.KernelIdeal.sig) → Buf (Elt F) ℓ)
    (ρ : Dev Cert.KernelIdeal.nD → PrngReg) {r : PUnit × MemSt Cert.KernelIdeal.nD Cert.KernelIdeal.τ Cert.KernelIdeal.sig (Elt F)}
    (h : Cert.AllReduce.QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  ⟨(h c 0).trans (Cert.AllReduce.finalA_in m ρ c 0 rfl), (h c 1).trans (Cert.AllReduce.finalA_in m ρ c 1 rfl),
    (h c 2).trans (Cert.AllReduce.finalA_in m ρ c 2 rfl), (h c 3).trans (Cert.AllReduce.finalA_in m ρ c 3 rfl)⟩

/-- The two prints have one body. -/
theorem same_body {F : FTy → Type} [FloatOps F] : @Cert.Kernel.cc0_body F _ Cert.Kernel.Gen.facts = @Cert.KernelIdeal.cc0_body F _ Cert.KernelIdeal.Gen.facts := rfl

/-- The two prints have one body table. -/
theorem same_defs {F : FTy → Type} [FloatOps F] : Cert.Kernel.defs (F := F) = Cert.KernelIdeal.defs (F := F) := by
  refine congrArg (Pipeline.defs Cert.KernelIdeal.pcfgs) ?_
  unfold Cert.Kernel.defs₀ Cert.KernelIdeal.defs₀
  refine congrArg Defs.onTc ?_
  funext x y
  match x, y with
  | 0, (t, s) =>
    dsimp only
    rw [same_body]

/-- The program as printed: the same run, over machine words. -/
theorem frame_kernel : Cert.quiescent_Kernel := fun m ρ _ =>
  (θ_run Cert.Kernel.defs _ _).mono (fun _ h => ⟨fun c => args_kept m ρ h.1 c, h.2⟩)
    (show θ_run Cert.Kernel.defs (onTc (τ := Cert.Kernel.τ) (Cert.Kernel.main (F := Bits))) ⟨m, fun _ => 0, ρ⟩ (fun r => Cert.AllReduce.QC m ρ r ∧ r.2.sem = fun _ => 0) from
      same_defs (F := Bits) ▸ Cert.AllReduce.run_main (F := Bits) m ρ)

theorem frame_kernelIdeal : Cert.quiescent_KernelIdeal := fun m ρ _ =>
  (θ_run Cert.KernelIdeal.defs _ _).mono (fun _ h => ⟨fun c => args_kept m ρ h.1 c, h.2⟩) (Cert.AllReduce.run_main (F := Ideal) m ρ)

/-- The reference is a straight-line host program that declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals: device `c` ends with block `c` of the reference's result. -/
theorem value : Cert.algebraic_KernelIdeal_ReferenceIdeal_pre_finite_router_routed_tokens_KernelIdeal := fun m ρ m' ρ' hpre hargs =>
  ⟨Cert.ReferenceIdeal.Value.res_main_v41 m' 0,
    (θ_run Cert.KernelIdeal.defs _ _).mono
      (fun _ h c => ⟨(h.1 c 4).trans (Cert.AllReduce.result_block m ρ m' hpre (fun d => (hargs d).1) (fun d => (hargs d).2.1)
        (fun d => (hargs d).2.2.1) (fun d => (hargs d).2.2.2) c), args_kept m ρ h.1 c⟩)
      (Cert.AllReduce.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  Cert.Pre_finite_router_routed_tokens_KernelIdeal.Gen.facts, Cert.Pre_finite_router_routed_tokens_ReferenceIdeal.Gen.facts,
  frame_kernel, frame_kernelIdeal, fun m ρ _ => frame_kernelIdeal m ρ trivial, frame_referenceIdeal,
  fun m ρ _ => frame_referenceIdeal m ρ trivial, trivial, value⟩

end Cert.Proof

end
